-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_some_rows : Cert.Pre_some_rows.Facts] (m : (ℓ : Loc Cert.Kernel5.nD Cert.Kernel5.τ Cert.Kernel5.sig) → Buf (Elt Bits) ℓ) : Prop :=
  ∀ c : Dev Cert.Kernel5.nD,
    (Cert.Pre_some_rows.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4))) = (fun _ => 1#1)

def Pre_Kernel5Ideal [hPre_some_rows : Cert.Pre_some_rows.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_some_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_some_rows [hPre_some_rows : Cert.Pre_some_rows.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_some_rows.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] [hPre_some_rows : Cert.Pre_some_rows.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] [hPre_some_rows : Cert.Pre_some_rows.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_some_rows [hReference5Ideal : Cert.Reference5Ideal.Facts] [hPre_some_rows : Cert.Pre_some_rows.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_some_rows m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "skip" .f32 0xC2DC0000#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_v12) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] [hPre_some_rows : Cert.Pre_some_rows.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v27)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v27) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_some_rows : Cert.Pre_some_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_some_rows := hPre_some_rows)
    ∧ quiescent_Kernel5Ideal (hKernel5Ideal := hKernel5Ideal) (hPre_some_rows := hPre_some_rows)
    ∧ quiescent_Reference5Ideal (hReference5Ideal := hReference5Ideal)
    ∧ quiescent_Reference5Ideal_pre_some_rows (hReference5Ideal := hReference5Ideal) (hPre_some_rows := hPre_some_rows)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_some_rows := hPre_some_rows)
    ∧ preserves_Kernel6_Kernel6Ideal
    ∧ algebraic_Kernel6Ideal_Reference6Ideal (hKernel6Ideal := hKernel6Ideal) (hReference6Ideal := hReference6Ideal)
-- ==== Pre_finite_scores.lean ====
abbrev S8192x6144 : Shape := ⟨2, ![8192, 6144]⟩
abbrev S8192x2048 : Shape := ⟨2, ![8192, 2048]⟩
abbrev S_ : Shape := ⟨0, ![]⟩

class Facts : Prop where
  slices_S8192x6144_S8192x2048_0_3072 : S8192x6144.Slices ![0, 3072] S8192x2048
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x6144 .bf16) : IVec S_ 1 :=
  let main_v0 : FVec F S8192x2048 .bf16 := (extractStridedSlice S8192x2048 ![0, 3072] · slices_S8192x6144_S8192x2048_0_3072) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_c : IVec S_ 1 := constantI S_ 1 1#1
  let main_v5 : IVec S_ 1 := (fun x v => Host.reduce IntOp.andi x v reducesTo_S8192x2048_S_d0_1 h_S_) main_v4 main_c
  main_v5
-- ==== Pre_some_rows.lean ====
abbrev S24576x2048 : Shape := ⟨2, ![24576, 2048]⟩
abbrev S32 : Shape := ⟨1, ![32]⟩
abbrev S4x32x2048x512 : Shape := ⟨4, ![4, 32, 2048, 512]⟩
abbrev S4x32x512x2048 : Shape := ⟨4, ![4, 32, 512, 2048]⟩
abbrev S_ : Shape := ⟨0, ![]⟩
abbrev S1 : Shape := ⟨1, ![1]⟩

class Facts : Prop where
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  slices_S32_S1_31 : S32.Slices ![31] S1
  shapeCasts_S1_S_ : S1.ShapeCasts S_

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_where_2 {F : FTy → Type} [FloatOps F] (arg0 : IVec S_ 1) (arg1 : IVec S_ 32) (arg2 : IVec S_ 32) : IVec S_ 32 :=
  let v0 : IVec S_ 32 := select arg0 arg1 arg2
  v0

def fn_floor_divide_1 {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where_2 (F := F) v7 v8 v1
  v9

def fn {F : FTy → Type} [FloatOps F] (main_arg0 : FVec F S24576x2048 .f32) (main_arg1 : IVec S32 32) (main_arg2 : FVec F S4x32x2048x512 .f32) (main_arg3 : FVec F S4x32x2048x512 .f32) (main_arg4 : FVec F S4x32x512x2048 .f32) : IVec S_ 1 :=
  let main_c : IVec S_ 32 := constantI S_ 32 256#32
  let main_v0 : IVec S32 32 := broadcastInDim S32 ![] bcast_S_S32 main_c
  let main_v1 : IVec S32 32 := addi main_arg1 main_v0
  let main_c_0 : IVec S_ 32 := constantI S_ 32 1#32
  let main_v2 : IVec S32 32 := broadcastInDim S32 ![] bcast_S_S32 main_c_0
  let main_v3 : IVec S32 32 := subi main_v1 main_v2
  let main_c_1 : IVec S_ 32 := constantI S_ 32 256#32
  let main_v4 : IVec S32 32 := fn_floor_divide (F := F) main_v3 main_c_1
  let main_c_2 : IVec S_ 32 := constantI S_ 32 256#32
  let main_v5 : IVec S32 32 := broadcastInDim S32 ![] bcast_S_S32 main_c_2
  let main_v6 : IVec S32 32 := muli main_v4 main_v5
  let main_v7 : IVec S32 32 := fn_cumsum (F := F) main_v6
  let main_v8 : IVec S1 32 := (extractStridedSlice S1 ![31] · slices_S32_S1_31) main_v7
  let main_v9 : IVec S_ 32 := shapeCast S_ main_v8 shapeCasts_S1_S_
  let main_c_3 : IVec S_ 32 := constantI S_ 32 256#32
  let main_v10 : IVec S_ 32 := fn_floor_divide_1 (F := F) main_v9 main_c_3
  let main_c_4 : IVec S_ 32 := constantI S_ 32 0#32
  let main_v11 : IVec S_ 1 := cmpi .sgt main_v10 main_c_4
  main_v11
-- ==== Kernel.lean ====
abbrev S8192x6144 : Shape := ⟨2, ![8192, 6144]⟩
abbrev S256x256 : Shape := ⟨2, ![256, 256]⟩
abbrev S8192x1024 : Shape := ⟨2, ![8192, 1024]⟩
abbrev S256x1024 : Shape := ⟨2, ![256, 1024]⟩
abbrev S8x256x1 : Shape := ⟨3, ![8, 256, 1]⟩
abbrev S256x128 : Shape := ⟨2, ![256, 128]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x6144, .bf16⟩
  | .hbm, ⟨1, _⟩ => ⟨S256x256, .i32⟩
  | .hbm, ⟨2, _⟩ => ⟨S256x256, .i32⟩
  | .hbm, ⟨3, _⟩ => ⟨S256x256, .i1⟩
  | .hbm, ⟨4, _⟩ => ⟨S256x256, .f32⟩
  | .hbm, ⟨5, _⟩ => ⟨S256x256, .bf16⟩
  | .hbm, ⟨6, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S8192x1024, .bf16⟩
  | .local _ .vmem, ⟨3, _⟩ => ⟨S8192x1024, .bf16⟩
  | .local _ .vmem, ⟨4, _⟩ => ⟨S256x256, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | .local _ .vmem, ⟨8, _⟩ => ⟨S8x256x1, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v45 : BitVec 32 := Scalar.muli arg0 c256_i32
  v45
def k0_off1 (i : grid0.Coords) : Fin 2 → Nat :=
  let arg0 : BitVec 32 := BitVec.ofNat 32 (i 0).val
  let c256_i32 : BitVec 32 := 256#32
  let v45 : BitVec 32 := Scalar.muli arg0 c256_i32
  let v46 : BitVec 32 := v45
  let v47 : Index := Scalar.indexCast v46
  let c0_17 : Index := 0#32
  ![v47.toNat, 0]
def k0_off2 (i : grid0.Coords) : Fin 2 → Nat :=
  let arg0 : BitVec 32 := BitVec.ofNat 32 (i 0).val
  let c256_i32 : BitVec 32 := 256#32
  let v45 : BitVec 32 := Scalar.muli arg0 c256_i32
  let v46 : BitVec 32 := v45
  let v98 : Index := Scalar.indexCast v46
  let c128_37 : Index := 128#32
  ![v98.toNat, 128]
def k0_off3 (i : grid0.Coords) : Fin 2 → Nat :=
  let arg0 : BitVec 32 := BitVec.ofNat 32 (i 0).val
  let c256_i32 : BitVec 32 := 256#32
  let v45 : BitVec 32 := Scalar.muli arg0 c256_i32
  let v46 : BitVec 32 := v45
  let v149 : Index := Scalar.indexCast v46
  let c256_55 : Index := 256#32
  ![v149.toNat, 256]
def k0_off4 (i : grid0.Coords) : Fin 2 → Nat :=
  let arg0 : BitVec 32 := BitVec.ofNat 32 (i 0).val
  let c256_i32 : BitVec 32 := 256#32
  let v45 : BitVec 32 := Scalar.muli arg0 c256_i32
  let v46 : BitVec 32 := v45
  let v200 : Index := Scalar.indexCast v46
  let c384_73 : Index := 384#32
  ![v200.toNat, 384]
def k0_off5 (i : grid0.Coords) : Fin 2 → Nat :=
  let arg0 : BitVec 32 := BitVec.ofNat 32 (i 0).val
  let c256_i32 : BitVec 32 := 256#32
  let v45 : BitVec 32 := Scalar.muli arg0 c256_i32
  let v46 : BitVec 32 := v45
  let v251 : Index := Scalar.indexCast v46
  let c512_91 : Index := 512#32
  ![v251.toNat, 512]
def k0_off6 (i : grid0.Coords) : Fin 2 → Nat :=
  let arg0 : BitVec 32 := BitVec.ofNat 32 (i 0).val
  let c256_i32 : BitVec 32 := 256#32
  let v45 : BitVec 32 := Scalar.muli arg0 c256_i32
  let v46 : BitVec 32 := v45
  let v302 : Index := Scalar.indexCast v46
  let c640_109 : Index := 640#32
  ![v302.toNat, 640]
def k0_off7 (i : grid0.Coords) : Fin 2 → Nat :=
  let arg0 : BitVec 32 := BitVec.ofNat 32 (i 0).val
  let c256_i32 : BitVec 32 := 256#32
  let v45 : BitVec 32 := Scalar.muli arg0 c256_i32
  let v46 : BitVec 32 := v45
  let v353 : Index := Scalar.indexCast v46
  let c768_127 : Index := 768#32
  ![v353.toNat, 768]
def k0_off8 (i : grid0.Coords) : Fin 2 → Nat :=
  let arg0 : BitVec 32 := BitVec.ofNat 32 (i 0).val
  let c256_i32 : BitVec 32 := 256#32
  let v45 : BitVec 32 := Scalar.muli arg0 c256_i32
  let v46 : BitVec 32 := v45
  let v404 : Index := Scalar.indexCast v46
  let c896_145 : Index := 896#32
  ![v404.toNat, 896]
def k0_mult2 (arg8 : BitVec 32) : BitVec 32 :=
  let c256_i32_167 : BitVec 32 := 256#32
  let v460 : BitVec 32 := Scalar.muli arg8 c256_i32_167
  v460

def k0_off9 (arg8 : BitVec 32) : Fin 2 → Nat :=
  let c256_i32_167 : BitVec 32 := 256#32
  let v460 : BitVec 32 := Scalar.muli arg8 c256_i32_167
  let v461 : BitVec 32 := v460
  let v462 : Index := Scalar.indexCast v461
  let c0_168 : Index := 0#32
  ![v462.toNat, 0]
def k0_off10 (arg8 : BitVec 32) : Fin 2 → Nat :=
  let c256_i32_167 : BitVec 32 := 256#32
  let v460 : BitVec 32 := Scalar.muli arg8 c256_i32_167
  let v461 : BitVec 32 := v460
  let v512 : Index := Scalar.indexCast v461
  let c128_190 : Index := 128#32
  ![v512.toNat, 128]
def k0_off11 (arg8 : BitVec 32) : Fin 2 → Nat :=
  let c256_i32_167 : BitVec 32 := 256#32
  let v460 : BitVec 32 := Scalar.muli arg8 c256_i32_167
  let v461 : BitVec 32 := v460
  let v562 : Index := Scalar.indexCast v461
  let c256_211 : Index := 256#32
  ![v562.toNat, 256]
def k0_off12 (arg8 : BitVec 32) : Fin 2 → Nat :=
  let c256_i32_167 : BitVec 32 := 256#32
  let v460 : BitVec 32 := Scalar.muli arg8 c256_i32_167
  let v461 : BitVec 32 := v460
  let v612 : Index := Scalar.indexCast v461
  let c384_232 : Index := 384#32
  ![v612.toNat, 384]
def k0_off13 (arg8 : BitVec 32) : Fin 2 → Nat :=
  let c256_i32_167 : BitVec 32 := 256#32
  let v460 : BitVec 32 := Scalar.muli arg8 c256_i32_167
  let v461 : BitVec 32 := v460
  let v662 : Index := Scalar.indexCast v461
  let c512_253 : Index := 512#32
  ![v662.toNat, 512]
def k0_off14 (arg8 : BitVec 32) : Fin 2 → Nat :=
  let c256_i32_167 : BitVec 32 := 256#32
  let v460 : BitVec 32 := Scalar.muli arg8 c256_i32_167
  let v461 : BitVec 32 := v460
  let v712 : Index := Scalar.indexCast v461
  let c640_274 : Index := 640#32
  ![v712.toNat, 640]
def k0_off15 (arg8 : BitVec 32) : Fin 2 → Nat :=
  let c256_i32_167 : BitVec 32 := 256#32
  let v460 : BitVec 32 := Scalar.muli arg8 c256_i32_167
  let v461 : BitVec 32 := v460
  let v762 : Index := Scalar.indexCast v461
  let c768_295 : Index := 768#32
  ![v762.toNat, 768]
def k0_off16 (arg8 : BitVec 32) : Fin 2 → Nat :=
  let c256_i32_167 : BitVec 32 := 256#32
  let v460 : BitVec 32 := Scalar.muli arg8 c256_i32_167
  let v461 : BitVec 32 := v460
  let v812 : Index := Scalar.indexCast v461
  let c896_316 : Index := 896#32
  ![v812.toNat, 896]

def k0_chk1 (arg8 : BitVec 32) : Prop :=
  (256 ∣ (k0_mult2 arg8).toNat) ∧
  (∀ a, (k0_off9 arg8) a + S256x128.size a ≤ S8192x1024.size a) ∧
  (∀ a, (k0_off10 arg8) a + S256x128.size a ≤ S8192x1024.size a) ∧
  (∀ a, (k0_off11 arg8) a + S256x128.size a ≤ S8192x1024.size a) ∧
  (∀ a, (k0_off12 arg8) a + S256x128.size a ≤ S8192x1024.size a) ∧
  (∀ a, (k0_off13 arg8) a + S256x128.size a ≤ S8192x1024.size a) ∧
  (∀ a, (k0_off14 arg8) a + S256x128.size a ≤ S8192x1024.size a) ∧
  (∀ a, (k0_off15 arg8) a + S256x128.size a ≤ S8192x1024.size a) ∧
  (∀ a, (k0_off16 arg8) a + S256x128.size a ≤ S8192x1024.size a)
theorem k0_mult2_dvd : ∀ (arg8 : BitVec 32) (k0_hw1 : k0_chk1 arg8), 256 ∣ (k0_mult2 arg8).toNat := fun arg8 k0_hw1 => k0_hw1.1
theorem k0_off9_inb : ∀ (arg8 : BitVec 32) (k0_hw1 : k0_chk1 arg8), ∀ a, (k0_off9 arg8) a + S256x128.size a ≤ S8192x1024.size a := fun arg8 k0_hw1 => k0_hw1.2.1
theorem k0_off10_inb : ∀ (arg8 : BitVec 32) (k0_hw1 : k0_chk1 arg8), ∀ a, (k0_off10 arg8) a + S256x128.size a ≤ S8192x1024.size a := fun arg8 k0_hw1 => k0_hw1.2.2.1
theorem k0_off11_inb : ∀ (arg8 : BitVec 32) (k0_hw1 : k0_chk1 arg8), ∀ a, (k0_off11 arg8) a + S256x128.size a ≤ S8192x1024.size a := fun arg8 k0_hw1 => k0_hw1.2.2.2.1
theorem k0_off12_inb : ∀ (arg8 : BitVec 32) (k0_hw1 : k0_chk1 arg8), ∀ a, (k0_off12 arg8) a + S256x128.size a ≤ S8192x1024.size a := fun arg8 k0_hw1 => k0_hw1.2.2.2.2.1
theorem k0_off13_inb : ∀ (arg8 : BitVec 32) (k0_hw1 : k0_chk1 arg8), ∀ a, (k0_off13 arg8) a + S256x128.size a ≤ S8192x1024.size a := fun arg8 k0_hw1 => k0_hw1.2.2.2.2.2.1
theorem k0_off14_inb : ∀ (arg8 : BitVec 32) (k0_hw1 : k0_chk1 arg8), ∀ a, (k0_off14 arg8) a + S256x128.size a ≤ S8192x1024.size a := fun arg8 k0_hw1 => k0_hw1.2.2.2.2.2.2.1
theorem k0_off15_inb : ∀ (arg8 : BitVec 32) (k0_hw1 : k0_chk1 arg8), ∀ a, (k0_off15 arg8) a + S256x128.size a ≤ S8192x1024.size a := fun arg8 k0_hw1 => k0_hw1.2.2.2.2.2.2.2.1
theorem k0_off16_inb : ∀ (arg8 : BitVec 32) (k0_hw1 : k0_chk1 arg8), ∀ a, (k0_off16 arg8) a + S256x128.size a ≤ S8192x1024.size a := fun arg8 k0_hw1 => k0_hw1.2.2.2.2.2.2.2.2

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "skip" => some ⊥
  | _ => none
-- ==== ReferenceIdeal.lean ====
abbrev S8192x6144 : Shape := ⟨2, ![8192, 6144]⟩
abbrev S8192x1024 : Shape := ⟨2, ![8192, 1024]⟩
abbrev S8192x8x128 : Shape := ⟨3, ![8192, 8, 128]⟩
abbrev S8x8192x128 : Shape := ⟨3, ![8, 8192, 128]⟩
abbrev S_ : Shape := ⟨0, ![]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 74
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x6144, .f32⟩
  | .hbm, ⟨2, _⟩ => ⟨S8192x1024, .f32⟩
  | .hbm, ⟨3, _⟩ => ⟨S8192x8x128, .f32⟩
  | .hbm, ⟨4, _⟩ => ⟨S8192x1024, .f32⟩
  | .hbm, ⟨5, _⟩ => ⟨S8192x8x128, .f32⟩
  | .hbm, ⟨6, _⟩ => ⟨S8192x1024, .f32⟩
  | .hbm, ⟨7, _⟩ => ⟨S8192x8x128, .f32⟩
  | .hbm, ⟨8, _⟩ => ⟨S8x8192x128, .f32⟩
  | .hbm, ⟨9, _⟩ => ⟨S_, .f32⟩
  | .hbm, ⟨10, _⟩ => ⟨S8x8192x128, .f32⟩
  | .hbm, ⟨11, _⟩ => ⟨S8x8192x128, .f32⟩
  | .hbm, ⟨12, _⟩ => ⟨S8x8192x128, .f32⟩
  | .hbm, ⟨13, _⟩ => ⟨S8x8192x128, .f32⟩
  | .hbm, ⟨14, _⟩ => ⟨S8x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .i1⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S_, .f32⟩
  | .hbm, ⟨40, _⟩ => ⟨S8x8192x8192, .i1⟩
  | .hbm, ⟨41, _⟩ => ⟨S8x8192x8192, .f32⟩
  | .hbm, ⟨42, _⟩ => ⟨S8x8192x8192, .f32⟩
  | .hbm, ⟨43, _⟩ => ⟨S_, .f32⟩
  | .hbm, ⟨44, _⟩ => ⟨S_, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S_, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S8x8192x8192, .i1⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S_, .f32⟩
  | .hbm, ⟨66, _⟩ => ⟨S_, .f32⟩
  | .hbm, ⟨67, _⟩ => ⟨S8x8192x8192, .i1⟩
  | .hbm, ⟨68, _⟩ => ⟨S8x8192x8192, .f32⟩
  | .hbm, ⟨69, _⟩ => ⟨S8x8192x8192, .f32⟩
  | .hbm, ⟨70, _⟩ => ⟨S8x8192x128, .f32⟩
  | .hbm, ⟨71, _⟩ => ⟨S8192x8x128, .f32⟩
  | .hbm, ⟨72, _⟩ => ⟨S8192x1024, .f32⟩
  | .hbm, ⟨73, _⟩ => ⟨S8192x1024, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩

abbrev nD : Nat := 1
abbrev τ : Topo := Topo.v7x

variable {F : FTy → Type} [FloatOps F]
-- ==== Kernel2.lean ====
abbrev S8192x1024 : Shape := ⟨2, ![8192, 1024]⟩
abbrev S2048x2048 : Shape := ⟨2, ![2048, 2048]⟩
abbrev S8192x2048 : Shape := ⟨2, ![8192, 2048]⟩
abbrev S1x2048 : Shape := ⟨2, ![1, 2048]⟩
abbrev S2048 : Shape := ⟨1, ![2048]⟩
abbrev S256x1024 : Shape := ⟨2, ![256, 1024]⟩
abbrev S256x2048 : Shape := ⟨2, ![256, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S2048, .f32⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8192x1024 : Shape := ⟨2, ![8192, 1024]⟩
abbrev S2048x2048 : Shape := ⟨2, ![2048, 2048]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S2048, .f32⟩
  | .hbm, ⟨7, _⟩ => ⟨S8192x1024, .f32⟩
  | .hbm, ⟨8, _⟩ => ⟨S8192x1024, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S1x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel3.lean ====
abbrev S8192x2048 : Shape := ⟨2, ![8192, 2048]⟩
abbrev S1x2048 : Shape := ⟨2, ![1, 2048]⟩
abbrev S2048x5120 : Shape := ⟨2, ![2048, 5120]⟩
abbrev S8192x5120 : Shape := ⟨2, ![8192, 5120]⟩
abbrev S8192x1024 : Shape := ⟨2, ![8192, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S2048x5120, .f32⟩
  | .hbm, ⟨4, _⟩ => ⟨S2048x5120, .bf16⟩
  | .hbm, ⟨5, _⟩ => ⟨S8192x5120, .bf16⟩
  | .hbm, ⟨6, _⟩ => ⟨S8192x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c4_i32 : BitVec 32 := 4#32
  let v9 : BitVec 1 := Scalar.cmpi .sge arg1 c4_i32
  let c6_i32 : BitVec 32 := 6#32
  let v10 : BitVec 1 := Scalar.cmpi .slt arg1 c6_i32
  let v11 : BitVec 1 := Scalar.andi v9 v10
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8192x2048 : Shape := ⟨2, ![8192, 2048]⟩
abbrev S1x2048 : Shape := ⟨2, ![1, 2048]⟩
abbrev S2048x5120 : Shape := ⟨2, ![2048, 5120]⟩
abbrev S_ : Shape := ⟨0, ![]⟩
abbrev S8192x5120 : Shape := ⟨2, ![8192, 5120]⟩
abbrev S8192x1024 : Shape := ⟨2, ![8192, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S2048x5120, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x5120, .f32⟩
  | .hbm, ⟨12, _⟩ => ⟨S8192x1024, .f32⟩
  | .hbm, ⟨13, _⟩ => ⟨S8192x5120, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel4.lean ====
abbrev S8192x2048 : Shape := ⟨2, ![8192, 2048]⟩
abbrev S1x2048 : Shape := ⟨2, ![1, 2048]⟩
abbrev S2048x6160 : Shape := ⟨2, ![2048, 6160]⟩
abbrev S2048x3072 : Shape := ⟨2, ![2048, 3072]⟩
abbrev S2048x6144 : Shape := ⟨2, ![2048, 6144]⟩
abbrev S_ : Shape := ⟨0, ![]⟩
abbrev S2048x128 : Shape := ⟨2, ![2048, 128]⟩
abbrev S2048x16 : Shape := ⟨2, ![2048, 16]⟩
abbrev S1 : Shape := ⟨1, ![1]⟩
abbrev S8192x6144 : Shape := ⟨2, ![8192, 6144]⟩
abbrev S8192x128 : Shape := ⟨2, ![8192, 128]⟩
abbrev S1024x2048 : Shape := ⟨2, ![1024, 2048]⟩
abbrev S2048x512 : Shape := ⟨2, ![2048, 512]⟩
abbrev S1024x512 : Shape := ⟨2, ![1024, 512]⟩
abbrev S1024x128 : Shape := ⟨2, ![1024, 128]⟩

abbrev nBuf : Space → Nat
  | .hbm => 17
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S2048x6160, .f32⟩
  | .hbm, ⟨4, _⟩ => ⟨S2048x3072, .f32⟩
  | .hbm, ⟨5, _⟩ => ⟨S2048x3072, .f32⟩
  | .hbm, ⟨6, _⟩ => ⟨S2048x6144, .f32⟩
  | .hbm, ⟨7, _⟩ => ⟨S2048x6144, .bf16⟩
  | .hbm, ⟨8, _⟩ => ⟨S_, .bf16⟩
  | .hbm, ⟨9, _⟩ => ⟨S2048x128, .bf16⟩
  | .hbm, ⟨10, _⟩ => ⟨S2048x16, .f32⟩
  | .hbm, ⟨11, _⟩ => ⟨S2048x16, .bf16⟩
  | .hbm, ⟨12, _⟩ => ⟨S_, .i32⟩
  | .hbm, ⟨13, _⟩ => ⟨S1, .i32⟩
  | .hbm, ⟨14, _⟩ => ⟨S2048x128, .bf16⟩
  | .hbm, ⟨15, _⟩ => ⟨S8192x6144, .bf16⟩
  | .hbm, ⟨16, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x128, .bf16⟩
  | .local _ .vmem, ⟨7, _⟩ => ⟨S1024x512, .bf16⟩
  | .local _ .vmem, ⟨8, _⟩ => ⟨S1024x512, .bf16⟩
  | .local _ .vmem, ⟨9, _⟩ => ⟨S1024x128, .f32⟩
  | .local _ .vmem, ⟨10, _⟩ => ⟨S1024x128, .f32⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S8192x2048 : Shape := ⟨2, ![8192, 2048]⟩
abbrev S1x2048 : Shape := ⟨2, ![1, 2048]⟩
abbrev S2048x6160 : Shape := ⟨2, ![2048, 6160]⟩
abbrev S_ : Shape := ⟨0, ![]⟩
abbrev S8192x6160 : Shape := ⟨2, ![8192, 6160]⟩
abbrev S8192x16 : Shape := ⟨2, ![8192, 16]⟩
abbrev S8192x3072 : Shape := ⟨2, ![8192, 3072]⟩
abbrev S8192x6144 : Shape := ⟨2, ![8192, 6144]⟩
abbrev S8192x128 : Shape := ⟨2, ![8192, 128]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S2048x6160, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x6160, .f32⟩
  | .hbm, ⟨12, _⟩ => ⟨S8192x16, .f32⟩
  | .hbm, ⟨13, _⟩ => ⟨S8192x3072, .f32⟩
  | .hbm, ⟨14, _⟩ => ⟨S8192x3072, .f32⟩
  | .hbm, ⟨15, _⟩ => ⟨S8192x6144, .f32⟩
  | .hbm, ⟨16, _⟩ => ⟨S8192x6144, .bf16⟩
  | .hbm, ⟨17, _⟩ => ⟨S_, .i32⟩
  | .hbm, ⟨18, _⟩ => ⟨S_, .f32⟩
  | .hbm, ⟨19, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel5.lean ====
abbrev S24576x2048 : Shape := ⟨2, ![24576, 2048]⟩
abbrev S32 : Shape := ⟨1, ![32]⟩
abbrev S4x32x2048x512 : Shape := ⟨4, ![4, 32, 2048, 512]⟩
abbrev S4x32x512x2048 : Shape := ⟨4, ![4, 32, 512, 2048]⟩
abbrev S128x2048x512 : Shape := ⟨3, ![128, 2048, 512]⟩
abbrev S128x512x2048 : Shape := ⟨3, ![128, 512, 2048]⟩
abbrev S_ : Shape := ⟨0, ![]⟩
abbrev S96 : Shape := ⟨1, ![96]⟩
abbrev S1x32 : Shape := ⟨2, ![1, 32]⟩
abbrev S96x1 : Shape := ⟨2, ![96, 1]⟩
abbrev S96x32 : Shape := ⟨2, ![96, 32]⟩
abbrev S1 : Shape := ⟨1, ![1]⟩
abbrev S256x2048 : Shape := ⟨2, ![256, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 74
  | .vmem => 13
  | .smem => 2
  | _ => 0

abbrev bufTy : (tb : Table) → Fin (tcTables nBuf tb) → BufTy
  | .hbm, ⟨0, _⟩ => ⟨S24576x2048, .f32⟩
  | .hbm, ⟨1, _⟩ => ⟨S32, .i32⟩
  | .hbm, ⟨2, _⟩ => ⟨S4x32x2048x512, .f32⟩
  | .hbm, ⟨3, _⟩ => ⟨S4x32x2048x512, .f32⟩
  | .hbm, ⟨4, _⟩ => ⟨S4x32x512x2048, .f32⟩
  | .hbm, ⟨5, _⟩ => ⟨S128x2048x512, .f32⟩
  | .hbm, ⟨6, _⟩ => ⟨S128x2048x512, .f32⟩
  | .hbm, ⟨7, _⟩ => ⟨S128x512x2048, .f32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i32⟩
  | .hbm, ⟨23, _⟩ => ⟨S32, .i32⟩
  | .hbm, ⟨24, _⟩ => ⟨S_, .i32⟩
  | .hbm, ⟨25, _⟩ => ⟨S32, .i32⟩
  | .hbm, ⟨26, _⟩ => ⟨S32, .i1⟩
  | .hbm, ⟨27, _⟩ => ⟨S32, .i1⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S_, .i32⟩
  | .hbm, ⟨37, _⟩ => ⟨S32, .i32⟩
  | .hbm, ⟨38, _⟩ => ⟨S96, .i32⟩
  | .hbm, ⟨39, _⟩ => ⟨S_, .i32⟩
  | .hbm, ⟨40, _⟩ => ⟨S96, .i32⟩
  | .hbm, ⟨41, _⟩ => ⟨S96, .i32⟩
  | .hbm, ⟨42, _⟩ => ⟨S1x32, .i32⟩
  | .hbm, ⟨43, _⟩ => ⟨S96x1, .i32⟩
  | .hbm, ⟨44, _⟩ => ⟨S96x32, .i32⟩
  | .hbm, ⟨45, _⟩ => ⟨S96x32, .i32⟩
  | .hbm, ⟨46, _⟩ => ⟨S96x32, .i1⟩
  | .hbm, ⟨47, _⟩ => ⟨S96x32, .i32⟩
  | .hbm, ⟨48, _⟩ => ⟨S_, .i32⟩
  | .hbm, ⟨49, _⟩ => ⟨S96, .i32⟩
  | .hbm, ⟨50, _⟩ => ⟨S_, .i32⟩
  | .hbm, ⟨51, _⟩ => ⟨S96, .i32⟩
  | .hbm, ⟨52, _⟩ => ⟨S96, .i32⟩
  | .hbm, ⟨53, _⟩ => ⟨S_, .i32⟩
  | .hbm, ⟨54, _⟩ => ⟨S96, .i32⟩
  | .hbm, ⟨55, _⟩ => ⟨S1, .i32⟩
  | .hbm, ⟨56, _⟩ => ⟨S_, .i32⟩
  | .hbm, ⟨57, _⟩ => ⟨S_, .i32⟩
  | .hbm, ⟨58, _⟩ => ⟨S1, .i32⟩
  | .hbm, ⟨59, _⟩ => ⟨S1, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S1, .i1⟩
  | .hbm, ⟨64, _⟩ => ⟨S1, .i32⟩
  | .hbm, ⟨65, _⟩ => ⟨S1, .i32⟩
  | .hbm, ⟨66, _⟩ => ⟨S_, .i32⟩
  | .hbm, ⟨67, _⟩ => ⟨S1, .i32⟩
  | .hbm, ⟨68, _⟩ => ⟨S1, .i1⟩
  | .hbm, ⟨69, _⟩ => ⟨S1, .i1⟩
  | .hbm, ⟨70, _⟩ => ⟨S_, .i32⟩
  | .hbm, ⟨71, _⟩ => ⟨S1, .i32⟩
  | .hbm, ⟨72, _⟩ => ⟨S1, .i32⟩
  | .hbm, ⟨73, _⟩ => ⟨S24576x2048, .f32⟩
  | .local _ .vmem, ⟨0, _⟩ => ⟨S256x2048, .f32⟩
  | .local _ .vmem, ⟨1, _⟩ => ⟨S256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S96, .i32⟩
  | .local _ .smem, ⟨1, _⟩ => ⟨S1, .i32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v7 : Ref sig .tc := ⟨.hbm, 31, rfl⟩
abbrev main_c_2 : Ref sig .tc := ⟨.hbm, 32, rfl⟩
abbrev main_v8 : Ref sig .tc := ⟨.hbm, 33, rfl⟩
abbrev main_v9 : Ref sig .tc := ⟨.hbm, 34, rfl⟩
abbrev main_call1_call0_c : Ref sig .tc := ⟨.hbm, 35, rfl⟩
abbrev main_call1_call0_v0 : Ref sig .tc := ⟨.hbm, 36, rfl⟩
abbrev main_v10 : Ref sig .tc := ⟨.hbm, 37, rfl⟩
abbrev main_v11 : Ref sig .tc := ⟨.hbm, 38, rfl⟩
abbrev main_c_3 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_c_6 : Ref sig .tc := ⟨.hbm, 53, rfl⟩
abbrev main_v23 : Ref sig .tc := ⟨.hbm, 54, rfl⟩
abbrev main_v25 : Ref sig .tc := ⟨.hbm, 55, rfl⟩
abbrev main_c_7 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_c : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_0 : Ref sig .tc := ⟨.hbm, 70, rfl⟩
abbrev main_call2_v12 : Ref sig .tc := ⟨.hbm, 71, rfl⟩
abbrev main_call2_v13 : Ref sig .tc := ⟨.hbm, 72, rfl⟩
abbrev main_v27 : Ref sig .tc := ⟨.hbm, 73, rfl⟩
abbrev main_v24 : Ref sig .tc := ⟨.smem, 0, rfl⟩
abbrev main_v26 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![96], ![false]⟩

abbrev pre0 : Pipeline.Prefetch sig := ⟨2, ![main_v24.idx, main_v26.idx], fun | 0 => main_v24.names | 1 => main_v26.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S24576x2048 : Shape := ⟨2, ![24576, 2048]⟩
abbrev S32 : Shape := ⟨1, ![32]⟩
abbrev S4x32x2048x512 : Shape := ⟨4, ![4, 32, 2048, 512]⟩
abbrev S4x32x512x2048 : Shape := ⟨4, ![4, 32, 512, 2048]⟩
abbrev S96x256x2048 : Shape := ⟨3, ![96, 256, 2048]⟩
abbrev S96 : Shape := ⟨1, ![96]⟩
abbrev S_ : Shape := ⟨0, ![]⟩
abbrev S1x32 : Shape := ⟨2, ![1, 32]⟩
abbrev S96x1 : Shape := ⟨2, ![96, 1]⟩
abbrev S96x32 : Shape := ⟨2, ![96, 32]⟩
abbrev S1x32x2048x512 : Shape := ⟨4, ![1, 32, 2048, 512]⟩
abbrev S32x2048x512 : Shape := ⟨3, ![32, 2048, 512]⟩
abbrev S96x2048x512 : Shape := ⟨3, ![96, 2048, 512]⟩
abbrev S1x32x512x2048 : Shape := ⟨4, ![1, 32, 512, 2048]⟩
abbrev S32x512x2048 : Shape := ⟨3, ![32, 512, 2048]⟩
abbrev S96x512x2048 : Shape := ⟨3, ![96, 512, 2048]⟩
abbrev S96x256x512 : Shape := ⟨3, ![96, 256, 512]⟩
abbrev S96x1x1 : Shape := ⟨3, ![96, 1, 1]⟩
abbrev S1 : Shape := ⟨1, ![1]⟩

abbrev nBuf : Space → Nat
  | .hbm => 87
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S32, .i32⟩
  | .hbm, ⟨2, _⟩ => ⟨S4x32x2048x512, .f32⟩
  | .hbm, ⟨3, _⟩ => ⟨S4x32x2048x512, .f32⟩
  | .hbm, ⟨4, _⟩ => ⟨S4x32x512x2048, .f32⟩
  | .hbm, ⟨5, _⟩ => ⟨S96x256x2048, .f32⟩
  | .hbm, ⟨6, _⟩ => ⟨S96, .i32⟩
  | .hbm, ⟨7, _⟩ => ⟨S_, .i32⟩
  | .hbm, ⟨8, _⟩ => ⟨S96, .i32⟩
  | .hbm, ⟨9, _⟩ => ⟨S96, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i1⟩
  | .hbm, ⟨29, _⟩ => ⟨S32, .i1⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S32, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S_, .i32⟩
  | .hbm, ⟨38, _⟩ => ⟨S_, .i32⟩
  | .hbm, ⟨39, _⟩ => ⟨S32, .i32⟩
  | .hbm, ⟨40, _⟩ => ⟨S1x32, .i32⟩
  | .hbm, ⟨41, _⟩ => ⟨S96x1, .i32⟩
  | .hbm, ⟨42, _⟩ => ⟨S96x32, .i32⟩
  | .hbm, ⟨43, _⟩ => ⟨S96x32, .i32⟩
  | .hbm, ⟨44, _⟩ => ⟨S96x32, .i1⟩
  | .hbm, ⟨45, _⟩ => ⟨S96x32, .i32⟩
  | .hbm, ⟨46, _⟩ => ⟨S_, .i32⟩
  | .hbm, ⟨47, _⟩ => ⟨S96, .i32⟩
  | .hbm, ⟨48, _⟩ => ⟨S_, .i32⟩
  | .hbm, ⟨49, _⟩ => ⟨S96, .i32⟩
  | .hbm, ⟨50, _⟩ => ⟨S96, .i32⟩
  | .hbm, ⟨51, _⟩ => ⟨S1x32x2048x512, .f32⟩
  | .hbm, ⟨52, _⟩ => ⟨S32x2048x512, .f32⟩
  | .hbm, ⟨53, _⟩ => ⟨S96x1, .i32⟩
  | .hbm, ⟨54, _⟩ => ⟨S96x2048x512, .f32⟩
  | .hbm, ⟨55, _⟩ => ⟨S1x32x2048x512, .f32⟩
  | .hbm, ⟨56, _⟩ => ⟨S32x2048x512, .f32⟩
  | .hbm, ⟨57, _⟩ => ⟨S96x1, .i32⟩
  | .hbm, ⟨58, _⟩ => ⟨S96x2048x512, .f32⟩
  | .hbm, ⟨59, _⟩ => ⟨S1x32x512x2048, .f32⟩
  | .hbm, ⟨60, _⟩ => ⟨S32x512x2048, .f32⟩
  | .hbm, ⟨61, _⟩ => ⟨S96x1, .i32⟩
  | .hbm, ⟨62, _⟩ => ⟨S96x512x2048, .f32⟩
  | .hbm, ⟨63, _⟩ => ⟨S96x256x512, .f32⟩
  | .hbm, ⟨64, _⟩ => ⟨S96x256x512, .f32⟩
  | .hbm, ⟨65, _⟩ => ⟨S96x256x512, .f32⟩
  | .hbm, ⟨66, _⟩ => ⟨S_, .f32⟩
  | .hbm, ⟨67, _⟩ => ⟨S96x256x512, .f32⟩
  | .hbm, ⟨68, _⟩ => ⟨S96x256x512, .f32⟩
  | .hbm, ⟨69, _⟩ => ⟨S_, .f32⟩
  | .hbm, ⟨70, _⟩ => ⟨S96x256x512, .f32⟩
  | .hbm, ⟨71, _⟩ => ⟨S96x256x512, .f32⟩
  | .hbm, ⟨72, _⟩ => ⟨S96x256x512, .f32⟩
  | .hbm, ⟨73, _⟩ => ⟨S96x256x512, .f32⟩
  | .hbm, ⟨74, _⟩ => ⟨S96x256x512, .f32⟩
  | .hbm, ⟨75, _⟩ => ⟨S96x256x2048, .f32⟩
  | .hbm, ⟨76, _⟩ => ⟨S96x1x1, .i32⟩
  | .hbm, ⟨77, _⟩ => ⟨S1, .i32⟩
  | .hbm, ⟨78, _⟩ => ⟨S_, .i32⟩
  | .hbm, ⟨79, _⟩ => ⟨S96x1x1, .i32⟩
  | .hbm, ⟨80, _⟩ => ⟨S96x1x1, .i1⟩
  | .hbm, ⟨81, _⟩ => ⟨S_, .f32⟩
  | .hbm, ⟨82, _⟩ => ⟨S_, .f32⟩
  | .hbm, ⟨83, _⟩ => ⟨S96x256x2048, .i1⟩
  | .hbm, ⟨84, _⟩ => ⟨S96x256x2048, .f32⟩
  | .hbm, ⟨85, _⟩ => ⟨S96x256x2048, .f32⟩
  | .hbm, ⟨86, _⟩ => ⟨S24576x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v8 : Ref sig .tc := ⟨.hbm, 33, rfl⟩
abbrev main_c_3 : Ref sig .tc := ⟨.hbm, 34, rfl⟩
abbrev main_v9 : Ref sig .tc := ⟨.hbm, 35, rfl⟩
abbrev main_v10 : Ref sig .tc := ⟨.hbm, 36, rfl⟩
abbrev main_call1_call0_c : Ref sig .tc := ⟨.hbm, 37, rfl⟩
abbrev main_call1_call0_v0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_4 : Ref sig .tc := ⟨.hbm, 46, rfl⟩
abbrev main_v18 : Ref sig .tc := ⟨.hbm, 47, rfl⟩
abbrev main_c_5 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_call2_v0 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_call3_v0 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_call4_v0 : Ref sig .tc := ⟨.hbm, 61, rfl⟩
abbrev main_v29 : Ref sig .tc := ⟨.hbm, 62, rfl⟩
abbrev main_v30 : Ref sig .tc := ⟨.hbm, 63, rfl⟩
abbrev main_call5_v0 : Ref sig .tc := ⟨.hbm, 64, rfl⟩
abbrev main_call5_v1 : Ref sig .tc := ⟨.hbm, 65, rfl⟩
abbrev main_call5_cst : Ref sig .tc := ⟨.hbm, 66, rfl⟩
abbrev main_call5_v2 : Ref sig .tc := ⟨.hbm, 67, rfl⟩
abbrev main_call5_v3 : Ref sig .tc := ⟨.hbm, 68, rfl⟩
abbrev main_call5_cst_0 : Ref sig .tc := ⟨.hbm, 69, rfl⟩
abbrev main_call5_v4 : Ref sig .tc := ⟨.hbm, 70, rfl⟩
abbrev main_call5_v5 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_cst : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_v40 : Ref sig .tc := ⟨.hbm, 85, rfl⟩
abbrev main_v41 : Ref sig .tc := ⟨.hbm, 86, rfl⟩

abbrev nD : Nat := 1
abbrev τ : Topo := Topo.v7x

variable {F : FTy → Type} [FloatOps F]
-- ==== Kernel6.lean ====
abbrev S1x2048 : Shape := ⟨2, ![1, 2048]⟩
abbrev S4x2048x12288 : Shape := ⟨3, ![4, 2048, 12288]⟩
abbrev S4x12288 : Shape := ⟨2, ![4, 12288]⟩
abbrev S2048x1 : Shape := ⟨2, ![2048, 1]⟩
abbrev S4x1x12288 : Shape := ⟨3, ![4, 1, 12288]⟩
abbrev S1x2048x1024 : Shape := ⟨3, ![1, 2048, 1024]⟩
abbrev S1x1x1024 : Shape := ⟨3, ![1, 1, 1024]⟩
abbrev S8x1024 : Shape := ⟨2, ![8, 1024]⟩
abbrev S64x1 : Shape := ⟨2, ![64, 1]⟩
abbrev S1x64x1024 : Shape := ⟨3, ![1, 64, 1024]⟩
abbrev S64x1024 : Shape := ⟨2, ![64, 1024]⟩
abbrev S8x8x1024 : Shape := ⟨3, ![8, 8, 1024]⟩
abbrev S1024 : Shape := ⟨1, ![1024]⟩
abbrev S1x1024 : Shape := ⟨2, ![1, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S4x2048x12288, .f32⟩
  | .hbm, ⟨2, _⟩ => ⟨S4x12288, .f32⟩
  | .hbm, ⟨3, _⟩ => ⟨S2048x1, .f32⟩
  | .hbm, ⟨4, _⟩ => ⟨S4x1x12288, .f32⟩
  | .hbm, ⟨5, _⟩ => ⟨S4x1x12288, .f32⟩
  | .local _ .vmem, ⟨0, _⟩ => ⟨S2048x1, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c64_i32 : BitVec 32 := 64#32
  let v11 : BitVec 32 := Scalar.muli arg6 c64_i32
  v11
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c64_i32 : BitVec 32 := 64#32
  let v11 : BitVec 32 := Scalar.muli arg6 c64_i32
  let v12 : BitVec 32 := v11
  let v13 : Index := Scalar.indexCast v12
  let c0_7 : Index := 0#32
  ![v13.toNat, 0]
def k0_off2 (k0_t1 : Fin k0_t1_loop.trips) : Fin 3 → Nat :=
  let c0_8 : Index := 0#32
  let c0_i32 : BitVec 32 := 0#32
  let c1_i32 : BitVec 32 := 1#32
  let arg6 : BitVec 32 := Scf.iv c0_i32 c1_i32 k0_t1
  let c64_i32 : BitVec 32 := 64#32
  let v11 : BitVec 32 := Scalar.muli arg6 c64_i32
  let v12 : BitVec 32 := v11
  let v18 : Index := Scalar.indexCast v12
  let c0_9 : Index := 0#32
  ![0, v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S1x2048 : Shape := ⟨2, ![1, 2048]⟩
abbrev S4x2048x12288 : Shape := ⟨3, ![4, 2048, 12288]⟩
abbrev S4x12288 : Shape := ⟨2, ![4, 12288]⟩
abbrev S_ : Shape := ⟨0, ![]⟩
abbrev S1x4x12288 : Shape := ⟨3, ![1, 4, 12288]⟩
abbrev S4x1x12288 : Shape := ⟨3, ![4, 1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S4x2048x12288, .f32⟩
  | .hbm, ⟨2, _⟩ => ⟨S4x12288, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x4x12288, .f32⟩
  | .hbm, ⟨13, _⟩ => ⟨S4x1x12288, .f32⟩
  | .hbm, ⟨14, _⟩ => ⟨S4x1x12288, .f32⟩
  | .hbm, ⟨15, _⟩ => ⟨S4x1x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.SB.Stick.lean ====
/- The stick-breaking attention of one query, over the reals: the softplus, what each key leaves of the stick, the
   weights, and the sums by which a kernel that takes the keys in tiles of 256, from the last to the first, meets the
   sums over all the keys. -/
module

public import Idealize.ShloMosaic.PureOps.Ideal

@[expose] public section

noncomputable section

namespace Cert.Stick

open Idealize.ShloMosaic Finset

/-- The softplus. -/
def sp (z : ℝ) : ℝ := max z 0 + Real.log (1 + Real.exp (-|z|))

theorem sp_neg (z : ℝ) : sp (-z) = sp z - z := by
  unfold sp
  rw [abs_neg]
  have h : max (-z) 0 = max z 0 - z := by
    rcases le_total z 0 with h | h
    · rw [max_eq_left (by linarith), max_eq_right h]; ring
    · rw [max_eq_right (by linarith), max_eq_left h]; ring
  rw [h]; ring

/-- The softplus at `Ideal`, as a kernel computes it. -/
theorem sp_ideal (z : ℝ) :
    max (z : EReal) 0 + Ideal.log (1 + Ideal.exp (0 - max (z : EReal) (-(z : EReal)))) = ((sp z : ℝ) : EReal) := by
  have h1 : max (z : EReal) (-(z : EReal)) = ((|z| : ℝ) : EReal) := by
    rw [← EReal.coe_neg, ← EReal.coe_strictMono.monotone.map_max]; rfl
  have h2 : (0 : EReal) - ((|z| : ℝ) : EReal) = ((-|z| : ℝ) : EReal) := by
    rw [zero_sub, EReal.coe_neg]
  have h3 : Ideal.exp ((-|z| : ℝ) : EReal) = ((Real.exp (-|z|) : ℝ) : EReal) := rfl
  have h4 : (1 : EReal) + ((Real.exp (-|z|) : ℝ) : EReal) = ((1 + Real.exp (-|z|) : ℝ) : EReal) := by
    rw [EReal.coe_add]; rfl
  have h5 : Ideal.log ((1 + Real.exp (-|z|) : ℝ) : EReal) = ((Real.log (1 + Real.exp (-|z|)) : ℝ) : EReal) := by
    show (if (1 + Real.exp (-|z|) : ℝ) ≤ 0 then (⊥ : EReal) else _) = _
    rw [if_neg (by have := Real.exp_pos (-|z|); linarith)]
  rw [h1, h2, h3, h4, h5, ← EReal.coe_zero, ← EReal.coe_strictMono.monotone.map_max, ← EReal.coe_add]
  rfl

variable (Z : ℕ → ℝ) (I : ℕ)

/-- The logarithm of what key `j` leaves of the stick of query `I`, -/
def keep (j : ℕ) : ℝ := if j < I then -sp (Z j) else 0
/-- the logarithm of what the keys after `j` leave, -/
def rest (j : ℕ) : ℝ := ∑ k ∈ Ico (j + 1) 8192, keep Z I k
/-- and the weight of key `j`. -/
def wt (j : ℕ) : ℝ := if j < I then Real.exp (-sp (-Z j) + rest Z I j) else 0

/-- What the keys from tile `m` on leave. -/
def carry (m : ℕ) : ℝ := ∑ k ∈ Ico (256 * m) 8192, keep Z I k
/-- The weighted values of the keys from tile `m` on. -/
def part (V : ℕ → EReal) (m : ℕ) : EReal := ∑ j ∈ Ico (256 * m) 8192, ((wt Z I j : ℝ) : EReal) * V j

/-- A sum from tile `m` on is the tile's and the sum from the next tile on. -/
theorem sum_tile {M : Type*} [AddCommMonoid M] (f : ℕ → M) (m : ℕ) (hm : m < 32) :
    ∑ k ∈ Ico (256 * m) 8192, f k = ∑ k : Fin 256, f (256 * m + k.val) + ∑ k ∈ Ico (256 * (m + 1)) 8192, f k := by
  rw [← Finset.sum_Ico_consecutive f (show 256 * m ≤ 256 * (m + 1) by omega) (show 256 * (m + 1) ≤ 8192 by omega)]
  congr 1
  rw [Finset.sum_Ico_eq_sum_range, show 256 * (m + 1) - 256 * m = 256 by omega, Finset.sum_range]

/-- Within tile `m`, the sum after key `c` is the tile's later keys and what is carried. -/
theorem rest_tile (m : ℕ) (hm : m < 32) (c : Fin 256) :
    rest Z I (256 * m + c.val) = (∑ k : Fin 256, if c < k then keep Z I (256 * m + k.val) else 0) + carry Z I (m + 1) := by
  unfold rest carry
  rw [← Finset.sum_Ico_consecutive (keep Z I) (show 256 * m + c.val + 1 ≤ 256 * (m + 1) by omega) (show 256 * (m + 1) ≤ 8192 by omega)]
  congr 1
  have h := Finset.sum_Ico_consecutive (fun j => if 256 * m + c.val < j then keep Z I j else 0)
    (show 256 * m ≤ 256 * m + c.val + 1 by omega) (show 256 * m + c.val + 1 ≤ 256 * (m + 1) by omega)
  rw [Finset.sum_eq_zero (s := Ico (256 * m) (256 * m + c.val + 1)) (fun j hj => by
    rw [Finset.mem_Ico] at hj; exact if_neg (by omega)), zero_add,
    Finset.sum_congr (s₁ := Ico (256 * m + c.val + 1) (256 * (m + 1))) rfl (g := keep Z I) (fun j hj => by
      rw [Finset.mem_Ico] at hj; exact if_pos (by omega))] at h
  rw [h, Finset.sum_Ico_eq_sum_range, show 256 * (m + 1) - 256 * m = 256 by omega, Finset.sum_range]
  refine Finset.sum_congr rfl fun k _ => ?_
  by_cases hk : c < k
  · rw [if_pos hk, if_pos (by have : c.val < k.val := hk; omega)]
  · rw [if_neg hk, if_neg (by have : ¬ c.val < k.val := hk; omega)]

theorem carry_tile (m : ℕ) (hm : m < 32) :
    carry Z I m = ∑ k : Fin 256, keep Z I (256 * m + k.val) + carry Z I (m + 1) := sum_tile _ m hm

theorem part_tile (V : ℕ → EReal) (m : ℕ) (hm : m < 32) :
    part Z I V m = ∑ k : Fin 256, ((wt Z I (256 * m + k.val) : ℝ) : EReal) * V (256 * m + k.val) + part Z I V (m + 1) :=
  sum_tile _ m hm

/-- No key from the query on weighs anything. -/
theorem carry_zero (m : ℕ) (h : I ≤ 256 * m) : carry Z I m = 0 :=
  Finset.sum_eq_zero fun j hj => if_neg (by rw [Finset.mem_Ico] at hj; omega)

theorem part_zero (V : ℕ → EReal) (m : ℕ) (h : I ≤ 256 * m) : part Z I V m = 0 :=
  Finset.sum_eq_zero fun j hj => by
    rw [Finset.mem_Ico] at hj
    rw [wt, if_neg (by omega), EReal.coe_zero, zero_mul]

/-- The first key of a tile and the keys after it are the tile's keys. -/
theorem first_tile (l : Fin 256 → ℝ) : (∑ k : Fin 256, if (0 : Fin 256) < k then l k else 0) + l 0 = ∑ k, l k := by
  have h : ∀ k : Fin 256, l k = (if (0 : Fin 256) < k then l k else 0) + (if k = 0 then l 0 else 0) := by
    intro k
    by_cases hk : k = 0
    · subst hk; simp
    · rw [if_neg hk, if_pos (Fin.pos_of_ne_zero hk), add_zero]
  rw [Finset.sum_congr rfl fun k _ => h k, Finset.sum_add_distrib, Finset.sum_ite_eq' Finset.univ (0 : Fin 256) (fun _ => l 0)]
  simp

end Cert.Stick

end
-- ==== Proof.SB.Spec.lean ====
/- The stick-breaking attention of the projected rows, over the reals: eight heads of width 128, the queries in the
   columns from 3072, the keys from 4096, the values from 5120. -/
module

public import proofs.«01_k».proof.Proof.SB.Stick
public import Idealize.ShloMosaic.Lib.Pointwise

@[expose] public section

noncomputable section

namespace Cert.Stick

open Idealize.ShloMosaic Finset

/-- The projected rows. -/
abbrev Rows : Type := (⟨2, ![8192, 6144]⟩ : Shape).Idx → EReal

/-- The entry of row `i` and column `j`. -/
def entry (p : Rows) (i j : ℕ) : EReal := p (ix2 ⟨i % 8192, Nat.mod_lt _ (by decide)⟩ ⟨j % 6144, Nat.mod_lt _ (by decide)⟩)

theorem entry_eq (p : Rows) (i : Fin 8192) (j : Fin 6144) : p (ix2 i j) = entry p i.val j.val :=
  congrArg p (congrArg₂ ix2 (Fin.ext (Nat.mod_eq_of_lt i.isLt).symm) (Fin.ext (Nat.mod_eq_of_lt j.isLt).symm))

/-- The queries and keys are real. -/
def Finite (p : Rows) : Prop := ∀ i j, 3072 ≤ j → j < 5120 → ∃ x : ℝ, entry p i j = x

/-- The reciprocal square root of a head's width. -/
def scale : ℝ := (Ideal.ofBits .f32 0x3DB504F3#32).toReal

theorem scale_eq : Ideal.ofBits .f32 0x3DB504F3#32 = (scale : EReal) := by
  unfold scale
  simp [Ideal.ofBits, Ideal.ieee, -EReal.coe_mul]

/-- The score of query `i` against key `j` in head `h`. -/
def score (p : Rows) (h : Fin 8) (i j : ℕ) : ℝ :=
  ∑ e : Fin 128, (entry p i (3072 + 128 * h.val + e.val)).toReal * scale * (entry p j (4096 + 128 * h.val + e.val)).toReal

theorem sum_coe {ι : Type*} (s : Finset ι) (f : ι → ℝ) : ((∑ k ∈ s, f k : ℝ) : EReal) = ∑ k ∈ s, (f k : EReal) :=
  map_sum (⟨⟨Real.toEReal, EReal.coe_zero⟩, EReal.coe_add⟩ : ℝ →+ EReal) f s

theorem score_eq (p : Rows) (hp : Finite p) (h : Fin 8) (i j : ℕ) :
    ∑ e : Fin 128, entry p i (3072 + 128 * h.val + e.val) * Ideal.ofBits .f32 0x3DB504F3#32 * entry p j (4096 + 128 * h.val + e.val)
      = (score p h i j : EReal) := by
  rw [score, sum_coe]
  refine Finset.sum_congr rfl fun e _ => ?_
  obtain ⟨x, hx⟩ := hp i (3072 + 128 * h.val + e.val) (by omega) (by omega)
  obtain ⟨y, hy⟩ := hp j (4096 + 128 * h.val + e.val) (by omega) (by omega)
  rw [hx, hy, scale_eq, EReal.toReal_coe, EReal.toReal_coe, EReal.coe_mul, EReal.coe_mul]

/-- Column `d` of the values of head `h`. -/
def value (p : Rows) (h : Fin 8) (d : Fin 128) (j : ℕ) : EReal := entry p j (5120 + 128 * h.val + d.val)

/-- The attention's result at row `i`, head `h` and column `d`. -/
def attend (p : Rows) (h : Fin 8) (d : Fin 128) (i : ℕ) : EReal := part (score p h i) i (value p h d) 0

/-- The attention's result: the heads side by side. -/
def result (p : Rows) : (⟨2, ![8192, 1024]⟩ : Shape).Idx → EReal := fun x =>
  attend p ⟨(x 1).val / 128, by have h : (x 1).val < 1024 := (x 1).isLt; omega⟩ ⟨(x 1).val % 128, Nat.mod_lt _ (by decide)⟩ (x 0).val

end Cert.Stick

end
-- ==== Proof.SB.Finite.lean ====
/- The precondition: every query and key is below infinity in absolute value, so it is a real number. -/
module

public import proofs.«01_k».proof.Pre_finite_scores
public import proofs.«01_k».proof.Proof.SB.Spec
public import Idealize.ShloMosaic.Lib.ReduceAll
public import Idealize.ShloMosaic.Lib.Pointwise

@[expose] public section

noncomputable section

namespace Cert.Stick

open Idealize.ShloMosaic Cert.Pre_finite_scores

theorem real_of_lt_top (x : EReal) (h : max x (-x) < ⊤) : ∃ r : ℝ, x = r := by
  induction x with
  | bot => simp at h
  | coe r => exact ⟨r, rfl⟩
  | top => simp at h

theorem by_one (b : Bool) (h : BitVec.ofBool b = 1#1) : b = true := by
  cases b
  · exact absurd h (by decide)
  · rfl

theorem finite_of [Cert.Pre_finite_scores.Facts] (p : Rows) (h : Cert.Pre_finite_scores.fn (F := Ideal) p = fun _ => 1#1) : Finite p := by
  intro i j h1 h2
  dsimp only [Cert.Pre_finite_scores.fn] at h
  have : Subsingleton Cert.Pre_finite_scores.S_.Idx := ⟨fun a b => funext fun k => k.elim0⟩
  have h' := Host.reduce_andi_all _ _ _ _ (fun k => k.elim0) (congrFun h _) (ix2 (n0 := 8192) (n1 := 2048) ⟨i % 8192, Nat.mod_lt _ (by decide)⟩ ⟨j - 3072, by omega⟩)
  revert h'
  pointwise []
  intro h'
  have ht : Ideal.ofBits .f32 0x7F800000#32 = ⊤ := by simp [Ideal.ofBits, Ideal.ieee]
  rw [ht] at h'
  have hlt := of_decide_eq_true (by_one _ h')
  obtain ⟨r, hr⟩ := real_of_lt_top _ hlt
  refine ⟨r, hr ▸ congrArg p (congrArg (ix2 _) (Fin.ext ?_))⟩
  show j % 6144 = 3072 + (j - 3072)
  omega

end Cert.Stick

end
-- ==== Proof.SB.KernelIdeal.Tile.lean ====
/- The arithmetic of one 256 × 256 tile of the stick-breaking attention, as values: the scores of a block of
   queries against a block of keys, the logarithm of what is left of the stick after each key, the weights, and
   the three results of a tile (the weighted values, the carried logarithm, and its maximum over the rows). -/
module

public import proofs.«01_k».proof.Proof.Gen.KernelIdeal
public import proofs.«01_k».proof.Proof.Gen.KernelIdeal.Launch
public import proofs.«01_k».proof.Proof.Gen.KernelIdeal.Points

@[expose] public section

noncomputable section

namespace Cert.KernelIdeal.SB

open Idealize.ShloMosaic Idealize.ShloMosaic.TcCoe
open Idealize.SL.Sem Cert.KernelIdeal.Gen

variable {F : FTy → Type} [FloatOps F]

/-- The queries of one head, scaled by the reciprocal square root of the head's width. -/
def scaledQ (x : Vec F S256x128 .bf16) : FVec F S256x128 .bf16 :=
  truncf .bf16 (mulf (extf .f32 x bitsLt_bf16_f32) (broadcast S256x128 (Scalar.ofBits .f32 0x3DB504F3#32))) bitsLt_bf16_f32

/-- The scores of a block of queries against a block of keys. -/
def scores (q k : FVec F S256x128 .bf16) : FVec F S256x256 .f32 :=
  matmul dot_S256x128_S256x128_S256x256_1_1_0_0_n_n none q k (constant S256x256 .f32 0x00000000#32)

/-- The softplus of the scores. -/
def softplus (z : FVec F S256x256 .f32) : FVec F S256x256 .f32 :=
  addf (maximumf z (broadcast S256x256 (Scalar.ofBits .f32 0x00000000#32)))
    (log (addf (broadcast S256x256 (Scalar.ofBits .f32 0x3F800000#32))
      (exp (subf (broadcast S256x256 (Scalar.ofBits .f32 0x00000000#32)) (absf z)))))

/-- The logarithm of what a key leaves of the stick. -/
def logKeep (z : FVec F S256x256 .f32) : FVec F S256x256 .f32 :=
  subf (broadcast S256x256 (Scalar.ofBits .f32 0x00000000#32)) (softplus z)

/-- The strictly lower triangle of a tile. -/
def lower : IVec S256x256 1 :=
  cmpi .slt (iota .tc S256x256 32 [1] iota_S256x256_d1_w32) (iota .tc S256x256 32 [0] iota_S256x256_d0_w32)

/-- A tile kept on its strictly lower triangle and zero elsewhere. -/
def onLower (x : FVec F S256x256 .f32) : FVec F S256x256 .f32 :=
  select lower x (broadcast S256x256 (Scalar.ofBits .f32 0x00000000#32))

/-- The sums of a tile's logarithms over the later keys of the tile: the product with a triangle of ones,
    of the leading half and the trailing half of each logarithm. -/
def after (u : FVec F S256x256 .bf16) (lk : FVec F S256x256 .f32) : FVec F S256x256 .f32 :=
  addf
    (matmul dot_S256x256_S256x256_S256x256_1_0_0_1_n_n none (truncf .bf16 lk bitsLt_bf16_f32) u (constant S256x256 .f32 0x00000000#32))
    (matmul dot_S256x256_S256x256_S256x256_1_0_0_1_n_n none
      (truncf .bf16 (subf lk (extf .f32 (truncf .bf16 lk bitsLt_bf16_f32) bitsLt_bf16_f32)) bitsLt_bf16_f32) u
      (constant S256x256 .f32 0x00000000#32))

/-- The weights of a tile before any mask. -/
def weights (z r : FVec F S256x256 .f32) (c : FVec F S256x1 .f32) : FVec F S256x256 .f32 :=
  exp (addf (addf (subf z (softplus z)) r) (broadcastTo S256x256 c broadcasts_S256x1_S256x256))

/-- The weighted values of a tile. -/
def weighted (w : FVec F S256x256 .f32) (v : FVec F S256x128 .bf16) : FVec F S256x128 .f32 :=
  matmul dot_S256x256_S256x128_S256x128_1_0_0_1_n_n none (truncf .bf16 w bitsLt_bf16_f32) v (constant S256x128 .f32 0x00000000#32)

/-- The logarithm carried past a tile. -/
def carried (c : FVec F S256x1 .f32) (r lk : FVec F S256x256 .f32) : FVec F S256x1 .f32 :=
  addf (addf c (extractStridedSlice S256x1 ![0, 0] r slices_S256x256_o0_0_S256x1))
    (extractStridedSlice S256x1 ![0, 0] lk slices_S256x256_o0_0_S256x1)

/-- The largest entry of a column of carried logarithms. -/
def rowMax (c : FVec F S256x1 .f32) : F .f32 :=
  extractAt ![0, 0, 0] (shapeCast S1x1x1
    (multiReduction .maximumf [1, 2] S1 (shapeCast S1x256x1 c shapeCasts_S256x1_S1x256x1) 0xFF800000#32 reduces_S1x256x1_S1 (.inl rfl) rfl)
    shapeCasts_S1_S1x1x1) inpos_S1x1x1_p0_0_0

/-- The weighted values of an earlier tile. -/
def offOut (u : FVec F S256x256 .bf16) (q k v : FVec F S256x128 .bf16) (c : FVec F S256x1 .f32) : FVec F S256x128 .f32 :=
  weighted (weights (scores q k) (after u (logKeep (scores q k))) c) v

/-- The logarithm carried past an earlier tile. -/
def offCarry (u : FVec F S256x256 .bf16) (q k : FVec F S256x128 .bf16) (c : FVec F S256x1 .f32) : FVec F S256x1 .f32 :=
  carried c (after u (logKeep (scores q k))) (logKeep (scores q k))

/-- Nothing carried yet. -/
def noCarry : FVec F S256x1 .f32 := broadcast S256x1 (Scalar.ofBits .f32 0x00000000#32)

/-- The weighted values of the tile on the diagonal. -/
def diagOut (u : FVec F S256x256 .bf16) (q k v : FVec F S256x128 .bf16) : FVec F S256x128 .f32 :=
  weighted (onLower (weights (scores q k) (after u (onLower (logKeep (scores q k)))) noCarry)) v

/-- The logarithm carried past the tile on the diagonal. -/
def diagCarry (u : FVec F S256x256 .bf16) (q k : FVec F S256x128 .bf16) : FVec F S256x1 .f32 :=
  carried noCarry (after u (onLower (logKeep (scores q k)))) (onLower (logKeep (scores q k)))

end Cert.KernelIdeal.SB

end
-- ==== Proof.SB.KernelIdeal.Prog.lean ====
/- The kernel's body and its loop, written as one step per head: the printed text, cut every sixty statements,
   is the same program. -/
module

public import proofs.«01_k».proof.Proof.SB.KernelIdeal.Tile

@[expose] public section

set_option maxRecDepth 16384

noncomputable section

namespace Cert.KernelIdeal.SB

open Idealize.ShloMosaic Idealize.ShloMosaic.TcCoe
open Idealize.SL.Sem Cert.KernelIdeal.Gen

variable {F : FTy → Type} [FloatOps F] [Named F]

/-- A program of the kernel's core. -/
abbrev P (F : FTy → Type) (α : Type) := Prog (TpuEff nD τ sig (Elt F) (Λ₀ F) .tc) α

/-- Where the accumulator keeps head `h`, -/
def accOff (h : Fin 8) : Fin 2 → ℕ := ![0, 128 * h.val]
theorem accOff_inb : ∀ (h : Fin 8) (a), accOff h a + S256x128.size a ≤ S256x1024.size a := by decide
/-- where the carried logarithms of head `h` are, -/
def carOff (h : Fin 8) : Fin 3 → ℕ := ![h.val, 0, 0]
theorem carOff_inb : ∀ (h : Fin 8) (a), carOff h a + S1x256x1.size a ≤ S8x256x1.size a := by decide
/-- where the keys (and the values) of tile `j` and head `h` are, the tile a grid point's own -/
def dOff (i : grid0.Coords) (h : Fin 8) : Fin 2 → ℕ :=
  ![(Scalar.indexCast (Scalar.muli (BitVec.ofNat 32 (i 0).val) 256#32) : Index).toNat, 128 * h.val]
theorem dOff_inb : ∀ (i : grid0.Coords) (h : Fin 8) (a), dOff i h a + S256x128.size a ≤ S8192x1024.size a := by decide +kernel
/-- or the loop's. -/
def kOff (j : BitVec 32) (h : Fin 8) : Fin 2 → ℕ :=
  ![(Scalar.indexCast (Scalar.muli j 256#32) : Index).toNat, 128 * h.val]
theorem kOff_inb (j : BitVec 32) (hj : k0_chk1 j) : ∀ (h : Fin 8) (a), kOff j h a + S256x128.size a ≤ S8192x1024.size a
  | 0 => hj.2.1
  | 1 => hj.2.2.1
  | 2 => hj.2.2.2.1
  | 3 => hj.2.2.2.2.1
  | 4 => hj.2.2.2.2.2.1
  | 5 => hj.2.2.2.2.2.2.1
  | 6 => hj.2.2.2.2.2.2.2.1
  | 7 => hj.2.2.2.2.2.2.2.2

/-- One head of an earlier tile: read the tile's keys and values and the head's carried logarithm, add the weighted
    values to the head's columns, carry the logarithm on, and go on with the running maximum. -/
def offHead {α : Type} (arg2 : Memref sig .tc .vmem S8192x1024 .bf16) (arg3 : Memref sig .tc .vmem S8192x1024 .bf16)
    (arg6 : Memref sig .tc .vmem S256x1024 .f32) (arg7 : Memref sig .tc .vmem S8x256x1 .f32)
    (ok : Fin 2 → ℕ) (hk : ∀ a, ok a + S256x128.size a ≤ S8192x1024.size a)
    (h : Fin 8) (u : FVec F S256x256 .bf16) (q : FVec F S256x128 .bf16) (m : F .f32) (k : F .f32 → P F α) : P F α := do
  let kk : Vec F S256x128 .bf16 ← Prog.lift (.load arg2 (Rect.unit (s := S8192x1024) ok S256x128.size hk).toLoadRect (View.loadsAt_vmem h_S256x128))
  let vv : Vec F S256x128 .bf16 ← Prog.lift (.load arg3 (Rect.unit (s := S8192x1024) ok S256x128.size hk).toLoadRect (View.loadsAt_vmem h_S256x128))
  let cc : Vec F S1x256x1 .f32 ← Prog.lift (.load arg7 (Rect.unit (s := S8x256x1) (carOff h) S1x256x1.size (carOff_inb h)).toLoadRect (View.loadsAt_vmem h_S1x256x1))
  let aa : Vec F S256x128 .f32 ← Prog.lift (.load arg6 (Rect.unit (s := S256x1024) (accOff h) S256x128.size (accOff_inb h)).toLoadRect (View.loadsAt_vmem h_S256x128))
  let _ : Vec F S256x128 .f32 ← Prog.lift (.load arg6 (Rect.unit (s := S256x1024) (accOff h) S256x128.size (accOff_inb h)).toLoadRect (View.loadsAt_vmem h_S256x128))
  Prog.lift (.store arg6 (Rect.unit (s := S256x1024) (accOff h) S256x128.size (accOff_inb h))
    (shapeCast S256x128 (addf aa (offOut u q kk vv (shapeCast S256x1 cc shapeCasts_S1x256x1_S256x1))) shapeCasts_S256x128_S256x128)
    Finset.univ (View.stores_vmem_bits_univ h_S256x128 rfl) (.inl rfl))
  let _ : Vec F S1x256x1 .f32 ← Prog.lift (.load arg7 (Rect.unit (s := S8x256x1) (carOff h) S1x256x1.size (carOff_inb h)).toLoadRect (View.loadsAt_vmem h_S1x256x1))
  Prog.lift (.store arg7 (Rect.unit (s := S8x256x1) (carOff h) S1x256x1.size (carOff_inb h))
    (shapeCast S1x256x1 (offCarry u q kk (shapeCast S256x1 cc shapeCasts_S1x256x1_S256x1)) shapeCasts_S256x1_S1x256x1)
    Finset.univ (View.stores_vmem_bits_univ h_S1x256x1 rfl) (.inl rfl))
  k (Scalar.maximumf m (rowMax (offCarry u q kk (shapeCast S256x1 cc shapeCasts_S1x256x1_S256x1))))

/-- One head of the diagonal tile: as above, nothing carried in, and the head's columns set rather than added to. -/
def diagHead {α : Type} (arg2 : Memref sig .tc .vmem S8192x1024 .bf16) (arg3 : Memref sig .tc .vmem S8192x1024 .bf16)
    (arg6 : Memref sig .tc .vmem S256x1024 .f32) (arg7 : Memref sig .tc .vmem S8x256x1 .f32)
    (ok : Fin 2 → ℕ) (hk : ∀ a, ok a + S256x128.size a ≤ S8192x1024.size a)
    (h : Fin 8) (u : FVec F S256x256 .bf16) (q : FVec F S256x128 .bf16) (m : F .f32) (k : F .f32 → P F α) : P F α := do
  let kk : Vec F S256x128 .bf16 ← Prog.lift (.load arg2 (Rect.unit (s := S8192x1024) ok S256x128.size hk).toLoadRect (View.loadsAt_vmem h_S256x128))
  let vv : Vec F S256x128 .bf16 ← Prog.lift (.load arg3 (Rect.unit (s := S8192x1024) ok S256x128.size hk).toLoadRect (View.loadsAt_vmem h_S256x128))
  let _ : Vec F S256x128 .f32 ← Prog.lift (.load arg6 (Rect.unit (s := S256x1024) (accOff h) S256x128.size (accOff_inb h)).toLoadRect (View.loadsAt_vmem h_S256x128))
  Prog.lift (.store arg6 (Rect.unit (s := S256x1024) (accOff h) S256x128.size (accOff_inb h))
    (shapeCast S256x128 (diagOut u q kk vv) shapeCasts_S256x128_S256x128)
    Finset.univ (View.stores_vmem_bits_univ h_S256x128 rfl) (.inl rfl))
  let _ : Vec F S1x256x1 .f32 ← Prog.lift (.load arg7 (Rect.unit (s := S8x256x1) (carOff h) S1x256x1.size (carOff_inb h)).toLoadRect (View.loadsAt_vmem h_S1x256x1))
  Prog.lift (.store arg7 (Rect.unit (s := S8x256x1) (carOff h) S1x256x1.size (carOff_inb h))
    (shapeCast S1x256x1 (diagCarry u q kk) shapeCasts_S256x1_S1x256x1)
    Finset.univ (View.stores_vmem_bits_univ h_S1x256x1 rfl) (.inl rfl))
  k (Scalar.maximumf m (rowMax (diagCarry u q kk)))

/-- The running maximum before the first head. -/
def negInf : F .f32 := Scalar.ofBits .f32 0xFF800000#32

/-- One trip of the loop over the earlier tiles: the eight heads in turn. -/
def trip {α : Type} (arg2 arg3 : Memref sig .tc .vmem S8192x1024 .bf16)
    (arg6 : Memref sig .tc .vmem S256x1024 .f32) (arg7 : Memref sig .tc .vmem S8x256x1 .f32)
    (u : FVec F S256x256 .bf16) (q : Fin 8 → FVec F S256x128 .bf16) (j : BitVec 32) (hj : k0_chk1 j)
    (k : F .f32 → P F α) : P F α :=
  offHead arg2 arg3 arg6 arg7 (kOff j 0) (kOff_inb j hj 0) 0 u (q 0) negInf fun m =>
  offHead arg2 arg3 arg6 arg7 (kOff j 1) (kOff_inb j hj 1) 1 u (q 1) m fun m =>
  offHead arg2 arg3 arg6 arg7 (kOff j 2) (kOff_inb j hj 2) 2 u (q 2) m fun m =>
  offHead arg2 arg3 arg6 arg7 (kOff j 3) (kOff_inb j hj 3) 3 u (q 3) m fun m =>
  offHead arg2 arg3 arg6 arg7 (kOff j 4) (kOff_inb j hj 4) 4 u (q 4) m fun m =>
  offHead arg2 arg3 arg6 arg7 (kOff j 5) (kOff_inb j hj 5) 5 u (q 5) m fun m =>
  offHead arg2 arg3 arg6 arg7 (kOff j 6) (kOff_inb j hj 6) 6 u (q 6) m fun m =>
  offHead arg2 arg3 arg6 arg7 (kOff j 7) (kOff_inb j hj 7) 7 u (q 7) m k

/-- The loop over the earlier tiles, from the tile `j` down, while the running maximum is above the bound. -/
def loop (i : grid0.Coords) (arg2 : Memref sig .tc .vmem S8192x1024 .bf16) (harg2 : arg2.IsWhole) (arg3 : Memref sig .tc .vmem S8192x1024 .bf16) (harg3 : arg3.IsWhole)
    (arg7 : Memref sig .tc .vmem S8x256x1 .f32) (harg7 : arg7.IsWhole) (arg6 : Memref sig .tc .vmem S256x1024 .f32) (harg6 : arg6.IsWhole)
    (u : FVec F S256x256 .bf16) (q : Fin 8 → FVec F S256x128 .bf16) (j : BitVec 32) (m : F .f32) :
    P F (BitVec 32 × F .f32) :=
  if Scalar.andi (Scalar.cmpi .sge j 0#32) (Scalar.cmpf .ogt m (Named.named κ "skip" 0xC2DC0000#32)) = 1#1 then do
    have hj : k0_chk1 j := (← Prog.lift (TpuEff.assume (k0_chk1 j) (k0_chk1.dec j))).down
    trip arg2 arg3 arg6 arg7 u q j hj fun m' =>
      Prog.lift (.call (1 : (Λ₀ F).Label) ⟨i, arg2, harg2, arg3, harg3, arg7, harg7, q 0, u, arg6, harg6, q 1, q 2, q 3, q 4, q 5, q 6, q 7, Scalar.subi j 1#32, m'⟩)
  else pure (j, m)

theorem loop_eq (i : grid0.Coords) (arg2 : Memref sig .tc .vmem S8192x1024 .bf16) (harg2 : arg2.IsWhole) (arg3 : Memref sig .tc .vmem S8192x1024 .bf16) (harg3 : arg3.IsWhole)
    (arg7 : Memref sig .tc .vmem S8x256x1 .f32) (harg7 : arg7.IsWhole) (arg6 : Memref sig .tc .vmem S256x1024 .f32) (harg6 : arg6.IsWhole)
    (u : FVec F S256x256 .bf16) (q : Fin 8 → FVec F S256x128 .bf16) (j : BitVec 32) (m : F .f32) :
    cc0_while1 i arg2 harg2 arg3 harg3 arg7 harg7 (q 0) u arg6 harg6 (q 1) (q 2) (q 3) (q 4) (q 5) (q 6) (q 7) j m
      = loop i arg2 harg2 arg3 harg3 arg7 harg7 arg6 harg6 u q j m := by
  chain_rfl

/-- One head's queries, as the body reads and scales them. -/
def readQ {α : Type} (arg1 : Memref sig .tc .vmem S256x1024 .bf16) (h : Fin 8)
    (k : FVec F S256x128 .bf16 → P F α) : P F α := do
  let x : Vec F S256x128 .bf16 ← Prog.lift (.load arg1 (Rect.unit (s := S256x1024) (accOff h) S256x128.size (accOff_inb h)).toLoadRect (View.loadsAt_vmem h_S256x128))
  k (scaledQ x)

/-- The diagonal tile: the eight heads in turn. -/
def diag {α : Type} (arg2 arg3 : Memref sig .tc .vmem S8192x1024 .bf16)
    (arg6 : Memref sig .tc .vmem S256x1024 .f32) (arg7 : Memref sig .tc .vmem S8x256x1 .f32)
    (u : FVec F S256x256 .bf16) (q : Fin 8 → FVec F S256x128 .bf16) (i : grid0.Coords)
    (k : F .f32 → P F α) : P F α :=
  diagHead arg2 arg3 arg6 arg7 (dOff i 0) (dOff_inb i 0) 0 u (q 0) negInf fun m =>
  diagHead arg2 arg3 arg6 arg7 (dOff i 1) (dOff_inb i 1) 1 u (q 1) m fun m =>
  diagHead arg2 arg3 arg6 arg7 (dOff i 2) (dOff_inb i 2) 2 u (q 2) m fun m =>
  diagHead arg2 arg3 arg6 arg7 (dOff i 3) (dOff_inb i 3) 3 u (q 3) m fun m =>
  diagHead arg2 arg3 arg6 arg7 (dOff i 4) (dOff_inb i 4) 4 u (q 4) m fun m =>
  diagHead arg2 arg3 arg6 arg7 (dOff i 5) (dOff_inb i 5) 5 u (q 5) m fun m =>
  diagHead arg2 arg3 arg6 arg7 (dOff i 6) (dOff_inb i 6) 6 u (q 6) m fun m =>
  diagHead arg2 arg3 arg6 arg7 (dOff i 7) (dOff_inb i 7) 7 u (q 7) m k

/-- What the body writes at the end: the accumulator, rounded. -/
def finish (arg5 : Memref sig .tc .vmem S256x1024 .bf16) (harg5 : arg5.IsWhole) (arg6 : Memref sig .tc .vmem S256x1024 .f32) : P F PUnit := do
  let x : Vec F S256x1024 .f32 ← Prog.lift (.load arg6 (Rect.unit (s := S256x1024) ![0, 0] S256x1024.size inb_S256x1024_S256x1024_0_0).toLoadRect (View.loadsAt_vmem h_S256x1024))
  let _ : Vec F S256x1024 .bf16 ← Prog.lift (.load arg5 (Rect.unit (s := S256x1024) ![0, 0] S256x1024.size inb_S256x1024_S256x1024_0_0).toLoadRect (View.loadsAt_vmem h_S256x1024))
  Prog.lift (.store arg5 (Rect.unit (s := S256x1024) ![0, 0] S256x1024.size inb_S256x1024_S256x1024_0_0) (truncf .bf16 x bitsLt_bf16_f32) Finset.univ (View.stores_vmem h_S256x1024 (harg5.storeExact_slice rfl _ packedbf16_S256x1024_S256x1024_0_0) (fun _ => rfl)) (.inl rfl))
  pure ⟨⟩

/-- The kernel's body. -/
def body (i : grid0.Coords) (arg1 : Memref sig .tc .vmem S256x1024 .bf16) (harg1 : arg1.IsWhole) (arg2 : Memref sig .tc .vmem S8192x1024 .bf16) (harg2 : arg2.IsWhole)
    (arg3 : Memref sig .tc .vmem S8192x1024 .bf16) (harg3 : arg3.IsWhole) (arg4 : Memref sig .tc .vmem S256x256 .bf16) (harg4 : arg4.IsWhole)
    (arg5 : Memref sig .tc .vmem S256x1024 .bf16) (harg5 : arg5.IsWhole) (arg6 : Memref sig .tc .vmem S256x1024 .f32) (harg6 : arg6.IsWhole)
    (arg7 : Memref sig .tc .vmem S8x256x1 .f32) (harg7 : arg7.IsWhole) : P F PUnit := do
  let u0 : Vec F S256x256 .bf16 ← Prog.lift (.load arg4 (Rect.unit (s := S256x256) ![0, 0] S256x256.size inb_S256x256_S256x256_0_0).toLoadRect (View.loadsAt_vmem h_S256x256))
  readQ arg1 0 fun q0 => readQ arg1 1 fun q1 =>
    readQ arg1 2 fun q2 => readQ arg1 3 fun q3 =>
    readQ arg1 4 fun q4 => readQ arg1 5 fun q5 =>
    readQ arg1 6 fun q6 => readQ arg1 7 fun q7 =>
    diag arg2 arg3 arg6 arg7 (shapeCast S256x256 u0 shapeCasts_S256x256_S256x256) ![q0, q1, q2, q3, q4, q5, q6, q7] i fun m => do
      let _ : BitVec 32 × F .f32 ← Prog.lift (.call (1 : (Λ₀ F).Label) ⟨i, arg2, harg2, arg3, harg3, arg7, harg7, q0,
        shapeCast S256x256 u0 shapeCasts_S256x256_S256x256, arg6, harg6, q1, q2, q3, q4, q5, q6, q7,
        Scalar.subi (BitVec.ofNat 32 (i 0).val) 1#32, m⟩)
      finish arg5 harg5 arg6

theorem body_eq (i : grid0.Coords) (arg1 : Memref sig .tc .vmem S256x1024 .bf16) (harg1 : arg1.IsWhole) (arg2 : Memref sig .tc .vmem S8192x1024 .bf16) (harg2 : arg2.IsWhole)
    (arg3 : Memref sig .tc .vmem S8192x1024 .bf16) (harg3 : arg3.IsWhole) (arg4 : Memref sig .tc .vmem S256x256 .bf16) (harg4 : arg4.IsWhole)
    (arg5 : Memref sig .tc .vmem S256x1024 .bf16) (harg5 : arg5.IsWhole) (arg6 : Memref sig .tc .vmem S256x1024 .f32) (harg6 : arg6.IsWhole)
    (arg7 : Memref sig .tc .vmem S8x256x1 .f32) (harg7 : arg7.IsWhole) :
    cc0_sb_attention (F := F) i arg1 harg1 arg2 harg2 arg3 harg3 arg4 harg4 arg5 harg5 arg6 harg6 arg7 harg7
      = body i arg1 harg1 arg2 harg2 arg3 harg3 arg4 harg4 arg5 harg5 arg6 harg6 arg7 harg7 := by
  chain_rfl

end Cert.KernelIdeal.SB

end
-- ==== Proof.SB.KernelIdeal.Step.lean ====
/- What the kernel's steps do to its two scratch buffers and to the running maximum, and the rules by which the
   body's steps are run: each step holds the keys and the values, and takes the scratch buffers from one state to
   the next. -/
module

public import proofs.«01_k».proof.Proof.SB.KernelIdeal.Prog
public import Idealize.ShloMosaic.Lib.Pipeline.FrameBody
public import Idealize.ShloMosaic.Lib.Ring
public import Idealize.ShloMosaic.Lib.Tactic

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

/-! ## The states -/

section State

variable {F : FTy → Type} [FloatOps F]

/-- The accumulator, the carried logarithms, and the running maximum. -/
structure St (F : FTy → Type) where
  acc : S256x1024.Idx → Elt F .f32
  car : S8x256x1.Idx → Elt F .f32
  top : F .f32

/-- The columns of the accumulator that are head `h`'s. -/
abbrev accR (h : Fin 8) : Rect S256x1024 := Rect.unit (s := S256x1024) (accOff h) S256x128.size (accOff_inb h)
/-- The carried logarithms that are head `h`'s. -/
abbrev carR (h : Fin 8) : Rect S8x256x1 := Rect.unit (s := S8x256x1) (carOff h) S1x256x1.size (carOff_inb h)

/-- The carried logarithms of head `h`, as a column. -/
def carOf (C : S8x256x1.Idx → Elt F .f32) (h : Fin 8) : FVec F S256x1 .f32 :=
  shapeCast S256x1 ((fun x => C ((carR h).emb x)) : Vec F S1x256x1 .f32) shapeCasts_S1x256x1_S256x1

/-- One head of an earlier tile. -/
def offStep (u : FVec F S256x256 .bf16) (q kk vv : FVec F S256x128 .bf16) (h : Fin 8) (s : St F) : St F where
  acc := (accR h).overlay s.acc (shapeCast S256x128 (addf ((fun x => s.acc ((accR h).emb x)) : Vec F S256x128 .f32) (offOut u q kk vv (carOf s.car h))) shapeCasts_S256x128_S256x128)
  car := (carR h).overlay s.car (shapeCast S1x256x1 (offCarry u q kk (carOf s.car h)) shapeCasts_S256x1_S1x256x1)
  top := Scalar.maximumf s.top (rowMax (offCarry u q kk (carOf s.car h)))

/-- One head of the diagonal tile. -/
def diagStep (u : FVec F S256x256 .bf16) (q kk vv : FVec F S256x128 .bf16) (h : Fin 8) (s : St F) : St F where
  acc := (accR h).overlay s.acc (shapeCast S256x128 (diagOut u q kk vv) shapeCasts_S256x128_S256x128)
  car := (carR h).overlay s.car (shapeCast S1x256x1 (diagCarry u q kk) shapeCasts_S256x1_S1x256x1)
  top := Scalar.maximumf s.top (rowMax (diagCarry u q kk))

/-- The eight heads of an earlier tile. -/
def tripS (u : FVec F S256x256 .bf16) (q kk vv : Fin 8 → FVec F S256x128 .bf16) (s : St F) : St F :=
  offStep u (q 7) (kk 7) (vv 7) 7 <| offStep u (q 6) (kk 6) (vv 6) 6 <| offStep u (q 5) (kk 5) (vv 5) 5 <|
    offStep u (q 4) (kk 4) (vv 4) 4 <| offStep u (q 3) (kk 3) (vv 3) 3 <| offStep u (q 2) (kk 2) (vv 2) 2 <|
    offStep u (q 1) (kk 1) (vv 1) 1 <| offStep u (q 0) (kk 0) (vv 0) 0 ⟨s.acc, s.car, negInf⟩

/-- The eight heads of the diagonal tile. -/
def diagS (u : FVec F S256x256 .bf16) (q kk vv : Fin 8 → FVec F S256x128 .bf16) (s : St F) : St F :=
  diagStep u (q 7) (kk 7) (vv 7) 7 <| diagStep u (q 6) (kk 6) (vv 6) 6 <| diagStep u (q 5) (kk 5) (vv 5) 5 <|
    diagStep u (q 4) (kk 4) (vv 4) 4 <| diagStep u (q 3) (kk 3) (vv 3) 3 <| diagStep u (q 2) (kk 2) (vv 2) 2 <|
    diagStep u (q 1) (kk 1) (vv 1) 1 <| diagStep u (q 0) (kk 0) (vv 0) 0 ⟨s.acc, s.car, negInf⟩

/-- The block of 256 rows from row `256 j` and 128 columns from column `128 h`. -/
def blk (X : S8192x1024.Idx → Elt F .bf16) (j : ℕ) (h : Fin 8) : FVec F S256x128 .bf16 :=
  fun x => X (fun a => ⟨((![256 * j, 128 * h.val] : Fin 2 → ℕ) a + (x a).val) % S8192x1024.size a,
    Nat.mod_lt _ ((show ∀ a, 0 < S8192x1024.size a by decide) a)⟩)

/-- A block read through its rectangle. -/
theorem blk_eq (X : S8192x1024.Idx → Elt F .bf16) (j : ℕ) (h : Fin 8) (o : Fin 2 → ℕ) (ho : o = ![256 * j, 128 * h.val])
    (hi : ∀ a, o a + S256x128.size a ≤ S8192x1024.size a) :
    (fun x => X ((Rect.unit (s := S8192x1024) o S256x128.size hi).emb x)) = blk X j h := by
  subst ho
  funext x
  refine congrArg X (funext fun a => Fin.ext ?_)
  have h1 := hi a
  have h2 : (x a).val < S256x128.size a := (x a).isLt
  show (![256 * j, 128 * h.val] : Fin 2 → ℕ) a + 1 * (x a).val = (_ + _) % _
  rw [one_mul, Nat.mod_eq_of_lt (by omega)]

end State

/-- The loop with `n` tiles left, from state `s`: it stops early when the running maximum is not above the bound. -/
def loopS {F : FTy → Type} [FloatOps F] [Named F] (u : FVec F S256x256 .bf16) (q : Fin 8 → FVec F S256x128 .bf16)
    (kk vv : ℕ → Fin 8 → FVec F S256x128 .bf16) : ℕ → St F → St F
  | 0, s => s
  | n + 1, s => if Scalar.cmpf .ogt s.top (Named.named κ "skip" 0xC2DC0000#32 : F .f32) = 1#1
      then loopS u q kk vv n (tripS u q (kk n) (vv n) s) else s

/-! ## The rules -/

variable {F : FTy → Type} [FloatOps F] [Named F]

local notation "𝕄" => MT nD τ sig Unit (Elt F) ℕ (UR sig nD τ) ℕ

section Access

variable {α : Type} (𝒱 : Variants) (c : Dev nD) (bd : Option 𝒱.V) (E : Set ℕ)
  {cs : CoreSpace} {s : Shape} {e : EltTy} {M : Memref sig .tc cs s e} {r : Rect s}

/-- A load of a rectangle of a memref held at `X` reads `X` there. -/
theorem load_owns {K : α → sProp 𝕄} {hl : M.view.LoadsAt r.toLoadRect} {k : (r.shape.Idx → Elt F e) → P F α} {q : PosShare TreeShare} {X : s.Idx → Elt F e} :
    (owns (c : Thread nD τ) M q X : sProp 𝕄)
      ⊢ iprop((owns (c : Thread nD τ) M q X -∗ wp frame (wpE (defs₀ (F := F)) 𝒱 (c : Thread nD τ) bd) E (k fun x => X (r.emb x)) K)
        -∗ wp frame (wpE (defs₀ (F := F)) 𝒱 (c : Thread nD τ) bd) E (.op (.load M r.toLoadRect hl) k) K) := by
  unfold owns
  iintro ⟨%f, %hf, H⟩ Hk
  subst hf
  iapply (wp_load_rect 𝒱 (c : Thread nD τ) bd E (m := M) (r := r) (M.view.set_slice_subset r)) $$ H
  iintro H
  iapply Hk
  iexists f
  isplitr; · ipureintro; rfl
  iexact H

/-- A store over a rectangle of a memref held at `X` leaves `X` with the value laid over it there. -/
theorem store_owns {K : α → sProp 𝕄} {w : r.shape.Idx → Elt F e} {hx : (M.access r).Stores Finset.univ} {hm : (Finset.univ : Finset r.shape.Idx) = Finset.univ ∨ ∀ a, r.stride a = 1}
    {k : PUnit → P F α} {X : s.Idx → Elt F e} :
    (owns (c : Thread nD τ) M fullShare X : sProp 𝕄)
      ⊢ iprop((owns (c : Thread nD τ) M fullShare (r.overlay X w) -∗ wp frame (wpE (defs₀ (F := F)) 𝒱 (c : Thread nD τ) bd) E (k ⟨⟩) K)
        -∗ wp frame (wpE (defs₀ (F := F)) 𝒱 (c : Thread nD τ) bd) E (.op (.store M r w Finset.univ hx hm) k) K) := by
  unfold owns
  iintro ⟨%f, %hf, H⟩ Hk
  subst hf
  iapply (wp_store 𝒱 (c : Thread nD τ) bd E (m := M) (r := r) (w := w) (Mk := Finset.univ) (M.view.set_slice_subset r)) $$ H
  iintro H
  iapply Hk
  iexists ((M.access r).write (Elt F) f w Finset.univ)
  isplitr
  · ipureintro
    funext j
    by_cases hj : j ∈ r.set
    · obtain ⟨i, rfl⟩ := r.exists_idx_of_mem hj
      rw [show r.overlay (M.view.read (Elt F) f) w (r.idx i) = w i from r.overlay_emb _ _ i]
      exact M.view.read_slice_write_emb r f w (Finset.mem_univ i)
    · rw [r.overlay_of_not_mem _ _ hj]
      exact M.view.read_slice_write_of_not_mem r f w Finset.univ (by rw [Rect.map_emb_univ]; exact hj)
  iexact H

end Access

variable (𝒱 : Variants) (c : Dev nD) (bd : Option 𝒱.V) (E : Set ℕ)
  (arg2 : Memref sig .tc .vmem S8192x1024 .bf16) (arg3 : Memref sig .tc .vmem S8192x1024 .bf16)
  (arg6 : Memref sig .tc .vmem S256x1024 .f32) (arg7 : Memref sig .tc .vmem S8x256x1 .f32)
  (X Y : S8192x1024.Idx → Elt F .bf16)

/-- The keys and the values held, and the two scratch buffers at a state. -/
def held (s : St F) : sProp 𝕄 :=
  iprop(owns (c : Thread nD τ) arg2 fullShare X ∗ owns (c : Thread nD τ) arg3 fullShare Y
    ∗ owns (c : Thread nD τ) arg6 fullShare s.acc ∗ owns (c : Thread nD τ) arg7 fullShare s.car)

/-- One head of an earlier tile takes the state one step. -/
theorem offHead_run {α : Type} {K : α → sProp 𝕄} (ok : Fin 2 → ℕ) (hk : ∀ a, ok a + S256x128.size a ≤ S8192x1024.size a) (h : Fin 8)
    (u : FVec F S256x256 .bf16) (q : FVec F S256x128 .bf16) (k : F .f32 → P F α) (j : ℕ) (ho : ok = ![256 * j, 128 * h.val]) (s : St F) :
    iprop(held c arg2 arg3 arg6 arg7 X Y s ∗ (held c arg2 arg3 arg6 arg7 X Y (offStep u q (blk X j h) (blk Y j h) h s)
        -∗ wp frame (wpE (defs₀ (F := F)) 𝒱 (c : Thread nD τ) bd) E (k (offStep u q (blk X j h) (blk Y j h) h s).top) K))
      ⊢ wp frame (wpE (defs₀ (F := F)) 𝒱 (c : Thread nD τ) bd) E (offHead arg2 arg3 arg6 arg7 ok hk h u q s.top k) K := by
  unfold offHead
  simp only [Prog.lift, Prog.bind_op, Prog.bind_ret, Prog.pure_eq_ret]
  rw [← blk_eq X j h ok ho hk, ← blk_eq Y j h ok ho hk]
  unfold held
  iintro ⟨⟨H2, H3, H6, H7⟩, Hk⟩
  iapply (load_owns 𝒱 c bd E (M := arg2)) $$ H2; iintro H2
  iapply (load_owns 𝒱 c bd E (M := arg3)) $$ H3; iintro H3
  iapply (load_owns 𝒱 c bd E (M := arg7)) $$ H7; iintro H7
  iapply (load_owns 𝒱 c bd E (M := arg6)) $$ H6; iintro H6
  iapply (load_owns 𝒱 c bd E (M := arg6)) $$ H6; iintro H6
  iapply (store_owns 𝒱 c bd E (M := arg6)) $$ H6; iintro H6
  iapply (load_owns 𝒱 c bd E (M := arg7)) $$ H7; iintro H7
  iapply (store_owns 𝒱 c bd E (M := arg7)) $$ H7; iintro H7
  iapply Hk
  isplitl [H2]; · iexact H2
  isplitl [H3]; · iexact H3
  isplitl [H6]; · iexact H6
  iexact H7

/-- One head of the diagonal tile takes the state one step. -/
theorem diagHead_run {α : Type} {K : α → sProp 𝕄} (ok : Fin 2 → ℕ) (hk : ∀ a, ok a + S256x128.size a ≤ S8192x1024.size a) (h : Fin 8)
    (u : FVec F S256x256 .bf16) (q : FVec F S256x128 .bf16) (k : F .f32 → P F α) (j : ℕ) (ho : ok = ![256 * j, 128 * h.val]) (s : St F) :
    iprop(held c arg2 arg3 arg6 arg7 X Y s ∗ (held c arg2 arg3 arg6 arg7 X Y (diagStep u q (blk X j h) (blk Y j h) h s)
        -∗ wp frame (wpE (defs₀ (F := F)) 𝒱 (c : Thread nD τ) bd) E (k (diagStep u q (blk X j h) (blk Y j h) h s).top) K))
      ⊢ wp frame (wpE (defs₀ (F := F)) 𝒱 (c : Thread nD τ) bd) E (diagHead arg2 arg3 arg6 arg7 ok hk h u q s.top k) K := by
  unfold diagHead
  simp only [Prog.lift, Prog.bind_op, Prog.bind_ret, Prog.pure_eq_ret]
  rw [← blk_eq X j h ok ho hk, ← blk_eq Y j h ok ho hk]
  unfold held
  iintro ⟨⟨H2, H3, H6, H7⟩, Hk⟩
  iapply (load_owns 𝒱 c bd E (M := arg2)) $$ H2; iintro H2
  iapply (load_owns 𝒱 c bd E (M := arg3)) $$ H3; iintro H3
  iapply (load_owns 𝒱 c bd E (M := arg6)) $$ H6; iintro H6
  iapply (store_owns 𝒱 c bd E (M := arg6)) $$ H6; iintro H6
  iapply (load_owns 𝒱 c bd E (M := arg7)) $$ H7; iintro H7
  iapply (store_owns 𝒱 c bd E (M := arg7)) $$ H7; iintro H7
  iapply Hk
  isplitl [H2]; · iexact H2
  isplitl [H3]; · iexact H3
  isplitl [H6]; · iexact H6
  iexact H7

/-- A trip of the loop takes the state through the tile's eight heads. -/
theorem trip_run {α : Type} {K : α → sProp 𝕄} (u : FVec F S256x256 .bf16) (q : Fin 8 → FVec F S256x128 .bf16) (w : BitVec 32) (hw : k0_chk1 w)
    (k : F .f32 → P F α) (j : ℕ) (ho : ∀ h, kOff w h = ![256 * j, 128 * h.val]) (s : St F) :
    iprop(held c arg2 arg3 arg6 arg7 X Y s ∗ (held c arg2 arg3 arg6 arg7 X Y (tripS u q (blk X j) (blk Y j) s)
        -∗ wp frame (wpE (defs₀ (F := F)) 𝒱 (c : Thread nD τ) bd) E (k (tripS u q (blk X j) (blk Y j) s).top) K))
      ⊢ wp frame (wpE (defs₀ (F := F)) 𝒱 (c : Thread nD τ) bd) E (trip arg2 arg3 arg6 arg7 u q w hw k) K := by
  unfold trip
  iintro ⟨H, Hk⟩
  iapply (offHead_run 𝒱 c bd E arg2 arg3 arg6 arg7 X Y (kOff w 0) (kOff_inb w hw 0) 0 u (q 0) _ j (ho 0) ⟨s.acc, s.car, negInf⟩)
  isplitl [H]; · iexact H
  iintro H
  iapply (offHead_run 𝒱 c bd E arg2 arg3 arg6 arg7 X Y (kOff w 1) (kOff_inb w hw 1) 1 u (q 1) _ j (ho 1)); isplitl [H]; · iexact H
  iintro H
  iapply (offHead_run 𝒱 c bd E arg2 arg3 arg6 arg7 X Y (kOff w 2) (kOff_inb w hw 2) 2 u (q 2) _ j (ho 2)); isplitl [H]; · iexact H
  iintro H
  iapply (offHead_run 𝒱 c bd E arg2 arg3 arg6 arg7 X Y (kOff w 3) (kOff_inb w hw 3) 3 u (q 3) _ j (ho 3)); isplitl [H]; · iexact H
  iintro H
  iapply (offHead_run 𝒱 c bd E arg2 arg3 arg6 arg7 X Y (kOff w 4) (kOff_inb w hw 4) 4 u (q 4) _ j (ho 4)); isplitl [H]; · iexact H
  iintro H
  iapply (offHead_run 𝒱 c bd E arg2 arg3 arg6 arg7 X Y (kOff w 5) (kOff_inb w hw 5) 5 u (q 5) _ j (ho 5)); isplitl [H]; · iexact H
  iintro H
  iapply (offHead_run 𝒱 c bd E arg2 arg3 arg6 arg7 X Y (kOff w 6) (kOff_inb w hw 6) 6 u (q 6) _ j (ho 6)); isplitl [H]; · iexact H
  iintro H
  iapply (offHead_run 𝒱 c bd E arg2 arg3 arg6 arg7 X Y (kOff w 7) (kOff_inb w hw 7) 7 u (q 7) _ j (ho 7)); isplitl [H]; · iexact H
  iintro H
  iapply Hk
  iexact H

/-- The diagonal tile takes the state through its eight heads. -/
theorem diag_run {α : Type} {K : α → sProp 𝕄} (u : FVec F S256x256 .bf16) (q : Fin 8 → FVec F S256x128 .bf16) (i : grid0.Coords)
    (k : F .f32 → P F α) (j : ℕ) (ho : ∀ h, dOff i h = ![256 * j, 128 * h.val]) (s : St F) :
    iprop(held c arg2 arg3 arg6 arg7 X Y s ∗ (held c arg2 arg3 arg6 arg7 X Y (diagS u q (blk X j) (blk Y j) s)
        -∗ wp frame (wpE (defs₀ (F := F)) 𝒱 (c : Thread nD τ) bd) E (k (diagS u q (blk X j) (blk Y j) s).top) K))
      ⊢ wp frame (wpE (defs₀ (F := F)) 𝒱 (c : Thread nD τ) bd) E (diag arg2 arg3 arg6 arg7 u q i k) K := by
  unfold diag
  iintro ⟨H, Hk⟩
  iapply (diagHead_run 𝒱 c bd E arg2 arg3 arg6 arg7 X Y (dOff i 0) (dOff_inb i 0) 0 u (q 0) _ j (ho 0) ⟨s.acc, s.car, negInf⟩)
  isplitl [H]; · iexact H
  iintro H
  iapply (diagHead_run 𝒱 c bd E arg2 arg3 arg6 arg7 X Y (dOff i 1) (dOff_inb i 1) 1 u (q 1) _ j (ho 1)); isplitl [H]; · iexact H
  iintro H
  iapply (diagHead_run 𝒱 c bd E arg2 arg3 arg6 arg7 X Y (dOff i 2) (dOff_inb i 2) 2 u (q 2) _ j (ho 2)); isplitl [H]; · iexact H
  iintro H
  iapply (diagHead_run 𝒱 c bd E arg2 arg3 arg6 arg7 X Y (dOff i 3) (dOff_inb i 3) 3 u (q 3) _ j (ho 3)); isplitl [H]; · iexact H
  iintro H
  iapply (diagHead_run 𝒱 c bd E arg2 arg3 arg6 arg7 X Y (dOff i 4) (dOff_inb i 4) 4 u (q 4) _ j (ho 4)); isplitl [H]; · iexact H
  iintro H
  iapply (diagHead_run 𝒱 c bd E arg2 arg3 arg6 arg7 X Y (dOff i 5) (dOff_inb i 5) 5 u (q 5) _ j (ho 5)); isplitl [H]; · iexact H
  iintro H
  iapply (diagHead_run 𝒱 c bd E arg2 arg3 arg6 arg7 X Y (dOff i 6) (dOff_inb i 6) 6 u (q 6) _ j (ho 6)); isplitl [H]; · iexact H
  iintro H
  iapply (diagHead_run 𝒱 c bd E arg2 arg3 arg6 arg7 X Y (dOff i 7) (dOff_inb i 7) 7 u (q 7) _ j (ho 7)); isplitl [H]; · iexact H
  iintro H
  iapply Hk
  iexact H

end Cert.KernelIdeal.SB

end
-- ==== Proof.SB.KernelIdeal.Cover.lean ====
/- The eight heads of a tile in closed form: each head's step writes only that head's columns of the accumulator
   and that head's carried logarithms, so after the eight every entry has been written by its own head's step. In
   particular the diagonal tile leaves nothing of what the scratch buffers held before it. -/
module

public import proofs.«01_k».proof.Proof.SB.KernelIdeal.Step
public import Idealize.ShloMosaic.Lib.Pipeline.Value

@[expose] public section

set_option maxRecDepth 16384

noncomputable section

namespace Cert.KernelIdeal.SB

open Idealize.ShloMosaic Idealize.ShloMosaic.TcCoe
open Idealize.SL.Sem Cert.KernelIdeal.Gen

variable {F : FTy → Type} [FloatOps F]

/-- The head a column of the accumulator belongs to. -/
def headA (x : S256x1024.Idx) : Fin 8 := ⟨(x 1).val / 128, by have h : (x 1).val < 1024 := (x 1).isLt; omega⟩
/-- Its place among the head's columns. -/
def locA (x : S256x1024.Idx) : S256x128.Idx :=
  Fin.cons ⟨(x 0).val, (x 0).isLt⟩ (Fin.cons ⟨(x 1).val % 128, Nat.mod_lt _ (by decide)⟩ finZeroElim)
/-- The head a carried logarithm belongs to. -/
def headC (x : S8x256x1.Idx) : Fin 8 := ⟨(x 0).val, (x 0).isLt⟩
/-- Its place among the head's. -/
def locC (x : S8x256x1.Idx) : S1x256x1.Idx :=
  Fin.cons ⟨0, Nat.one_pos⟩ (Fin.cons ⟨(x 1).val, (x 1).isLt⟩ (Fin.cons ⟨(x 2).val, (x 2).isLt⟩ finZeroElim))

theorem emb_locA (x : S256x1024.Idx) : (accR (headA x)).emb (locA x) = x := by
  funext a; refine Fin.ext ?_
  match a with
  | ⟨0, _⟩ => show 0 + 1 * (x 0).val = (x 0).val; omega
  | ⟨1, _⟩ => show 128 * ((x 1).val / 128) + 1 * ((x 1).val % 128) = (x 1).val; omega

theorem emb_locC (x : S8x256x1.Idx) : (carR (headC x)).emb (locC x) = x := by
  funext a; refine Fin.ext ?_
  match a with
  | ⟨0, _⟩ => show (x 0).val + 1 * 0 = (x 0).val; omega
  | ⟨1, _⟩ => show 0 + 1 * (x 1).val = (x 1).val; omega
  | ⟨2, _⟩ => show 0 + 1 * (x 2).val = (x 2).val; omega

theorem headA_emb (h : Fin 8) (y : S256x128.Idx) : headA ((accR h).emb y) = h := by
  refine Fin.ext ?_
  have hy : (y 1).val < 128 := (y 1).isLt
  show (128 * h.val + 1 * (y 1).val) / 128 = h.val
  omega

theorem headC_emb (h : Fin 8) (y : S1x256x1.Idx) : headC ((carR h).emb y) = h := by
  refine Fin.ext ?_
  have hy : (y 0).val < 1 := (y 0).isLt
  show h.val + 1 * (y 0).val = h.val
  omega

theorem overlay_acc (h : Fin 8) (A : S256x1024.Idx → Elt F .f32) (g : S256x128.Idx → Elt F .f32) (x : S256x1024.Idx) :
    (accR h).overlay A g x = if headA x = h then g (locA x) else A x := by
  by_cases e : headA x = h
  · rw [if_pos e]
    subst e
    have h := (accR (headA x)).overlay_emb A g (locA x)
    rwa [emb_locA] at h
  · rw [if_neg e]
    refine (accR h).overlay_of_not_mem A g fun hx => e ?_
    obtain ⟨y, rfl⟩ := (accR h).exists_idx_of_mem hx
    exact headA_emb h y

theorem overlay_car (h : Fin 8) (A : S8x256x1.Idx → Elt F .f32) (g : S1x256x1.Idx → Elt F .f32) (x : S8x256x1.Idx) :
    (carR h).overlay A g x = if headC x = h then g (locC x) else A x := by
  by_cases e : headC x = h
  · rw [if_pos e]
    subst e
    have h := (carR (headC x)).overlay_emb A g (locC x)
    rwa [emb_locC] at h
  · rw [if_neg e]
    refine (carR h).overlay_of_not_mem A g fun hx => e ?_
    obtain ⟨y, rfl⟩ := (carR h).exists_idx_of_mem hx
    exact headC_emb h y

/-- State `s` is state `s0` with the heads below `n` replaced by `A` and `C`. -/
structure Mix (s0 : St F) (A : S256x1024.Idx → Elt F .f32) (C : S8x256x1.Idx → Elt F .f32) (n : ℕ) (s : St F) : Prop where
  acc : ∀ x, s.acc x = if (headA x).val < n then A x else s0.acc x
  car : ∀ x, s.car x = if (headC x).val < n then C x else s0.car x

theorem Mix.zero (s0 : St F) (A C) (t : F .f32) : Mix s0 A C 0 ⟨s0.acc, s0.car, t⟩ :=
  ⟨fun x => by simp, fun x => by simp⟩

/-- One more head replaced. -/
theorem Mix.succ {s0 s s' : St F} {A C} {h : Fin 8} (M : Mix s0 A C h.val s)
    {g : S256x128.Idx → Elt F .f32} {k : S1x256x1.Idx → Elt F .f32}
    (ha : s'.acc = (accR h).overlay s.acc g) (hc : s'.car = (carR h).overlay s.car k)
    (hg : ∀ x, headA x = h → g (locA x) = A x) (hk : ∀ x, headC x = h → k (locC x) = C x) :
    Mix s0 A C (h.val + 1) s' where
  acc x := by
    rw [ha, overlay_acc]
    by_cases e : headA x = h
    · rw [if_pos e, if_pos (by rw [e]; omega), hg x e]
    · have : (headA x).val ≠ h.val := fun e' => e (Fin.ext e')
      rw [if_neg e, M.acc x]
      by_cases l : (headA x).val < h.val
      · rw [if_pos l, if_pos (by omega)]
      · rw [if_neg l, if_neg (by omega)]
  car x := by
    rw [hc, overlay_car]
    by_cases e : headC x = h
    · rw [if_pos e, if_pos (by rw [e]; omega), hk x e]
    · have : (headC x).val ≠ h.val := fun e' => e (Fin.ext e')
      rw [if_neg e, M.car x]
      by_cases l : (headC x).val < h.val
      · rw [if_pos l, if_pos (by omega)]
      · rw [if_neg l, if_neg (by omega)]

/-- A head not yet replaced still has its own carried logarithms, -/
theorem Mix.carOf_eq {s0 s : St F} {A C} {h : Fin 8} (M : Mix s0 A C h.val s) : carOf s.car h = carOf s0.car h := by
  unfold carOf
  refine congrArg (fun f : Vec F S1x256x1 .f32 => shapeCast S256x1 f shapeCasts_S1x256x1_S256x1) (funext fun y => ?_)
  show s.car _ = s0.car _
  rw [M.car, headC_emb, if_neg (lt_irrefl _)]

/-- and its own columns. -/
theorem Mix.acc_eq {s0 s : St F} {A C} {h : Fin 8} (M : Mix s0 A C h.val s) (y : S256x128.Idx) :
    s.acc ((accR h).emb y) = s0.acc ((accR h).emb y) := by
  rw [M.acc, headA_emb, if_neg (lt_irrefl _)]

/-- The accumulator after an earlier tile, -/
def tripAcc (u : FVec F S256x256 .bf16) (q kk vv : Fin 8 → FVec F S256x128 .bf16) (s : St F) : S256x1024.Idx → Elt F .f32 :=
  fun x => addf ((fun y => s.acc ((accR (headA x)).emb y)) : Vec F S256x128 .f32)
    (offOut u (q (headA x)) (kk (headA x)) (vv (headA x)) (carOf s.car (headA x))) (locA x)
/-- and the carried logarithms. -/
def tripCar (u : FVec F S256x256 .bf16) (q kk : Fin 8 → FVec F S256x128 .bf16) (s : St F) : S8x256x1.Idx → Elt F .f32 :=
  fun x => shapeCast S1x256x1 (offCarry u (q (headC x)) (kk (headC x)) (carOf s.car (headC x))) shapeCasts_S256x1_S1x256x1 (locC x)
/-- The accumulator after the diagonal tile, -/
def diagAcc (u : FVec F S256x256 .bf16) (q kk vv : Fin 8 → FVec F S256x128 .bf16) : S256x1024.Idx → Elt F .f32 :=
  fun x => diagOut u (q (headA x)) (kk (headA x)) (vv (headA x)) (locA x)
/-- and the carried logarithms. -/
def diagCar (u : FVec F S256x256 .bf16) (q kk : Fin 8 → FVec F S256x128 .bf16) : S8x256x1.Idx → Elt F .f32 :=
  fun x => shapeCast S1x256x1 (diagCarry u (q (headC x)) (kk (headC x))) shapeCasts_S256x1_S1x256x1 (locC x)

theorem mix_off {u : FVec F S256x256 .bf16} {q kk vv : Fin 8 → FVec F S256x128 .bf16} {s0 s : St F} (h : Fin 8)
    (M : Mix s0 (tripAcc u q kk vv s0) (tripCar u q kk s0) h.val s) :
    Mix s0 (tripAcc u q kk vv s0) (tripCar u q kk s0) (h.val + 1) (offStep u (q h) (kk h) (vv h) h s) :=
  M.succ rfl rfl
    (fun x e => by
      subst e
      rw [shapeCast_self, M.carOf_eq]
      unfold tripAcc
      refine congrArg (fun f : Vec F S256x128 .f32 => addf f _ (locA x)) (funext fun y => M.acc_eq y))
    (fun x e => by subst e; rw [M.carOf_eq]; rfl)

theorem mix_diag {u : FVec F S256x256 .bf16} {q kk vv : Fin 8 → FVec F S256x128 .bf16} {s0 s : St F} (h : Fin 8)
    (M : Mix s0 (diagAcc u q kk vv) (diagCar u q kk) h.val s) :
    Mix s0 (diagAcc u q kk vv) (diagCar u q kk) (h.val + 1) (diagStep u (q h) (kk h) (vv h) h s) :=
  M.succ rfl rfl
    (fun x e => by subst e; rw [shapeCast_self]; rfl)
    (fun x e => by subst e; rfl)

theorem mix_trip7 (u : FVec F S256x256 .bf16) (q kk vv : Fin 8 → FVec F S256x128 .bf16) (s : St F) :
    Mix s (tripAcc u q kk vv s) (tripCar u q kk s) 7
      (offStep u (q 6) (kk 6) (vv 6) 6 <| offStep u (q 5) (kk 5) (vv 5) 5 <| offStep u (q 4) (kk 4) (vv 4) 4 <|
        offStep u (q 3) (kk 3) (vv 3) 3 <| offStep u (q 2) (kk 2) (vv 2) 2 <| offStep u (q 1) (kk 1) (vv 1) 1 <|
        offStep u (q 0) (kk 0) (vv 0) 0 ⟨s.acc, s.car, negInf⟩) :=
  mix_off 6 (mix_off 5 (mix_off 4 (mix_off 3 (mix_off 2 (mix_off 1 (mix_off 0 (Mix.zero _ _ _ _)))))))

theorem tripS_acc (u : FVec F S256x256 .bf16) (q kk vv : Fin 8 → FVec F S256x128 .bf16) (s : St F) :
    (tripS u q kk vv s).acc = tripAcc u q kk vv s :=
  funext fun x => ((mix_off 7 (mix_trip7 u q kk vv s)).acc x).trans (if_pos (headA x).isLt)

theorem tripS_car (u : FVec F S256x256 .bf16) (q kk vv : Fin 8 → FVec F S256x128 .bf16) (s : St F) :
    (tripS u q kk vv s).car = tripCar u q kk s :=
  funext fun x => ((mix_off 7 (mix_trip7 u q kk vv s)).car x).trans (if_pos (headC x).isLt)

/-- The running maximum after a tile is at least the last head's. -/
theorem tripS_top (u : FVec F S256x256 .bf16) (q kk vv : Fin 8 → FVec F S256x128 .bf16) (s : St F) :
    ∃ t, (tripS u q kk vv s).top = Scalar.maximumf t (rowMax (offCarry u (q 7) (kk 7) (carOf s.car 7))) := by
  rw [← Mix.carOf_eq (h := 7) (mix_trip7 u q kk vv s)]
  exact ⟨_, rfl⟩

theorem mix_diagS (u : FVec F S256x256 .bf16) (q kk vv : Fin 8 → FVec F S256x128 .bf16) (s : St F) :
    Mix s (diagAcc u q kk vv) (diagCar u q kk) 8 (diagS u q kk vv s) :=
  mix_diag 7 (mix_diag 6 (mix_diag 5 (mix_diag 4 (mix_diag 3 (mix_diag 2 (mix_diag 1 (mix_diag 0 (Mix.zero _ _ _ _))))))))

theorem diagS_acc (u : FVec F S256x256 .bf16) (q kk vv : Fin 8 → FVec F S256x128 .bf16) (s : St F) :
    (diagS u q kk vv s).acc = diagAcc u q kk vv :=
  funext fun x => ((mix_diagS u q kk vv s).acc x).trans (if_pos (headA x).isLt)

theorem diagS_car (u : FVec F S256x256 .bf16) (q kk vv : Fin 8 → FVec F S256x128 .bf16) (s : St F) :
    (diagS u q kk vv s).car = diagCar u q kk :=
  funext fun x => ((mix_diagS u q kk vv s).car x).trans (if_pos (headC x).isLt)

theorem diagS_top (u : FVec F S256x256 .bf16) (q kk vv : Fin 8 → FVec F S256x128 .bf16) (s : St F) :
    ∃ t, (diagS u q kk vv s).top = Scalar.maximumf t (rowMax (diagCarry u (q 7) (kk 7))) := ⟨_, rfl⟩

/-- The state before the diagonal tile, of which nothing is left after it. -/
def blank : St F := ⟨fun _ => negInf, fun _ => negInf, negInf⟩

/-- The diagonal tile leaves nothing of the state before it. -/
theorem diagS_blank (u : FVec F S256x256 .bf16) (q kk vv : Fin 8 → FVec F S256x128 .bf16) (s : St F) :
    diagS u q kk vv s = diagS u q kk vv blank := by
  have h : ∀ a b : St F, a.acc = b.acc → a.car = b.car → a.top = b.top → a = b := by
    rintro ⟨_, _, _⟩ ⟨_, _, _⟩ rfl rfl rfl; rfl
  exact h _ _ ((diagS_acc u q kk vv s).trans (diagS_acc u q kk vv blank).symm)
    ((diagS_car u q kk vv s).trans (diagS_car u q kk vv blank).symm) rfl

end Cert.KernelIdeal.SB

end
-- ==== Proof.SB.KernelIdeal.Run.lean ====
/- The kernel's body run whole: the loop's label met by its specification, by induction on the tiles left, and the
   body's triple, its result named in closed form. -/
module

public import proofs.«01_k».proof.Proof.SB.KernelIdeal.Cover

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

/-! ## The loop's counter -/

/-- The counter with `n` tiles left. -/
abbrev left (n : ℕ) : BitVec 32 := Scalar.subi (BitVec.ofNat 32 n) 1#32

theorem left_chk : ∀ n : Fin 31, k0_chk1 (left (n.val + 1)) := by decide +kernel
theorem left_sge : ∀ n : Fin 31, Scalar.cmpi .sge (left (n.val + 1)) 0#32 = 1#1 := by decide +kernel
theorem left_zero : Scalar.cmpi .sge (left 0) 0#32 = 0#1 := by decide +kernel
theorem left_off : ∀ (n : Fin 31) (h : Fin 8), kOff (left (n.val + 1)) h = ![256 * n.val, 128 * h.val] := by decide +kernel
theorem left_pred : ∀ n : Fin 31, Scalar.subi (left (n.val + 1)) 1#32 = left n.val := by decide +kernel
theorem dOff_eq : ∀ (i : grid0.Coords) (h : Fin 8), dOff i h = ![256 * (i 0).val, 128 * h.val] := by decide +kernel

variable {F : FTy → Type} [FloatOps F] [Named F]

local notation "𝕄" => MT nD τ sig Unit (Elt F) ℕ (UR sig nD τ) ℕ

/-- The loop's bounds. -/
abbrev 𝒱₀ : Variants := Variants.nat

section Label

variable (c : Dev nD) (i : grid0.Coords)
  (arg2 : Memref sig .tc .vmem S8192x1024 .bf16) (harg2 : arg2.IsWhole) (arg3 : Memref sig .tc .vmem S8192x1024 .bf16) (harg3 : arg3.IsWhole)
  (arg7 : Memref sig .tc .vmem S8x256x1 .f32) (harg7 : arg7.IsWhole) (arg6 : Memref sig .tc .vmem S256x1024 .f32) (harg6 : arg6.IsWhole)
  (u : FVec F S256x256 .bf16) (q : Fin 8 → FVec F S256x128 .bf16)
  (X Y : S8192x1024.Idx → Elt F .bf16)

/-- The label with `n` tiles left: from a state it takes the scratch buffers to the loop's last state. -/
def spec (n : ℕ) (s : St F) : sWPT 𝕄 (BitVec 32 × F .f32) := do
  sWPT.consume (held c arg2 arg3 arg6 arg7 X Y s)
  let r ← sWPT.arbitrary
  sWPT.produce (held c arg2 arg3 arg6 arg7 X Y (loopS u q (blk X) (blk Y) n s))
  pure r

theorem spec_apply (n : ℕ) (s : St F) (K : BitVec 32 × F .f32 → sProp 𝕄) :
    spec c arg2 arg3 arg7 arg6 u q X Y n s K
      = iprop(held c arg2 arg3 arg6 arg7 X Y s ∗ ∀ r : BitVec 32 × F .f32,
          (held c arg2 arg3 arg6 arg7 X Y (loopS u q (blk X) (blk Y) n s) -∗ K r)) := rfl

/-- The specification is met by the label's body, by induction on the tiles left. -/
theorem spec_le (E : Set ℕ) : ∀ n, n < 32 → ∀ (s : St F) K,
    spec c arg2 arg3 arg7 arg6 u q X Y n s K
      ⊢ wp frame (wpE (defs₀ (F := F)) 𝒱₀ (c : Thread nD τ) (some n)) E
          (defs₀ (F := F) .tc 1 ⟨i, arg2, harg2, arg3, harg3, arg7, harg7, q 0, u, arg6, harg6, q 1, q 2, q 3, q 4, q 5, q 6, q 7, left n, s.top⟩) K := by
  intro n
  induction n with
  | zero =>
    intro _ s K
    rw [spec_apply]
    show _ ⊢ wp frame (wpE (defs₀ (F := F)) 𝒱₀ (c : Thread nD τ) (some 0)) E
      (cc0_while1 i arg2 harg2 arg3 harg3 arg7 harg7 (q 0) u arg6 harg6 (q 1) (q 2) (q 3) (q 4) (q 5) (q 6) (q 7) (left 0) s.top) K
    rw [loop_eq]
    unfold loop
    have h0 : ∀ b : BitVec 1, ¬ Scalar.andi (Scalar.cmpi .sge (left 0) 0#32) b = 1#1 := by
      intro b; rw [left_zero]; revert b; decide
    rw [if_neg (h0 _), Prog.pure_eq_ret]
    iintro ⟨H, Hk⟩
    rw [wp_ret]; imodintro
    iapply Hk
    iexact H
  | succ n ih =>
    intro hn s K
    have hn' : n < 31 := by omega
    rw [spec_apply]
    show _ ⊢ wp frame (wpE (defs₀ (F := F)) 𝒱₀ (c : Thread nD τ) (some (n + 1))) E
      (cc0_while1 i arg2 harg2 arg3 harg3 arg7 harg7 (q 0) u arg6 harg6 (q 1) (q 2) (q 3) (q 4) (q 5) (q 6) (q 7) (left (n + 1)) s.top) K
    rw [loop_eq]
    unfold loop
    have h1 : ∀ b : BitVec 1, Scalar.andi (Scalar.cmpi .sge (left (n + 1)) 0#32) b = b := by
      intro b; rw [left_sge ⟨n, hn'⟩]; revert b; decide
    rw [h1]
    by_cases ht : Scalar.cmpf .ogt s.top (Named.named κ "skip" 0xC2DC0000#32 : F .f32) = 1#1
    · rw [if_pos ht, show loopS u q (blk X) (blk Y) (n + 1) s = loopS u q (blk X) (blk Y) n (tripS u q (blk X n) (blk Y n) s) from if_pos ht]
      simp only [Prog.lift, Prog.bind_op, Prog.bind_ret, Prog.pure_eq_ret]
      iintro ⟨H, Hk⟩
      iapply (wp_assume 𝒱₀ (c : Thread nD τ) (some (n + 1)) E (left_chk ⟨n, hn'⟩))
      iapply (trip_run 𝒱₀ c (some (n + 1)) E arg2 arg3 arg6 arg7 X Y u q (left (n + 1)) (left_chk ⟨n, hn'⟩) _ n (left_off ⟨n, hn'⟩) s)
      isplitl [H]; · iexact H
      iintro H
      rw [left_pred ⟨n, hn'⟩]
      iapply (wp_call_spec 𝒱₀ (c : Thread nD τ) (some (n + 1)) E (spec c arg2 arg3 arg7 arg6 u q X Y n (tripS u q (blk X n) (blk Y n) s)) n
        (fun v hv => by cases hv; exact Nat.lt_succ_self n) (ih (by omega) (tripS u q (blk X n) (blk Y n) s)))
      rw [spec_apply]
      isplitl [H]; · iexact H
      iintro %r H
      rw [wp_ret]; imodintro
      iapply Hk
      iexact H
    · rw [if_neg ht, show loopS u q (blk X) (blk Y) (n + 1) s = s from if_neg ht, Prog.pure_eq_ret]
      iintro ⟨H, Hk⟩
      rw [wp_ret]; imodintro
      iapply Hk
      iexact H

end Label

/-! ## The body -/

/-- The triangle as the body reads it. -/
def triOf (U : S256x256.Idx → Elt F .bf16) : FVec F S256x256 .bf16 :=
  shapeCast S256x256 ((fun x => U ((Rect.unit (s := S256x256) ![0, 0] S256x256.size inb_S256x256_S256x256_0_0).emb x)) : Vec F S256x256 .bf16)
    shapeCasts_S256x256_S256x256
/-- The scaled queries of a head. -/
def qOf (Q : S256x1024.Idx → Elt F .bf16) (h : Fin 8) : FVec F S256x128 .bf16 := scaledQ (fun x => Q ((accR h).emb x))
/-- The last state of the body at grid coordinate `n`. -/
def lastS (n : ℕ) (Q : S256x1024.Idx → Elt F .bf16) (X Y : S8192x1024.Idx → Elt F .bf16) (U : S256x256.Idx → Elt F .bf16) : St F :=
  loopS (triOf U) (qOf Q) (blk X) (blk Y) n (diagS (triOf U) (qOf Q) (blk X n) (blk Y n) blank)
/-- The block the body writes. -/
def outOf (n : ℕ) (Q : S256x1024.Idx → Elt F .bf16) (X Y : S8192x1024.Idx → Elt F .bf16) (U : S256x256.Idx → Elt F .bf16) :
    S256x1024.Idx → Elt F .bf16 :=
  (truncf .bf16 ((lastS n Q X Y U).acc : FVec F S256x1024 .f32) bitsLt_bf16_f32 : FVec F S256x1024 .bf16)

theorem emb_whole (x : S256x1024.Idx) : (Rect.unit (s := S256x1024) ![0, 0] S256x1024.size inb_S256x1024_S256x1024_0_0).emb x = x := by
  funext a; refine Fin.ext ?_
  match a with
  | ⟨0, _⟩ => show 0 + 1 * (x 0).val = (x 0).val; omega
  | ⟨1, _⟩ => show 0 + 1 * (x 1).val = (x 1).val; omega

theorem overlay_whole (A w : S256x1024.Idx → Elt F .bf16) :
    (Rect.unit (s := S256x1024) ![0, 0] S256x1024.size inb_S256x1024_S256x1024_0_0).overlay A w = w := by
  funext x
  have h := (Rect.unit (s := S256x1024) ![0, 0] S256x1024.size inb_S256x1024_S256x1024_0_0).overlay_emb A w x
  rwa [emb_whole] at h

/-- The block the body writes, as it reads the accumulator. -/
theorem outOf_eq (n : ℕ) (Q : S256x1024.Idx → Elt F .bf16) (X Y : S8192x1024.Idx → Elt F .bf16) (U : S256x256.Idx → Elt F .bf16) :
    outOf n Q X Y U = (truncf .bf16 ((fun x => (lastS n Q X Y U).acc
      ((Rect.unit (s := S256x1024) ![0, 0] S256x1024.size inb_S256x1024_S256x1024_0_0).emb x)) : FVec F S256x1024 .f32) bitsLt_bf16_f32 : FVec F S256x1024 .bf16) :=
  congrArg (fun f : FVec F S256x1024 .f32 => (truncf .bf16 f bitsLt_bf16_f32 : FVec F S256x1024 .bf16))
    (funext fun x => congrArg (lastS n Q X Y U).acc (emb_whole x).symm)

theorem qOf_vec (Q : S256x1024.Idx → Elt F .bf16) :
    (![scaledQ (fun x => Q ((accR 0).emb x)), scaledQ (fun x => Q ((accR 1).emb x)), scaledQ (fun x => Q ((accR 2).emb x)),
      scaledQ (fun x => Q ((accR 3).emb x)), scaledQ (fun x => Q ((accR 4).emb x)), scaledQ (fun x => Q ((accR 5).emb x)),
      scaledQ (fun x => Q ((accR 6).emb x)), scaledQ (fun x => Q ((accR 7).emb x))] : Fin 8 → FVec F S256x128 .bf16) = qOf Q := by
  funext h
  match h with
  | 0 => rfl | 1 => rfl | 2 => rfl | 3 => rfl | 4 => rfl | 5 => rfl | 6 => rfl | 7 => rfl

/-- The queries of a head, read. -/
theorem readQ_run {α : Type} {K : α → sProp 𝕄} (c : Dev nD) (E : Set ℕ) (arg1 : Memref sig .tc .vmem S256x1024 .bf16) (h : Fin 8)
    (Q : S256x1024.Idx → Elt F .bf16) (k : FVec F S256x128 .bf16 → P F α) :
    iprop(owns (c : Thread nD τ) arg1 fullShare Q ∗ (owns (c : Thread nD τ) arg1 fullShare Q
        -∗ wp frame (wpE (defs₀ (F := F)) 𝒱₀ (c : Thread nD τ) none) E (k (qOf Q h)) K))
      ⊢ wp frame (wpE (defs₀ (F := F)) 𝒱₀ (c : Thread nD τ) none) E (readQ arg1 h k) K := by
  unfold readQ
  simp only [Prog.lift, Prog.bind_op, Prog.bind_ret, Prog.pure_eq_ret]
  iintro ⟨H, Hk⟩
  iapply (load_owns 𝒱₀ c none E (M := arg1)) $$ H; iintro H
  iapply Hk
  iexact H

/-- The body at a grid point: from the blocks it is given it writes `outOf`. -/
theorem body_run {K : PUnit → sProp 𝕄} (c : Dev nD) (E : Set ℕ) (i : grid0.Coords) (arg1 : Memref sig .tc .vmem S256x1024 .bf16) (harg1 : arg1.IsWhole) (arg2 : Memref sig .tc .vmem S8192x1024 .bf16) (harg2 : arg2.IsWhole)
    (arg3 : Memref sig .tc .vmem S8192x1024 .bf16) (harg3 : arg3.IsWhole) (arg4 : Memref sig .tc .vmem S256x256 .bf16) (harg4 : arg4.IsWhole)
    (arg5 : Memref sig .tc .vmem S256x1024 .bf16) (harg5 : arg5.IsWhole) (arg6 : Memref sig .tc .vmem S256x1024 .f32) (harg6 : arg6.IsWhole)
    (arg7 : Memref sig .tc .vmem S8x256x1 .f32) (harg7 : arg7.IsWhole)
    (Q : S256x1024.Idx → Elt F .bf16) (X Y : S8192x1024.Idx → Elt F .bf16) (U : S256x256.Idx → Elt F .bf16) :
    iprop(owns (c : Thread nD τ) arg1 fullShare Q ∗ owns (c : Thread nD τ) arg2 fullShare X ∗ owns (c : Thread nD τ) arg3 fullShare Y
      ∗ owns (c : Thread nD τ) arg4 fullShare U ∗ (∃ d, owns (c : Thread nD τ) arg5 fullShare d)
      ∗ (∃ d, owns (c : Thread nD τ) arg6 fullShare d) ∗ (∃ d, owns (c : Thread nD τ) arg7 fullShare d)
      ∗ (iprop(owns (c : Thread nD τ) arg1 fullShare Q ∗ owns (c : Thread nD τ) arg2 fullShare X ∗ owns (c : Thread nD τ) arg3 fullShare Y
        ∗ owns (c : Thread nD τ) arg4 fullShare U ∗ owns (c : Thread nD τ) arg5 fullShare (outOf (i 0).val Q X Y U)
        ∗ (∃ d, owns (c : Thread nD τ) arg6 fullShare d) ∗ (∃ d, owns (c : Thread nD τ) arg7 fullShare d)) -∗ K ⟨⟩))
      ⊢ wp frame (wpE (defs₀ (F := F)) 𝒱₀ (c : Thread nD τ) none) E
          (cc0_sb_attention i arg1 harg1 arg2 harg2 arg3 harg3 arg4 harg4 arg5 harg5 arg6 harg6 arg7 harg7) K := by
  rw [body_eq]
  unfold body
  simp only [Prog.lift, Prog.bind_op, Prog.bind_ret, Prog.pure_eq_ret]
  iintro ⟨H1, H2, H3, H4, ⟨%d5, H5⟩, ⟨%d6, H6⟩, ⟨%d7, H7⟩, Hk⟩
  iapply (load_owns 𝒱₀ c none E (M := arg4)) $$ H4; iintro H4
  iapply (readQ_run c E arg1 0 Q); isplitl [H1]; · iexact H1
  iintro H1
  iapply (readQ_run c E arg1 1 Q); isplitl [H1]; · iexact H1
  iintro H1
  iapply (readQ_run c E arg1 2 Q); isplitl [H1]; · iexact H1
  iintro H1
  iapply (readQ_run c E arg1 3 Q); isplitl [H1]; · iexact H1
  iintro H1
  iapply (readQ_run c E arg1 4 Q); isplitl [H1]; · iexact H1
  iintro H1
  iapply (readQ_run c E arg1 5 Q); isplitl [H1]; · iexact H1
  iintro H1
  iapply (readQ_run c E arg1 6 Q); isplitl [H1]; · iexact H1
  iintro H1
  iapply (readQ_run c E arg1 7 Q); isplitl [H1]; · iexact H1
  iintro H1
  rw [show (![qOf Q 0, qOf Q 1, qOf Q 2, qOf Q 3, qOf Q 4, qOf Q 5, qOf Q 6, qOf Q 7] : Fin 8 → FVec F S256x128 .bf16) = qOf Q from qOf_vec Q]
  iapply (diag_run 𝒱₀ c none E arg2 arg3 arg6 arg7 X Y (triOf U) (qOf Q) i _ (i 0).val (dOff_eq i) ⟨d6, d7, negInf⟩)
  isplitl [H2 H3 H6 H7]
  · unfold held
    isplitl [H2]; · iexact H2
    isplitl [H3]; · iexact H3
    isplitl [H6]; · iexact H6
    iexact H7
  iintro H
  rw [diagS_blank (triOf U) (qOf Q) (blk X (i 0).val) (blk Y (i 0).val) ⟨d6, d7, negInf⟩]
  iapply (wp_call_spec 𝒱₀ (c : Thread nD τ) none E
    (spec c arg2 arg3 arg7 arg6 (triOf U) (qOf Q) X Y (i 0).val (diagS (triOf U) (qOf Q) (blk X (i 0).val) (blk Y (i 0).val) blank)) (i 0).val
    (fun v hv => nomatch hv) (spec_le c i arg2 harg2 arg3 harg3 arg7 harg7 arg6 harg6 (triOf U) (qOf Q) X Y E (i 0).val (i 0).isLt _))
  rw [spec_apply]
  isplitl [H]; · iexact H
  iintro %r H
  unfold held finish
  simp only [Prog.lift, Prog.bind_op, Prog.bind_ret, Prog.pure_eq_ret]
  icases H with ⟨H2, H3, H6, H7⟩
  iapply (load_owns 𝒱₀ c none E (M := arg6)) $$ H6; iintro H6
  iapply (load_owns 𝒱₀ c none E (M := arg5)) $$ H5; iintro H5
  iapply (store_owns 𝒱₀ c none E (M := arg5)) $$ H5; iintro H5
  rw [wp_ret]; imodintro
  iapply Hk
  isplitl [H1]; · iexact H1
  isplitl [H2]; · iexact H2
  isplitl [H3]; · iexact H3
  isplitl [H4]; · iexact H4
  isplitl [H5]
  · rw [overlay_whole]
    rw [outOf_eq]
    iexact H5
  isplitl [H6]; · iexists _; iexact H6
  iexists _; iexact H7

end Cert.KernelIdeal.SB

end
-- ==== Proof.SB.KernelIdeal.Frame.lean ====
/- The kernel's launch: the host operations before it, the proof data of its pipeline, the body's obligation, the
   run, and from it the frame: the argument array is left as it was, and the result array holds the body's blocks. -/
module

public import proofs.«01_k».proof.Proof.SB.KernelIdeal.Run
public import Idealize.ShloMosaic.Lib.Claim

@[expose] public section

set_option maxRecDepth 16384

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Up to the launch -/

/-- The buffers as the launch finds them. -/
abbrev atLaunch (c : Dev nD) (b : Ref sig .tc) : Buf (Elt F) ((c : Thread nD τ).loc b) := StableHlo.after hostOps0 (fun b => m (c, b)) b

theorem hostOps_fresh : (hostOps0 : List (HloOp τ sig (Elt F))).Forall fun op => op.fresh = ∅ := by
  simp only [List.Forall]; repeat' constructor

/-- The host operations, then the launch. -/
theorem main_run (𝒱 : Variants) : Pipeline.HMain (Ix := Unit) (Name := ℕ) (U := UR sig nD τ) (Lvl := ℕ) cfgs 0 defs₀ 𝒱 m (main (F := F)) (atLaunch m) :=
  Pipeline.hmain_prefix cfgs 0 defs₀ 𝒱 m main hostOps0 hostOps0_sub hostOps_fresh main_chain

/-- The launch finds the argument as it was. -/
theorem atLaunch_arg0 (c : Dev nD) : atLaunch m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-- A window's block at a point, as the launch finds it. -/
def inBlk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (atLaunch m c (Pipeline.arrRef spec0 w))

/-! ## The proof data -/

/-- The block the kernel writes at a point. -/
def outBlk (c : Dev nD) (t : Fin (cfg0 (F := F)).N) : S256x1024.Idx → Elt F .bf16 :=
  outOf (grid0.coords t 0).val (inBlk m c 0 t) (inBlk m c 1 t) (inBlk m c 2 t) (inBlk m c 3 t)

/-- The pipeline's data: the arrays as found, each input's buffer at its block, the output's at the block written. -/
def dats (_ : Fin 1) (c : Dev nD) : Dat τ (Elt F) Unit ℕ (UR sig nD τ) ℕ (cfg0 (F := F)) c where
  A w := atLaunch m c (Pipeline.arrRef spec0 w)
  after w t := match w with
    | ⟨0, _⟩ => inBlk m c 0 t
    | ⟨1, _⟩ => inBlk m c 1 t
    | ⟨2, _⟩ => inBlk m c 2 t
    | ⟨3, _⟩ => inBlk m c 3 t
    | ⟨4, _⟩ => outBlk m c t
  Φ _ := Pipeline.ΦA spec0 c
  q w := Pipeline.shareOf spec0 w
  owed _ := 0

theorem A_eq (c : Dev nD) (w : Fin (cfg0 (F := F)).W) : (dats m 0 c).A w = atLaunch m c (Pipeline.arrRef spec0 w) := by dsimp only [dats]

theorem after_0 (c : Dev nD) (t) : (dats m 0 c).after 0 t = inBlk m c 0 t := by dsimp only [dats]; rfl
theorem after_1 (c : Dev nD) (t) : (dats m 0 c).after 1 t = inBlk m c 1 t := by dsimp only [dats]; rfl
theorem after_2 (c : Dev nD) (t) : (dats m 0 c).after 2 t = inBlk m c 2 t := by dsimp only [dats]; rfl
theorem after_3 (c : Dev nD) (t) : (dats m 0 c).after 3 t = inBlk m c 3 t := by dsimp only [dats]; rfl
theorem after_4 (c : Dev nD) (t) : (dats m 0 c).after 4 t = outBlk m c t := by dsimp only [dats]; rfl

theorem before_0 (c : Dev nD) (t d) : (dats m 0 c).before 0 t d = inBlk m c 0 t :=
  ((dats m 0 c).before_in_eq_fetched 0 rfl (fun _ => rfl) (fun _ _ _ => rfl) (fun t => by rw [after_0]; unfold Dat.blockOf inBlk; rw [A_eq]; try rfl) t d).trans
    (by unfold Dat.fetched Dat.blockOf inBlk; rw [A_eq]; try rfl)
theorem before_1 (c : Dev nD) (t d) : (dats m 0 c).before 1 t d = inBlk m c 1 t :=
  ((dats m 0 c).before_in_eq_fetched 1 rfl (fun _ => rfl) (fun _ _ _ => rfl) (fun t => by rw [after_1]; unfold Dat.blockOf inBlk; rw [A_eq]; try rfl) t d).trans
    (by unfold Dat.fetched Dat.blockOf inBlk; rw [A_eq]; try rfl)
theorem before_2 (c : Dev nD) (t d) : (dats m 0 c).before 2 t d = inBlk m c 2 t :=
  ((dats m 0 c).before_in_eq_fetched 2 rfl (fun _ => rfl) (fun _ _ _ => rfl) (fun t => by rw [after_2]; unfold Dat.blockOf inBlk; rw [A_eq]; try rfl) t d).trans
    (by unfold Dat.fetched Dat.blockOf inBlk; rw [A_eq]; try rfl)
theorem before_3 (c : Dev nD) (t d) : (dats m 0 c).before 3 t d = inBlk m c 3 t :=
  ((dats m 0 c).before_in_eq_fetched 3 rfl (fun _ => rfl) (fun _ _ _ => rfl) (fun t => by rw [after_3]; unfold Dat.blockOf inBlk; rw [A_eq]; try rfl) t d).trans
    (by unfold Dat.fetched Dat.blockOf inBlk; rw [A_eq]; try rfl)

/-! ## The body's obligation -/

/-- The scratch buffers and the generator, as the body takes and returns them. -/
theorem scratch_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d))
      ∗ (∃ r, prngReg c r)) := by
  unfold Pipeline.ΦA
  rw [scopedRest0_eq]
  simp only [owns_whole]
  try rfl

/-- What the body is called with at a point, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_0 (c : Dev nD) (t) : (dats m 0 c).leavesExact 0 t = owns (c : Thread nD τ) (st0_0 t) fullShare (inBlk m c 0 t) := by
  unfold Dat.leavesExact; rw [show (cfg0 (F := F)).idle 0 ((cfg0 (F := F)).grid.coords t) = false from rfl, after_0]
theorem leaves_1 (c : Dev nD) (t) : (dats m 0 c).leavesExact 1 t = owns (c : Thread nD τ) (st0_1 t) fullShare (inBlk m c 1 t) := by
  unfold Dat.leavesExact; rw [show (cfg0 (F := F)).idle 1 ((cfg0 (F := F)).grid.coords t) = false from rfl, after_1]
theorem leaves_2 (c : Dev nD) (t) : (dats m 0 c).leavesExact 2 t = owns (c : Thread nD τ) (st0_2 t) fullShare (inBlk m c 2 t) := by
  unfold Dat.leavesExact; rw [show (cfg0 (F := F)).idle 2 ((cfg0 (F := F)).grid.coords t) = false from rfl, after_2]
theorem leaves_3 (c : Dev nD) (t) : (dats m 0 c).leavesExact 3 t = owns (c : Thread nD τ) (st0_3 t) fullShare (inBlk m c 3 t) := by
  unfold Dat.leavesExact; rw [show (cfg0 (F := F)).idle 3 ((cfg0 (F := F)).grid.coords t) = false from rfl, after_3]
theorem leaves_4 (c : Dev nD) (t) : (dats m 0 c).leavesExact 4 t = owns (c : Thread nD τ) (st0_4 t) fullShare (outBlk m c t) := by
  unfold Dat.leavesExact; rw [show (cfg0 (F := F)).idle 4 ((cfg0 (F := F)).grid.coords t) = false from rfl, after_4]

set_option maxHeartbeats 1200000 in
/-- The body at any point. -/
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost
  simp only [before_0, before_1, before_2, before_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scratch_eq, leaves_0, leaves_1, leaves_2, leaves_3, leaves_4]
  iintro ⟨⟨⟨HS0, HS1⟩, Hg⟩, Ho, ⟨%d0, H0⟩, ⟨%d1, H1⟩, ⟨%d2, H2⟩, ⟨%d3, H3⟩, ⟨%d4, H4⟩⟩
  iapply (body_run c Set.univ (grid0.coords t) (st0_0 t) _ (st0_1 t) _ (st0_2 t) _ (st0_3 t) _ (st0_4 t) _
    (Memref.whole cc0_scratch0) _ (Memref.whole cc0_scratch1) _ (inBlk m c 0 t) (inBlk m c 1 t) (inBlk m c 2 t) (inBlk m c 3 t))
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

theorem body_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats m 0 c) defs₀ 𝒱₀ () Set.univ := fun t => by
  rw [bigSep_W0, bigSep_W0, body_row]
  exact triple_restated (sound_body m c t) rfl .rfl fun _ => .rfl

/-! ## The run -/

set_option backward.isDefEq.respectTransparency.types false in
/-- Every run ends with every array at what the pipeline's data say and every semaphore at zero. -/
theorem run_main : θ_run defs (onTc (τ := τ) (main (F := F))) (s₀ m ρ)
    (fun r => Pipeline.FramePost cfgs (dats m) 0 (atLaunch m) r ∧ r.2.sem = fun _ => 0) :=
  Pipeline.θ_run_frame_shared cfgs (dats m) (0 : Fin 1) launch₀0 defs₀ 𝒱₀ m ρ main
    (hbody := fun c => (body_obligation m c).loose)
    (hq := fun c w _ => rfl)
    (howed := fun _ _ => rfl)
    (V := atLaunch m)
    (hmain := main_run m 𝒱₀)
    (hA := A_eq m)
    (hΦ := fun _ _ => rfl) (Q' := _)

/-- The frame: the argument is left as it was, and every semaphore at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)) ∧ r.2.sem = fun _ => 0) :=
  (θ_run defs _ _).mono (fun r h => ⟨fun c => ((h.1 c).1 0).trans ((((dats m 0 c).arrAt_in 0 rfl _).trans (A_eq m c 0)).trans (atLaunch_arg0 m c)), h.2⟩) (run_main m ρ)

/-- Every run ends with the result array at the blocks written, and the argument left as it was. -/
theorem run_result : θ_run defs (onTc (τ := τ) (main (F := F))) ⟨m, fun _ => 0, ρ⟩ (fun r => ∀ c : Dev nD,
    r.2.mem ((c.tc : Thread nD τ).loc main_v5) = (dats m 0 c).arrAt 4 (cfg0 (F := F)).N
    ∧ r.2.mem ((c.tc : Thread nD τ).loc main_arg0) = m ((c.tc : Thread nD τ).loc main_arg0)) :=
  (θ_run defs _ _).mono (fun r h c => ⟨(h.1 c).1 4, ((h.1 c).1 0).trans ((((dats m 0 c).arrAt_in 0 rfl _).trans (A_eq m c 0)).trans (atLaunch_arg0 m c))⟩) (run_main m ρ)

end Cert.KernelIdeal.SB

end
-- ==== Proof.SB.KernelIdeal.TileValue.lean ====
/- The tile's arithmetic over the reals. -/
module

public import proofs.«01_k».proof.Proof.SB.KernelIdeal.Tile
public import proofs.«01_k».proof.Proof.SB.Stick
public import Idealize.ShloMosaic.Lib.Pointwise

@[expose] public section

noncomputable section

namespace Cert.KernelIdeal.SB

open Idealize.ShloMosaic Idealize.ShloMosaic.TcCoe
open Idealize.SL.Sem Cert.KernelIdeal.Gen Cert.Stick

theorem softplus_at (s : FVec Ideal S256x256 .f32) (z : ℝ) (j : S256x256.Idx) (h : s j = (z : EReal)) :
    softplus s j = ((sp z : ℝ) : EReal) := by
  rw [← sp_ideal z, ← h]
  pointwise [softplus]
  rfl

theorem logKeep_at (s : FVec Ideal S256x256 .f32) (z : ℝ) (j : S256x256.Idx) (h : s j = (z : EReal)) :
    logKeep s j = ((-sp z : ℝ) : EReal) := by
  have h' := softplus_at s z j h
  pointwise [logKeep]
  rw [h', zero_sub, EReal.coe_neg]

theorem ofNat_toInt (c : Fin 256) : (BitVec.ofNat 32 c.val).toInt = c.val := by
  have h := c.isLt
  have h' : (BitVec.ofNat 32 c.val).toNat = c.val := by rw [BitVec.toNat_ofNat, Nat.mod_eq_of_lt (by omega)]
  rw [BitVec.toInt_eq_toNat_of_lt (by rw [h']; omega), h']

theorem lower_at (r c : Fin 256) : lower (ix2 r c) = if c < r then 1#1 else 0#1 := by
  pointwise [lower]
  show BitVec.ofBool (decide ((BitVec.ofNat 32 c.val).toInt < (BitVec.ofNat 32 r.val).toInt)) = _
  rw [ofNat_toInt, ofNat_toInt]
  by_cases h : c < r
  · rw [if_pos h, decide_eq_true (by exact_mod_cast h)]; rfl
  · rw [if_neg h, decide_eq_false (by exact_mod_cast h)]; rfl

theorem onLower_at (x : FVec Ideal S256x256 .f32) (r c : Fin 256) :
    onLower x (ix2 r c) = if c < r then x (ix2 r c) else 0 := by
  have h := lower_at r c
  pointwise [onLower]
  rw [h]
  by_cases h : c < r
  · rw [if_pos h, if_pos h]; rfl
  · rw [if_neg h, if_neg h]; rfl

/-- A triangle of ones: the entry `(k, c)` is one where `k` comes after `c`. -/
def Tri (u : FVec Ideal S256x256 .bf16) : Prop := ∀ k c : Fin 256, u (ix2 k c) = if c < k then 1 else 0

theorem coe_sum {ι : Type*} (s : Finset ι) (f : ι → ℝ) : ((∑ k ∈ s, f k : ℝ) : EReal) = ∑ k ∈ s, (f k : EReal) :=
  map_sum (⟨⟨Real.toEReal, EReal.coe_zero⟩, EReal.coe_add⟩ : ℝ →+ EReal) f s

theorem after_at (u : FVec Ideal S256x256 .bf16) (hu : Tri u) (lk : FVec Ideal S256x256 .f32) (l : Fin 256 → ℝ)
    (r : Fin 256) (h : ∀ k, lk (ix2 r k) = (l k : EReal)) (c : Fin 256) :
    after u lk (ix2 r c) = ((∑ k : Fin 256, if c < k then l k else 0 : ℝ) : EReal) := by
  pointwise [after]
  rw [Finset.sum_congr rfl (g := fun k => (((if c < k then l k else 0 : ℝ)) : EReal)) fun k _ => by
      rw [h k, hu k c]
      by_cases hc : c < k
      · rw [if_pos hc, if_pos hc, mul_one]
      · rw [if_neg hc, if_neg hc, mul_zero, EReal.coe_zero],
    Finset.sum_eq_zero (f := fun k => (lk (ix2 r k) - lk (ix2 r k)) * u (ix2 k c)) fun k _ => by
      rw [h k, ← EReal.coe_sub, sub_self, EReal.coe_zero, zero_mul],
    add_zero, coe_sum]

theorem weights_at (z ra : FVec Ideal S256x256 .f32) (ca : FVec Ideal S256x1 .f32) (r c : Fin 256) (zz rr cc : ℝ)
    (hz : z (ix2 r c) = (zz : EReal)) (hr : ra (ix2 r c) = (rr : EReal)) (hc : ca (ix2 r 0) = (cc : EReal)) :
    weights z ra ca (ix2 r c) = ((Real.exp (-sp (-zz) + (rr + cc)) : ℝ) : EReal) := by
  have h' := softplus_at z zz _ hz
  pointwise [weights]
  rw [h', hz, hr, hc, ← EReal.coe_sub, ← EReal.coe_add, ← EReal.coe_add, sp_neg]
  show ((Real.exp _ : ℝ) : EReal) = _
  congr 2; ring

theorem weighted_at (w : FVec Ideal S256x256 .f32) (v : FVec Ideal S256x128 .bf16) (r : Fin 256) (d : Fin 128) :
    weighted w v (ix2 r d) = ∑ c : Fin 256, w (ix2 r c) * v (ix2 c d) := by
  pointwise [weighted]

theorem scores_at (q k : FVec Ideal S256x128 .bf16) (r c : Fin 256) :
    scores q k (ix2 r c) = ∑ e : Fin 128, q (ix2 r e) * k (ix2 c e) := by
  pointwise [scores]

theorem scaledQ_at (x : FVec Ideal S256x128 .bf16) (r : Fin 256) (e : Fin 128) :
    scaledQ x (ix2 r e) = x (ix2 r e) * Ideal.ofBits .f32 0x3DB504F3#32 := by
  pointwise [scaledQ]

theorem carried_at (ca : FVec Ideal S256x1 .f32) (ra lk : FVec Ideal S256x256 .f32) (r : Fin 256) :
    carried ca ra lk (ix2 r 0) = ca (ix2 r 0) + ra (ix2 r 0) + lk (ix2 r 0) := by
  pointwise [carried]

theorem noCarry_at (j : S256x1.Idx) : noCarry (F := Ideal) j = 0 := by
  pointwise [noCarry]

/-- The largest of a column with a real entry is above `⊥`. -/
theorem rowMax_gt (ca : FVec Ideal S256x1 .f32) (r : Fin 256) (x : ℝ) (h : ca (ix2 r 0) = (x : EReal)) : ⊥ < rowMax ca := by
  pointwise [rowMax]
  refine (Finset.lt_fold_max _).2 (.inr ⟨⟨r, 0⟩, Finset.mem_univ _, ?_⟩)
  show ⊥ < ca (ix2 r 0)
  rw [h]; exact EReal.bot_lt_coe x

section Tiles

variable {u : FVec Ideal S256x256 .bf16} (hu : Tri u) {q k : FVec Ideal S256x128 .bf16} (Z : ℕ → ℝ) {n : ℕ} {r : Fin 256}
include hu

/-- An earlier tile adds the logarithms of its keys to what is carried, -/
theorem offCarry_at {m : ℕ} (hm : m < n) (hn : n < 32) (hs : ∀ c : Fin 256, scores q k (ix2 r c) = (Z (256 * m + c.val) : EReal))
    (ca : FVec Ideal S256x1 .f32) (hc : ca (ix2 r 0) = (carry Z (256 * n + r.val) (m + 1) : EReal)) :
    offCarry u q k ca (ix2 r 0) = (carry Z (256 * n + r.val) m : EReal) := by
  have hk : ∀ c : Fin 256, logKeep (scores q k) (ix2 r c) = (keep Z (256 * n + r.val) (256 * m + c.val) : EReal) := fun c => by
    rw [logKeep_at _ _ _ (hs c), keep, if_pos (by omega)]
  rw [offCarry, carried_at, hc, hk, after_at u hu _ _ r hk, ← EReal.coe_add, ← EReal.coe_add, carry_tile _ _ m (by omega),
    ← first_tile fun k => keep Z (256 * n + r.val) (256 * m + k.val)]
  congr 1
  ring

/-- and contributes its values by their weights. -/
theorem offOut_at {m : ℕ} (hm : m < n) (hn : n < 32) (hs : ∀ c : Fin 256, scores q k (ix2 r c) = (Z (256 * m + c.val) : EReal))
    (ca : FVec Ideal S256x1 .f32) (hc : ca (ix2 r 0) = (carry Z (256 * n + r.val) (m + 1) : EReal))
    (v : FVec Ideal S256x128 .bf16) (d : Fin 128) :
    offOut u q k v ca (ix2 r d) = ∑ c : Fin 256, (wt Z (256 * n + r.val) (256 * m + c.val) : EReal) * v (ix2 c d) := by
  have hk : ∀ c : Fin 256, logKeep (scores q k) (ix2 r c) = (keep Z (256 * n + r.val) (256 * m + c.val) : EReal) := fun c => by
    rw [logKeep_at _ _ _ (hs c), keep, if_pos (by omega)]
  rw [offOut, weighted_at]
  refine Finset.sum_congr rfl fun c _ => ?_
  rw [weights_at _ _ _ r c _ _ _ (hs c) (after_at u hu _ _ r hk c) hc, ← rest_tile _ _ m (by omega), wt, if_pos (by omega)]

/-- So does the tile on the diagonal, with nothing carried. -/
theorem diagCarry_at (hn : n < 32) (hs : ∀ c : Fin 256, scores q k (ix2 r c) = (Z (256 * n + c.val) : EReal)) :
    diagCarry u q k (ix2 r 0) = (carry Z (256 * n + r.val) n : EReal) := by
  have hk : ∀ c : Fin 256, onLower (logKeep (scores q k)) (ix2 r c) = (keep Z (256 * n + r.val) (256 * n + c.val) : EReal) := fun c => by
    rw [onLower_at, logKeep_at _ _ _ (hs c), keep]
    by_cases h : c < r
    · rw [if_pos h, if_pos (by have : c.val < r.val := h; omega)]
    · rw [if_neg h, if_neg (by have : ¬ c.val < r.val := h; omega), EReal.coe_zero]
  rw [diagCarry, carried_at, noCarry_at, zero_add, hk, after_at u hu _ _ r hk, ← EReal.coe_add, carry_tile _ _ n (by omega),
    carry_zero _ _ (n + 1) (by omega), ← first_tile fun k => keep Z (256 * n + r.val) (256 * n + k.val), add_zero]

theorem diagOut_at (hn : n < 32) (hs : ∀ c : Fin 256, scores q k (ix2 r c) = (Z (256 * n + c.val) : EReal))
    (v : FVec Ideal S256x128 .bf16) (d : Fin 128) :
    diagOut u q k v (ix2 r d) = ∑ c : Fin 256, (wt Z (256 * n + r.val) (256 * n + c.val) : EReal) * v (ix2 c d) := by
  have hk : ∀ c : Fin 256, onLower (logKeep (scores q k)) (ix2 r c) = (keep Z (256 * n + r.val) (256 * n + c.val) : EReal) := fun c => by
    rw [onLower_at, logKeep_at _ _ _ (hs c), keep]
    by_cases h : c < r
    · rw [if_pos h, if_pos (by have : c.val < r.val := h; omega)]
    · rw [if_neg h, if_neg (by have : ¬ c.val < r.val := h; omega), EReal.coe_zero]
  rw [diagOut, weighted_at]
  refine Finset.sum_congr rfl fun c _ => ?_
  rw [onLower_at, wt]
  by_cases h : c < r
  · rw [if_pos h, if_pos (by have : c.val < r.val := h; omega),
      weights_at _ _ _ r c _ _ (carry Z (256 * n + r.val) (n + 1)) (hs c) (after_at u hu _ _ r hk c)
        (by rw [noCarry_at, carry_zero _ _ (n + 1) (by omega), EReal.coe_zero]),
      ← rest_tile _ _ n (by omega)]
  · rw [if_neg h, if_neg (by have : ¬ c.val < r.val := h; omega), EReal.coe_zero]

end Tiles

end Cert.KernelIdeal.SB

end
-- ==== Proof.SB.KernelIdeal.Loop.lean ====
/- The loop over the tiles, over the reals: it never ends early, and its last state holds, for every head and every
   query of the block, the weighted values of all the keys. -/
module

public import proofs.«01_k».proof.Proof.SB.KernelIdeal.TileValue
public import proofs.«01_k».proof.Proof.SB.KernelIdeal.Cover
public import proofs.«01_k».proof.Proof.SB.KernelIdeal.Run

@[expose] public section

noncomputable section

namespace Cert.KernelIdeal.SB

open Idealize.ShloMosaic Idealize.ShloMosaic.TcCoe
open Idealize.SL.Sem Cert.KernelIdeal.Gen Cert.Stick

theorem locA_emb (h : Fin 8) (y : S256x128.Idx) : locA ((accR h).emb y) = y := by
  have hy : (y 1).val < 128 := (y 1).isLt
  funext a; refine Fin.ext ?_
  match a with
  | ⟨0, _⟩ => show 0 + 1 * (y 0).val = (y 0).val; omega
  | ⟨1, _⟩ => show (128 * h.val + 1 * (y 1).val) % 128 = (y 1).val; omega

theorem locC_emb (h : Fin 8) (y : S1x256x1.Idx) : locC ((carR h).emb y) = y := by
  have hy : (y 0).val < 1 := (y 0).isLt
  funext a; refine Fin.ext ?_
  match a with
  | ⟨0, _⟩ => show 0 = (y 0).val; omega
  | ⟨1, _⟩ => show 0 + 1 * (y 1).val = (y 1).val; omega
  | ⟨2, _⟩ => show 0 + 1 * (y 2).val = (y 2).val; omega

/-- A head's carried logarithm, read, -/
theorem carOf_at (C : S8x256x1.Idx → Elt Ideal .f32) (h : Fin 8) (r : Fin 256) :
    carOf C h (ix2 r 0) = C ((carR h).emb (ix3 0 r 0)) := by
  pointwise [carOf]

theorem cast_at (v : FVec Ideal S256x1 .f32) (r : Fin 256) :
    shapeCast S1x256x1 v shapeCasts_S256x1_S1x256x1 (ix3 0 r 0) = v (ix2 r 0) := by
  pointwise

/-- after an earlier tile, -/
theorem carOf_trip (u : FVec Ideal S256x256 .bf16) (q kk : Fin 8 → FVec Ideal S256x128 .bf16) (s : St Ideal) (h : Fin 8) (r : Fin 256) :
    carOf (tripCar u q kk s) h (ix2 r 0) = offCarry u (q h) (kk h) (carOf s.car h) (ix2 r 0) := by
  rw [carOf_at]
  unfold tripCar
  rw [locC_emb, headC_emb]
  exact cast_at _ r

/-- and after the diagonal tile. -/
theorem carOf_diag (u : FVec Ideal S256x256 .bf16) (q kk : Fin 8 → FVec Ideal S256x128 .bf16) (h : Fin 8) (r : Fin 256) :
    carOf (diagCar u q kk) h (ix2 r 0) = diagCarry u (q h) (kk h) (ix2 r 0) := by
  rw [carOf_at]
  unfold diagCar
  rw [locC_emb, headC_emb]
  exact cast_at _ r

section Loop

variable (u : FVec Ideal S256x256 .bf16) (q : Fin 8 → FVec Ideal S256x128 .bf16) (kk vv : ℕ → Fin 8 → FVec Ideal S256x128 .bf16)
  (Z : Fin 8 → Fin 256 → ℕ → ℝ) (V : Fin 8 → Fin 128 → ℕ → EReal) (n : ℕ)

/-- The state when the tiles from `m` on have been taken. -/
structure Inv (m : ℕ) (s : St Ideal) : Prop where
  acc : ∀ h r d, s.acc ((accR h).emb (ix2 r d)) = part (Z h r) (256 * n + r.val) (V h d) m
  car : ∀ h (r : Fin 256), carOf s.car h (ix2 r 0) = (carry (Z h r) (256 * n + r.val) m : EReal)
  top : (⊥ : EReal) < s.top

variable {u q kk vv Z V n} (hu : Tri u) (hn : n < 32)
  (hs : ∀ m, m < 32 → ∀ h (r c : Fin 256), scores (q h) (kk m h) (ix2 r c) = (Z h r (256 * m + c.val) : EReal))
  (hv : ∀ m, m < 32 → ∀ h (c : Fin 256) d, vv m h (ix2 c d) = V h d (256 * m + c.val))
include hu hn hs hv

theorem inv_diag (s : St Ideal) : Inv Z V n n (diagS u q (kk n) (vv n) s) where
  acc h r d := by
    rw [diagS_acc]
    unfold diagAcc
    rw [locA_emb, headA_emb, diagOut_at hu (Z h r) hn (hs n hn h r), part_tile _ _ _ n hn, part_zero _ _ _ (n + 1) (by omega), add_zero]
    exact Finset.sum_congr rfl fun c _ => by rw [hv n hn]
  car h r := by
    rw [diagS_car, carOf_diag, diagCarry_at hu (Z h r) hn (hs n hn h r)]
  top := by
    obtain ⟨t, ht⟩ := diagS_top u q (kk n) (vv n) s
    rw [ht]
    exact lt_of_lt_of_le (rowMax_gt _ 0 _ (diagCarry_at hu (Z 7 0) hn (hs n hn 7 0))) (le_max_right t _)

theorem inv_trip {m : ℕ} (hm : m < n) {s : St Ideal} (I : Inv Z V n (m + 1) s) : Inv Z V n m (tripS u q (kk m) (vv m) s) where
  acc h r d := by
    rw [tripS_acc]
    unfold tripAcc
    rw [locA_emb, headA_emb]
    show s.acc _ + offOut u (q h) (kk m h) (vv m h) (carOf s.car h) (ix2 r d) = _
    rw [I.acc, offOut_at hu (Z h r) hm hn (hs m (by omega) h r) _ (I.car h r), part_tile _ _ _ m (by omega), add_comm]
    congr 1
    exact Finset.sum_congr rfl fun c _ => by rw [hv m (by omega)]
  car h r := by
    rw [tripS_car, carOf_trip, offCarry_at hu (Z h r) hm hn (hs m (by omega) h r) _ (I.car h r)]
  top := by
    obtain ⟨t, ht⟩ := tripS_top u q (kk m) (vv m) s
    rw [ht]
    exact lt_of_lt_of_le (rowMax_gt _ 0 _ (offCarry_at hu (Z 7 0) hm hn (hs m (by omega) 7 0) _ (I.car 7 0))) (le_max_right t _)

/-- The loop takes every tile left. -/
theorem inv_loop : ∀ m, m ≤ n → ∀ s : St Ideal, Inv Z V n m s → Inv Z V n 0 (loopS u q kk vv m s)
  | 0, _, s, I => I
  | m + 1, hm, s, I => by
    have h : Scalar.cmpf .ogt s.top (Named.named κ "skip" 0xC2DC0000#32 : Ideal .f32) = 1#1 := by
      show BitVec.ofBool (decide ((⊥ : EReal) < s.top)) = 1#1
      rw [decide_eq_true I.top]; rfl
    rw [loopS, if_pos h]
    exact inv_loop m (by omega) _ (inv_trip hu hn hs hv (by omega) I)

/-- The last state's accumulator. -/
theorem last_acc (s : St Ideal) (h : Fin 8) (r : Fin 256) (d : Fin 128) :
    (loopS u q kk vv n (diagS u q (kk n) (vv n) s)).acc ((accR h).emb (ix2 r d)) = part (Z h r) (256 * n + r.val) (V h d) 0 :=
  (inv_loop hu hn hs hv n le_rfl _ (inv_diag hu hn hs hv s)).acc h r d

end Loop

end Cert.KernelIdeal.SB

end
-- ==== Proof.SB.KernelIdeal.Value.lean ====
/- The kernel's result, over the reals: the stick-breaking attention of its argument. -/
module

public import proofs.«01_k».proof.Proof.SB.KernelIdeal.Frame
public import proofs.«01_k».proof.Proof.SB.KernelIdeal.Loop
public import proofs.«01_k».proof.Proof.SB.Spec
public import Idealize.ShloMosaic.Lib.Pipeline.ValueKit

@[expose] public section

set_option maxRecDepth 16384

noncomputable section

namespace Cert.KernelIdeal.SB

open Idealize.ShloMosaic Idealize.ShloMosaic.TcCoe
open Idealize.SL.Sem Cert.KernelIdeal.Gen Cert.Stick

variable (m : (ℓ : Loc nD τ sig) → Buf (Elt Ideal) ℓ) (c : Dev nD)

/-- The argument. -/
abbrev rows : Rows := m ((c : Thread nD τ).loc main_arg0)

theorem idx0 : ∀ t : Fin grid0.N, win0_0.index t = ![(grid0.coords t 0).val, 3] := by decide +kernel
theorem idx1 : ∀ t : Fin grid0.N, win0_1.index t = ![0, 4] := by decide +kernel
theorem idx2 : ∀ t : Fin grid0.N, win0_2.index t = ![0, 5] := by decide +kernel
theorem idx3 : ∀ t : Fin grid0.N, win0_3.index t = ![0, 0] := by decide +kernel
theorem idx4 : ∀ t : Fin grid0.N, win0_4.index t = ![(grid0.coords t 0).val, 0] := by decide +kernel

theorem inBlk0_at (t : Fin (cfg0 (F := Ideal)).N) (r : Fin 256) (j : Fin 1024) :
    inBlk m c 0 t (ix2 r j) = entry (rows m c) (256 * (grid0.coords t 0).val + r.val) (3072 + j.val) := by
  have ht : (grid0.coords t 0).val < 32 := (grid0.coords t 0).isLt
  refine (congrFun (atLaunch_arg0 m c) ((win0_0.blk t).view.emb (ix2 r j))).trans (congrArg (rows m c) (funext fun a => Fin.ext ?_))
  refine (Pipeline.Window.rect_emb_val win0_0 t (ix2 r j) a).trans ?_
  rw [idx0]
  match a with
  | ⟨0, _⟩ => show (grid0.coords t 0).val * 256 + r.val = (256 * (grid0.coords t 0).val + r.val) % 8192; omega
  | ⟨1, _⟩ => show 3 * 1024 + j.val = (3072 + j.val) % 6144; omega

theorem inBlk1_at (t : Fin (cfg0 (F := Ideal)).N) (r : Fin 8192) (j : Fin 1024) :
    inBlk m c 1 t (ix2 r j) = entry (rows m c) r.val (4096 + j.val) := by
  refine (congrFun (atLaunch_arg0 m c) ((win0_1.blk t).view.emb (ix2 r j))).trans (congrArg (rows m c) (funext fun a => Fin.ext ?_))
  refine (Pipeline.Window.rect_emb_val win0_1 t (ix2 r j) a).trans ?_
  rw [idx1]
  match a with
  | ⟨0, _⟩ => show 0 * 8192 + r.val = r.val % 8192; omega
  | ⟨1, _⟩ => show 4 * 1024 + j.val = (4096 + j.val) % 6144; omega

theorem inBlk2_at (t : Fin (cfg0 (F := Ideal)).N) (r : Fin 8192) (j : Fin 1024) :
    inBlk m c 2 t (ix2 r j) = entry (rows m c) r.val (5120 + j.val) := by
  refine (congrFun (atLaunch_arg0 m c) ((win0_2.blk t).view.emb (ix2 r j))).trans (congrArg (rows m c) (funext fun a => Fin.ext ?_))
  refine (Pipeline.Window.rect_emb_val win0_2 t (ix2 r j) a).trans ?_
  rw [idx2]
  match a with
  | ⟨0, _⟩ => show 0 * 8192 + r.val = r.val % 8192; omega
  | ⟨1, _⟩ => show 5 * 1024 + j.val = (5120 + j.val) % 6144; omega

/-- The triangle of ones, as the host computes it. -/
theorem tri_entry (k l : Fin 256) : atLaunch m c main_v4 (ix2 k l) = if l < k then (1 : EReal) else 0 := by
  unfold atLaunch
  entry_read
  pointwise
  show (((BitVec.ofBool (decide ((BitVec.ofNat 32 l.val).toInt < (BitVec.ofNat 32 k.val).toInt))).toNat : ℝ) : EReal) = _
  rw [ofNat_toInt, ofNat_toInt]
  by_cases h : l < k
  · rw [if_pos h, decide_eq_true (by exact_mod_cast h)]; simp
  · rw [if_neg h, decide_eq_false (by exact_mod_cast h)]; simp

theorem inBlk3_at (t : Fin (cfg0 (F := Ideal)).N) (k l : Fin 256) : inBlk m c 3 t (ix2 k l) = if l < k then (1 : EReal) else 0 := by
  refine Eq.trans (congrArg (atLaunch m c main_v4) (funext fun a => Fin.ext ?_)) (tri_entry m c k l)
  refine (Pipeline.Window.rect_emb_val win0_3 t (ix2 k l) a).trans ?_
  rw [idx3]
  match a with
  | ⟨0, _⟩ => show 0 * 256 + k.val = k.val; omega
  | ⟨1, _⟩ => show 0 * 256 + l.val = l.val; omega

theorem tri_inBlk (t : Fin (cfg0 (F := Ideal)).N) : Tri (triOf (inBlk m c 3 t)) := fun k l => by
  rw [← inBlk3_at m c t k l]
  unfold triOf
  rw [shapeCast_self]
  refine congrArg (inBlk m c 3 t) (funext fun a => Fin.ext ?_)
  match a with
  | ⟨0, _⟩ => show 0 + 1 * k.val = k.val; omega
  | ⟨1, _⟩ => show 0 + 1 * l.val = l.val; omega

theorem qOf_at (t : Fin (cfg0 (F := Ideal)).N) (h : Fin 8) (r : Fin 256) (e : Fin 128) :
    qOf (inBlk m c 0 t) h (ix2 r e)
      = entry (rows m c) (256 * (grid0.coords t 0).val + r.val) (3072 + 128 * h.val + e.val) * Ideal.ofBits .f32 0x3DB504F3#32 := by
  unfold qOf
  rw [scaledQ_at]
  refine congrArg (· * _) ?_
  rw [show 3072 + 128 * h.val + e.val = 3072 + (⟨128 * h.val + e.val, by omega⟩ : Fin 1024).val by show _ = 3072 + (128 * h.val + e.val); omega,
    ← inBlk0_at m c t r]
  refine congrArg (inBlk m c 0 t) (funext fun a => Fin.ext ?_)
  match a with
  | ⟨0, _⟩ => show 0 + 1 * r.val = r.val; omega
  | ⟨1, _⟩ => show 128 * h.val + 1 * e.val = 128 * h.val + e.val; omega

/-- A block of 256 rows and 128 columns of an array, read. -/
theorem blk_at (X : S8192x1024.Idx → Elt Ideal .bf16) (j : ℕ) (hj : j < 32) (h : Fin 8) (k : Fin 256) (e : Fin 128) :
    blk X j h (ix2 k e) = X (ix2 ⟨256 * j + k.val, by omega⟩ ⟨128 * h.val + e.val, by omega⟩) := by
  unfold blk
  refine congrArg X (funext fun a => Fin.ext ?_)
  match a with
  | ⟨0, _⟩ => show (256 * j + k.val) % 8192 = 256 * j + k.val; omega
  | ⟨1, _⟩ => show (128 * h.val + e.val) % 1024 = 128 * h.val + e.val; omega

theorem kblk_at (t : Fin (cfg0 (F := Ideal)).N) (j : ℕ) (hj : j < 32) (h : Fin 8) (k : Fin 256) (e : Fin 128) :
    blk (inBlk m c 1 t) j h (ix2 k e) = entry (rows m c) (256 * j + k.val) (4096 + 128 * h.val + e.val) := by
  rw [blk_at _ _ hj, inBlk1_at]
  exact congrArg (entry (rows m c) _) (Nat.add_assoc _ _ _).symm

theorem vblk_at (t : Fin (cfg0 (F := Ideal)).N) (j : ℕ) (hj : j < 32) (h : Fin 8) (k : Fin 256) (e : Fin 128) :
    blk (inBlk m c 2 t) j h (ix2 k e) = value (rows m c) h e (256 * j + k.val) := by
  rw [blk_at _ _ hj, inBlk2_at]
  exact congrArg (entry (rows m c) _) (Nat.add_assoc _ _ _).symm

/-- The block written at a point. -/
theorem outBlk_at (hp : Finite (rows m c)) (t : Fin (cfg0 (F := Ideal)).N) (h : Fin 8) (r : Fin 256) (d : Fin 128) :
    outBlk m c t ((accR h).emb (ix2 r d)) = attend (rows m c) h d (256 * (grid0.coords t 0).val + r.val) :=
  last_acc (Z := fun h r => score (rows m c) h (256 * (grid0.coords t 0).val + r.val)) (V := value (rows m c))
    (tri_inBlk m c t) (grid0.coords t 0).isLt
    (fun j hj h r k => by
      rw [scores_at, ← score_eq _ hp]
      exact Finset.sum_congr rfl fun e _ => by rw [qOf_at, kblk_at _ _ _ _ hj])
    (fun j hj h k d => vblk_at m c t j hj h k d) blank h r d

/-- The result array. -/
theorem arr_result (hp : Finite (rows m c)) : (dats m 0 c).arrAt 4 (cfg0 (F := Ideal)).N = result (rows m c) := by
  refine (dats m 0 c).arrAt_eq_of_covers 4 _ (by decide +kernel) fun t hf y => ?_
  have ht : (grid0.coords t 0).val < 32 := (grid0.coords t 0).isLt
  have h0 : (y 0).val < 256 := (y 0).isLt
  have h1 : (y 1).val < 1024 := (y 1).isLt
  have e0 : ((win0_4.blk t).view.emb y 0).val = 256 * (grid0.coords t 0).val + (y 0).val := by
    refine (Pipeline.Window.rect_emb_val win0_4 t y 0).trans ?_
    rw [idx4]
    show (grid0.coords t 0).val * 256 + (y 0).val = _
    omega
  have e1 : ((win0_4.blk t).view.emb y 1).val = (y 1).val := by
    refine (Pipeline.Window.rect_emb_val win0_4 t y 1).trans ?_
    rw [idx4]
    show 0 * 1024 + (y 1).val = _
    omega
  blk_simp
  rw [after_4]
  have hy : y = (accR ⟨(y 1).val / 128, by omega⟩).emb (ix2 ⟨(y 0).val, h0⟩ ⟨(y 1).val % 128, Nat.mod_lt _ (by decide)⟩) := by
    funext a; refine Fin.ext ?_
    match a with
    | ⟨0, _⟩ => show (y 0).val = 0 + 1 * (y 0).val; omega
    | ⟨1, _⟩ => show (y 1).val = 128 * ((y 1).val / 128) + 1 * ((y 1).val % 128); omega
  refine (congrArg (outBlk m c t) hy).trans ((outBlk_at m c hp t _ _ _).trans ?_)
  unfold result
  rw [e0]
  congr 1
  · exact Fin.ext (congrArg (· / 128) e1.symm)
  · exact Fin.ext (congrArg (· % 128) e1.symm)

end Cert.KernelIdeal.SB

end
-- ==== Proof.SB.Suffix.lean ====
/- The host's running sum from each place of the last axis to its end, over the reals. -/
module

public import proofs.«01_k».proof.Proof.SB.Spec
public import Idealize.ShloMosaic.Lib.Pointwise

@[expose] public section

noncomputable section

namespace Cert.Stick

open Idealize.ShloMosaic Finset

theorem foldl_add {α : Type*} (g : α → EReal) (l : List α) : ∀ v, l.foldl (fun r n => r + g n) v = v + (l.map g).sum := by
  induction l with
  | nil => intro v; simp
  | cons a l ih => intro v; rw [List.foldl_cons, ih, List.map_cons, List.sum_cons, add_assoc]

theorem sum_suffix (N j : ℕ) (hj : j < N) (f : ℕ → ℝ) :
    ∑ k : Fin N, (if j + k.val < N then f (j + k.val) else 0) = ∑ k ∈ Ico j N, f k := by
  rw [Fin.sum_univ_eq_sum_range (fun k => if j + k < N then f (j + k) else 0) N, ← Finset.sum_filter, Finset.sum_Ico_eq_sum_range]
  refine Finset.sum_congr (Finset.ext fun k => ?_) fun _ _ => rfl
  simp only [Finset.mem_filter, Finset.mem_range]
  omega

variable {A B N Nm1 : ℕ}

theorem place (x : (⟨3, ![A, B, N]⟩ : Shape).Idx → EReal) (a : Fin A) (b : Fin B) (n : ℕ) (p : Fin 3 → ℕ) (h0 : p 0 = a.val) (h1 : p 1 = b.val)
    (h2 : p 2 = n) (f : ℕ → ℝ) (hx : ∀ k : Fin N, x (ix3 a b k) = (f k.val : EReal))
    (D : Decidable (∀ c : Fin 3, (![0, 0, 0] : Fin 3 → ℕ) c ≤ p c ∧ p c - (![0, 0, 0] : Fin 3 → ℕ) c < (⟨3, ![A, B, N]⟩ : Shape).size c)) :
    (if hin : ∀ c : Fin 3, (![0, 0, 0] : Fin 3 → ℕ) c ≤ p c ∧ p c - (![0, 0, 0] : Fin 3 → ℕ) c < (⟨3, ![A, B, N]⟩ : Shape).size c
      then x (fun c => ⟨p c - (![0, 0, 0] : Fin 3 → ℕ) c, (hin c).2⟩) else 0) = ((if n < N then f n else 0 : ℝ) : EReal) := by
  have hz : ∀ c : Fin 3, (![0, 0, 0] : Fin 3 → ℕ) c = 0 := by decide
  by_cases hq : n < N
  · rw [if_pos hq, dif_pos]
    · rw [← hx ⟨n, hq⟩]
      refine congrArg x (funext fun c => Fin.ext ?_)
      show p c - _ = _
      rw [hz, Nat.sub_zero]
      fin_cases c
      · exact h0
      · exact h1
      · exact h2
    · intro c
      rw [hz, Nat.sub_zero]
      refine ⟨Nat.zero_le _, ?_⟩
      fin_cases c
      · exact h0 ▸ a.isLt
      · exact h1 ▸ b.isLt
      · exact h2 ▸ hq
  · rw [if_neg hq, dif_neg]
    · rfl
    · intro hin
      have h3 := (hin 2).2
      rw [hz, Nat.sub_zero, h2] at h3
      exact hq h3

/-- The running sum from each place to the end. -/
theorem suffix_at (x : FVec Ideal (⟨3, ![A, B, N]⟩ : Shape) .f32) (init : FVec Ideal (⟨0, ![]⟩ : Shape) .f32)
    (h : (⟨3, ![A, B, N]⟩ : Shape).ReduceWindows (![1, 1, N] : Fin 3 → ℕ) ![1, 1, 1] ![0, 0, 0] ![0, 0, Nm1] (⟨3, ![A, B, N]⟩ : Shape))
    (hu : 0 < (⟨0, ![]⟩ : Shape).numel) (hi : init (Shape.Idx.first hu) = 0) (a : Fin A) (b : Fin B) (j : Fin N) (f : ℕ → ℝ)
    (hx : ∀ k : Fin N, x (ix3 a b k) = (f k.val : EReal)) :
    Host.reduceWindowAdd ![1, 1, N] ![1, 1, 1] ![0, 0, 0] ![0, 0, Nm1] x init h hu (ix3 a b j) = ((∑ k ∈ Ico j.val N, f k : ℝ) : EReal) := by
  rw [← sum_suffix N j.val j.isLt f, sum_coe]
  show (List.finRange _).foldl (fun r n => r + _) (init (Shape.Idx.first hu)) = _
  rw [foldl_add, hi, zero_add, ← Fin.sum_univ_def]
  refine (Finset.sum_congr rfl fun n _ => ?_).trans ((Equiv.sum_comp (⟨3, ![1, 1, N]⟩ : Shape).rowMajor.symm
    fun q => ((if j.val + (q 2).val < N then f (j.val + (q 2).val) else 0 : ℝ) : EReal)).trans ?_)
  · have q0 : (((⟨3, ![1, 1, N]⟩ : Shape).rowMajor.symm n) 0).val = 0 := Nat.lt_one_iff.mp (((⟨3, ![1, 1, N]⟩ : Shape).rowMajor.symm n) 0).isLt
    have q1 : (((⟨3, ![1, 1, N]⟩ : Shape).rowMajor.symm n) 1).val = 0 := Nat.lt_one_iff.mp (((⟨3, ![1, 1, N]⟩ : Shape).rowMajor.symm n) 1).isLt
    refine place x a b _ _ ?_ ?_ ?_ f hx _
    · exact (congrArg₂ (· + ·) (Nat.mul_one a.val) q0).trans (Nat.add_zero _)
    · exact (congrArg₂ (· + ·) (Nat.mul_one b.val) q1).trans (Nat.add_zero _)
    · exact congrArg (· + _) (Nat.mul_one j.val)
  · rw [sum_idx3, Fin.sum_univ_one, Fin.sum_univ_one]
    rfl

end Cert.Stick

end
-- ==== Proof.SB.ReferenceIdeal.Stages.lean ====
/- The reference's value in named stages: the scores, the two logarithms of the logistic function, the mask, the running sum
   from each key to the end, the weights, and the sum of the values. -/
module

public import proofs.«01_k».proof.Proof.Gen.ReferenceIdeal.Run
public import proofs.«01_k».proof.Proof.SB.Suffix

@[expose] public section

noncomputable section

namespace Cert.ReferenceIdeal.SB

open Idealize.ShloMosaic Idealize.ShloMosaic.TcCoe Idealize.ShloMosaic.StableHlo
open Idealize.SL.Sem Cert.ReferenceIdeal Cert.ReferenceIdeal.Gen Cert.Stick

def heads (x : FVec Ideal S8192x1024 .f32) : FVec Ideal S8x8192x128 .f32 :=
  transpose S8x8192x128 [1, 0, 2] (shapeCast _ x shapeCasts_S8192x1024_S8192x8x128) transposes_S8192x8x128_S8x8192x128_1_0_2

def queries (p : FVec Ideal S8192x6144 .bf16) : FVec Ideal S8x8192x128 .f32 :=
  mulf (heads (extractStridedSlice S8192x1024 ![0, 3072] (extf .f32 p bitsLt_bf16_f32) slices_S8192x6144_S8192x1024_0_3072))
    (broadcastInDim S8x8192x128 ![] bcast_S_S8x8192x128 (constant S_ .f32 0x3DB504F3#32))

def keys (p : FVec Ideal S8192x6144 .bf16) : FVec Ideal S8x8192x128 .f32 :=
  heads (extractStridedSlice S8192x1024 ![0, 4096] (extf .f32 p bitsLt_bf16_f32) slices_S8192x6144_S8192x1024_0_4096)

def values (p : FVec Ideal S8192x6144 .bf16) : FVec Ideal S8x8192x128 .f32 :=
  heads (extractStridedSlice S8192x1024 ![0, 5120] (extf .f32 p bitsLt_bf16_f32) slices_S8192x6144_S8192x1024_0_5120)

def scores (p : FVec Ideal S8192x6144 .bf16) : FVec Ideal S8x8192x8192 .f32 :=
  Host.dotGeneral dot_S8x8192x128_S8x8192x128_S8x8192x8192_2_2_1_1_0_0 none (queries p) (keys p)

def zeros : FVec Ideal S8x8192x8192 .f32 := broadcastInDim S8x8192x8192 ![] bcast_S_S8x8192x8192 (constant S_ .f32 0x00000000#32)

def softplus (x : FVec Ideal S8x8192x8192 .f32) : FVec Ideal S8x8192x8192 .f32 :=
  select (cmpf .une (subf x zeros) (subf x zeros)) (addf x zeros)
    (addf (maximumf x zeros) (Host.log1p (Host.exp (Host.negf (Host.absf (subf x zeros))))))

def logistic (z : FVec Ideal S8x8192x8192 .f32) : FVec Ideal S8x8192x8192 .f32 := Host.negf (softplus (Host.negf z))

def mask : IVec S8x8192x8192 1 :=
  broadcastInDim S8x8192x8192 ![1, 2] bcast_S8192x8192_S8x8192x8192_1_2
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

def keeps (z : FVec Ideal S8x8192x8192 .f32) : FVec Ideal S8x8192x8192 .f32 := select mask (logistic (Host.negf z)) zeros

def afters (z : FVec Ideal S8x8192x8192 .f32) : FVec Ideal S8x8192x8192 .f32 :=
  subf (Host.reduceWindowAdd ![1, 1, 8192] ![1, 1, 1] ![0, 0, 0] ![0, 0, 8191] (keeps z)
    (broadcastInDim S_ ![] bcast_S_S_ (constant S_ .f32 0x00000000#32)) reduceWindows_S8x8192x8192_S8x8192x8192_w1s1p0_0_w1s1p0_0_w8192s1p0_8191 h_S_) (keeps z)

def weights (z : FVec Ideal S8x8192x8192 .f32) : FVec Ideal S8x8192x8192 .f32 :=
  select mask (Host.exp (addf (logistic z) (afters z))) zeros

def out (p : FVec Ideal S8192x6144 .bf16) : FVec Ideal S8192x1024 .bf16 :=
  truncf .bf16 (shapeCast _ (transpose S8192x8x128 [1, 0, 2]
    (Host.dotGeneral dot_S8x8192x8192_S8x8192x128_S8x8192x128_2_1_1_2_0_0 none (weights (scores p)) (values p))
    transposes_S8x8192x128_S8192x8x128_1_0_2) shapeCasts_S8192x8x128_S8192x1024) bitsLt_bf16_f32

theorem res_eq (m : (ℓ : Loc nD τ sig) → Buf (Elt Ideal) ℓ) (c : Dev nD) :
    Value.res_main_v31 (F := Ideal) m c = out (m ((c.tc : Thread nD τ).loc main_arg0)) := rfl

end Cert.ReferenceIdeal.SB

end
-- ==== Proof.SB.ReferenceIdeal.Value.lean ====
/- Each stage of the reference at an index, and the reference's result. -/
module

public import proofs.«01_k».proof.Proof.SB.ReferenceIdeal.Stages

@[expose] public section

noncomputable section

namespace Cert.ReferenceIdeal.SB

open Idealize.ShloMosaic Idealize.ShloMosaic.TcCoe Idealize.ShloMosaic.StableHlo
open Idealize.SL.Sem Cert.ReferenceIdeal Cert.ReferenceIdeal.Gen Cert.Stick Finset

theorem pos_toInt (c : Fin 8192) : (BitVec.ofNat 32 c.val).toInt = c.val := by
  have h := c.isLt
  have h' : (BitVec.ofNat 32 c.val).toNat = c.val := by rw [BitVec.toNat_ofNat, Nat.mod_eq_of_lt (by omega)]
  rw [BitVec.toInt_eq_toNat_of_lt (by rw [h']; omega), h']

theorem mask_at (h : Fin 8) (i j : Fin 8192) : mask (ix3 h i j) = if j < i then 1#1 else 0#1 := by
  pointwise [mask]
  show BitVec.ofBool (decide ((BitVec.ofNat 32 j.val).toInt < (BitVec.ofNat 32 i.val).toInt)) = _
  rw [pos_toInt, pos_toInt]
  by_cases hj : j < i
  · rw [if_pos hj, decide_eq_true (by exact_mod_cast hj)]; rfl
  · rw [if_neg hj, decide_eq_false (by exact_mod_cast hj)]; rfl

theorem softplus_at (s : FVec Ideal S8x8192x8192 .f32) (z : ℝ) (j : S8x8192x8192.Idx) (h : s j = (z : EReal)) :
    softplus s j = ((sp z : ℝ) : EReal) := by
  rw [← sp_ideal z, ← h]
  pointwise [softplus, zeros]
  rw [if_neg (fun hn => hn rfl), zero_sub]
  rfl

theorem logistic_at (s : FVec Ideal S8x8192x8192 .f32) (z : ℝ) (j : S8x8192x8192.Idx) (h : s j = (z : EReal)) :
    logistic s j = ((-sp (-z) : ℝ) : EReal) := by
  have h' := softplus_at (Host.negf s) (-z) j (by pointwise []; rw [h, EReal.coe_neg])
  pointwise [logistic]
  rw [h', EReal.coe_neg]

theorem heads_at (x : FVec Ideal S8192x1024 .f32) (h : Fin 8) (i : Fin 8192) (d : Fin 128) :
    heads x (ix3 h i d) = x (ix2 i ⟨128 * h.val + d.val, by omega⟩) := by
  pointwise [heads]
  exact congrArg (fun q => x (ix2 i q)) (Fin.ext (congrArg (· + d.val) (Nat.mul_comm _ _)))

theorem entry_at (p : Rows) (i : Fin 8192) (n k : ℕ) (hn : n < 6144) (h : n = k) : p (ix2 i ⟨n, hn⟩) = entry p i.val k := by
  subst h
  exact entry_eq p i ⟨n, hn⟩

theorem scores_at (p : Rows) (hp : Finite p) (h : Fin 8) (i j : Fin 8192) : scores p (ix3 h i j) = ((score p h i.val j.val : ℝ) : EReal) := by
  pointwise [scores, queries, keys, heads_at]
  rw [← score_eq p hp]
  refine Finset.sum_congr rfl fun e _ => ?_
  exact congrArg₂ (fun a b => a * Ideal.ofBits .f32 0x3DB504F3#32 * b) (entry_at p i _ _ _ (Nat.add_assoc _ _ _).symm)
    (entry_at p j _ _ _ (Nat.add_assoc _ _ _).symm)

theorem keeps_at (z : FVec Ideal S8x8192x8192 .f32) (s : ℕ → ℝ) (h : Fin 8) (i : Fin 8192) (hz : ∀ j : Fin 8192, z (ix3 h i j) = (s j.val : EReal))
    (j : Fin 8192) : keeps z (ix3 h i j) = ((keep s i.val j.val : ℝ) : EReal) := by
  have hl := logistic_at (Host.negf z) (-s j.val) (ix3 h i j) (by pointwise []; rw [hz, EReal.coe_neg])
  have hm := mask_at h i j
  pointwise [keeps, zeros]
  rw [hl, hm, keep, neg_neg]
  by_cases hj : j < i
  · rw [if_pos hj, if_pos (by exact_mod_cast hj)]; rfl
  · rw [if_neg hj, if_neg (by exact_mod_cast hj)]; rfl

theorem afters_at (z : FVec Ideal S8x8192x8192 .f32) (s : ℕ → ℝ) (h : Fin 8) (i : Fin 8192) (hz : ∀ j : Fin 8192, z (ix3 h i j) = (s j.val : EReal))
    (j : Fin 8192) : afters z (ix3 h i j) = ((rest s i.val j.val : ℝ) : EReal) := by
  have hk := keeps_at z s h i hz
  have hc := suffix_at (keeps z) (broadcastInDim S_ ![] bcast_S_S_ (constant S_ .f32 0x00000000#32))
    reduceWindows_S8x8192x8192_S8x8192x8192_w1s1p0_0_w1s1p0_0_w8192s1p0_8191 h_S_ (by pointwise []) h i j (keep s i.val) hk
  have e : ∀ x y : FVec Ideal S8x8192x8192 .f32, subf x y (ix3 h i j) = x (ix3 h i j) - y (ix3 h i j) := fun _ _ => rfl
  rw [afters, e, hk]
  generalize Host.reduceWindowAdd (F := Ideal) _ _ _ _ _ _ _ _ = w at hc ⊢
  rw [hc, ← EReal.coe_sub, Finset.sum_eq_sum_Ico_succ_bot j.isLt, add_sub_cancel_left]
  rfl

theorem weights_at (z : FVec Ideal S8x8192x8192 .f32) (s : ℕ → ℝ) (h : Fin 8) (i : Fin 8192) (hz : ∀ j : Fin 8192, z (ix3 h i j) = (s j.val : EReal))
    (j : Fin 8192) : weights z (ix3 h i j) = ((wt s i.val j.val : ℝ) : EReal) := by
  have ha := afters_at z s h i hz j
  have hl := logistic_at z (s j.val) (ix3 h i j) (hz j)
  have hm := mask_at h i j
  pointwise [weights, zeros]
  rw [ha, hl, hm, wt, ← EReal.coe_add]
  by_cases hj : j < i
  · rw [if_pos hj, if_pos (by exact_mod_cast hj)]; rfl
  · rw [if_neg hj, if_neg (by exact_mod_cast hj)]; rfl

theorem values_at (p : Rows) (h : Fin 8) (j : Fin 8192) (d : Fin 128) : values p (ix3 h j d) = value p h d j.val := by
  pointwise [values, heads_at]
  exact entry_at p j _ _ _ (Nat.add_assoc _ _ _).symm

theorem out_at (p : Rows) (hp : Finite p) (i : Fin 8192) (c : Fin 1024) : out p (ix2 i c) = result p (ix2 i c) := by
  have hw := fun h : Fin 8 => weights_at (scores p) (fun j => score p h i.val j) h i fun j => scores_at p hp h i j
  pointwise [out, values_at, hw]
  refine (Fin.sum_univ_eq_sum_range (fun k => ((wt (fun j => score p ⟨c.val / 128, by omega⟩ i.val j) i.val k : ℝ) : EReal)
    * value p ⟨c.val / 128, by omega⟩ ⟨c.val % 128, Nat.mod_lt _ (by decide)⟩ k) 8192).trans ?_
  rw [Finset.range_eq_Ico]
  rfl

theorem out_eq (p : Rows) (hp : Finite p) : out p = result p := by
  funext x
  rw [eq_ix2 x]
  exact out_at p hp _ _

end Cert.ReferenceIdeal.SB

end
-- ==== Proof.SB.Claims.lean ====
/- The claims about the attention, one by one. -/
module

public import proofs.«01_k».proof.Defs
public import proofs.«01_k».proof.Proof.SB.Finite
public import proofs.«01_k».proof.Proof.SB.Kernel.Frame
public import proofs.«01_k».proof.Proof.SB.KernelIdeal.Frame
public import proofs.«01_k».proof.Proof.SB.KernelIdeal.Value
public import proofs.«01_k».proof.Proof.SB.ReferenceIdeal.Value
public import Idealize.ShloMosaic.Lib.Claim

@[expose] public section

noncomputable section

namespace Cert.Stick

open Idealize.ShloMosaic Idealize.ShloMosaic.TcCoe Idealize.SL.Sem

theorem pre_facts : Cert.Pre_finite_scores.Facts := ⟨by decide, by decide, by decide, by decide, by decide⟩

theorem quiet_kernel : @Cert.quiescent_Kernel Cert.Kernel.Gen.facts := fun m g _ => Cert.Kernel.SB.frame m g

theorem quiet_ideal : @Cert.quiescent_KernelIdeal Cert.KernelIdeal.Gen.facts := fun m g _ => Cert.KernelIdeal.SB.frame m g

theorem quiet_ideal_pre : @Cert.quiescent_KernelIdeal_pre_finite_scores Cert.KernelIdeal.Gen.facts pre_facts := fun m g _ =>
  Cert.KernelIdeal.SB.frame m g

theorem quiet_reference : @Cert.quiescent_ReferenceIdeal Cert.ReferenceIdeal.Gen.facts := by
  intro m g _
  exact (θ_run _ _ _).mono (fun r h => ⟨fun c => (h c).2, sem_eq_zero_of_no_sems (by decide) r.2⟩) (Cert.ReferenceIdeal.Value.run m g)

theorem quiet_reference_pre : @Cert.quiescent_ReferenceIdeal_pre_finite_scores Cert.ReferenceIdeal.Gen.facts pre_facts := fun m g _ =>
  quiet_reference m g trivial

theorem preserved : Cert.preserves_Kernel_KernelIdeal :=
  IdealRules.named_const.statement Cert.KernelIdeal.κ "skip" .f32 0xC2DC0000#32 ⊥ rfl

theorem same_result : @Cert.algebraic_KernelIdeal_ReferenceIdeal_pre_finite_scores Cert.KernelIdeal.Gen.facts Cert.ReferenceIdeal.Gen.facts pre_facts := by
  intro m g m' g' hpre hagree
  have hp : ∀ c : Dev Cert.KernelIdeal.nD, Finite (Cert.KernelIdeal.SB.rows m c) := fun c => @finite_of pre_facts _ (hpre c)
  refine ⟨fun c => result (Cert.KernelIdeal.SB.rows m c), ?_, ?_⟩
  · exact (θ_run _ _ _).mono (fun r h c => ⟨(h c).1.trans (Cert.KernelIdeal.SB.arr_result m c (hp c)), (h c).2⟩) (Cert.KernelIdeal.SB.run_result m g)
  · refine (θ_run _ _ _).mono (fun r h c => ⟨(h c).1.trans ?_, (h c).2⟩) (Cert.ReferenceIdeal.Value.run m' g')
    rw [Cert.ReferenceIdeal.SB.res_eq, hagree c]
    exact Cert.ReferenceIdeal.SB.out_eq (Cert.KernelIdeal.SB.rows m c) (hp c)

end Cert.Stick

end
-- ==== Proof.Out.Stages.lean ====
/- The output projection with its layer norm, as the reference computes it: the scaled residual plus the gated projection, and the
   normalization of its rows. -/
module

public import proofs.«01_k».proof.Proof.Gen.Reference2Ideal.Run
public import Idealize.ShloMosaic.Lib.Pipeline.ValueKit

@[expose] public section

noncomputable section

namespace Cert.Out

open Idealize.ShloMosaic Idealize.ShloMosaic.TcCoe
open Idealize.SL.Sem Cert.Reference2Ideal Cert.Reference2Ideal.Gen

/-- The scaled residual plus the gated projection. -/
def mixed (A B : FVec Ideal S8192x1024 .bf16) (W : FVec Ideal S2048x2048 .f32) (X : FVec Ideal S8192x2048 .f32) (G : FVec Ideal S1x2048 .f32) :
    FVec Ideal S8192x2048 .f32 :=
  addf (mulf (broadcastInDim S8192x2048 ![] bcast_S_S8192x2048 (constant S_ .f32 0x3FD744FD#32)) X)
    (mulf (broadcastInDim S8192x2048 ![0, 1] bcast_S1x2048_S8192x2048_0_1 (addf (broadcastInDim S1x2048 ![] bcast_S_S1x2048 (constant S_ .f32 0x3F800000#32)) G))
      (Host.dotGeneral dot_S8192x2048_S2048x2048_S8192x2048_1_0_0_1_n_n none
        (concatenate S8192x2048 1 [⟨S8192x1024, (extf .f32 A bitsLt_bf16_f32)⟩, ⟨S8192x1024, (extf .f32 B bitsLt_bf16_f32)⟩] concatenates_S8192x1024_S8192x1024_S8192x2048_d1) W))

/-- The rows' means. -/
abbrev rowMean (Z : FVec Ideal S8192x2048 .f32) : FVec Ideal S8192x1 .f32 :=
  Host.divf (broadcastInDim S8192x1 ![0] bcast_S8192_S8192x1_0 (Host.reduceAdd Z (constant S_ .f32 0x00000000#32) reducesTo_S8192x2048_S8192_d1 h_S_))
    (broadcastInDim S8192x1 ![] bcast_S_S8192x1 (constant S_ .f32 0x45000000#32))

/-- The rows less their means. -/
def centred (Z : FVec Ideal S8192x2048 .f32) : FVec Ideal S8192x2048 .f32 :=
  subf Z (broadcastInDim S8192x2048 ![0, 1] bcast_S8192x1_S8192x2048_0_1 (rowMean Z))

/-- The centred rows over their deviation, scaled and shifted. -/
abbrev normed (Z : FVec Ideal S8192x2048 .f32) (S H : FVec Ideal S2048 .f32) : FVec Ideal S8192x2048 .f32 :=
  addf (mulf (mulf (centred Z) (broadcastInDim S8192x2048 ![0, 1] bcast_S8192x1_S8192x2048_0_1
      (Host.rsqrt (addf (rowMean (mulf (centred Z) (centred Z))) (broadcastInDim S8192x1 ![] bcast_S_S8192x1 (constant S_ .f32 0x3727C5AC#32))))))
    (broadcastInDim S8192x2048 ![0, 1] bcast_S1x2048_S8192x2048_0_1 (broadcastInDim S1x2048 ![1] bcast_S2048_S1x2048_1 S)))
    (broadcastInDim S8192x2048 ![0, 1] bcast_S1x2048_S8192x2048_0_1 (broadcastInDim S1x2048 ![1] bcast_S2048_S1x2048_1 H))

variable (m : (ℓ : Loc nD τ sig) → Buf (Elt Ideal) ℓ) (c : Dev nD)

/-- The reference's result, by its stages. -/
theorem result_eq : Cert.Reference2Ideal.Value.res_main_v34 m c
    = normed (mixed (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)))
      (m ((c.tc : Thread nD τ).loc main_arg5)) (m ((c.tc : Thread nD τ).loc main_arg6)) := by
  unfold Cert.Reference2Ideal.Value.res_main_v34
  rfl

end Cert.Out

end
-- ==== Proof.Out.Value.lean ====
/- The output projection's result, over the reals: the reference's normalized rows. -/
module

public import proofs.«01_k».proof.Proof.Gen.Kernel2Ideal.Frame
public import proofs.«01_k».proof.Proof.Out.Stages
public import Idealize.ShloMosaic.Lib.Pipeline.ValueKit

@[expose] public section

set_option maxRecDepth 16384

noncomputable section

namespace Cert.Out

open Idealize.ShloMosaic Idealize.ShloMosaic.TcCoe Idealize.SL.Sem
open Idealize.ShloMosaic.Pipeline (Dat)
open Cert.Kernel2Ideal Cert.Kernel2Ideal.Gen

/-- The block of the scaled residual plus the gated projection, as the body computes it. -/
def mixedBlk (a b : FVec Ideal S256x1024 .bf16) (w : FVec Ideal S2048x2048 .bf16) (x : FVec Ideal S256x2048 .f32) (g : FVec Ideal S1x2048 .f32) : FVec Ideal S256x2048 .f32 :=
  addf (mulf (broadcast S256x2048 (Scalar.ofBits .f32 0x3FD744FD#32 : Ideal .f32)) x)
    (mulf (broadcastTo S256x2048 (addf (broadcast S1x2048 (Scalar.ofBits .f32 0x3F800000#32 : Ideal .f32)) g) broadcasts_S1x2048_S256x2048)
      (addf (matmul dot_S256x1024_S1024x2048_S256x2048_1_0_0_1_n_n none a
          (shapeCast S1024x2048 (fun i => w (r0_1.emb i) : FVec Ideal S1024x2048 .bf16) shapeCasts_S1024x2048_S1024x2048) (constant S256x2048 .f32 0x00000000#32))
        (matmul dot_S256x1024_S1024x2048_S256x2048_1_0_0_1_n_n none b
          (shapeCast S1024x2048 (fun i => w (r0_2.emb i) : FVec Ideal S1024x2048 .bf16) shapeCasts_S1024x2048_S1024x2048) (constant S256x2048 .f32 0x00000000#32))))

/-- The block less its rows' means. -/
def centredBlk (z : FVec Ideal S256x2048 .f32) : FVec Ideal S256x2048 .f32 :=
  subf z (broadcastTo S256x2048 (divf (shapeCast S256x1 (multiReduction .add [1] S256 z 0x00000000#32 reduces_S256x2048_S256 (.inl rfl) rfl) shapeCasts_S256_S256x1)
    (broadcast S256x1 (Scalar.ofBits .f32 0x45000000#32 : Ideal .f32))) broadcasts_S256x1_S256x2048)

theorem pay_centred (a b : FVec Ideal S256x1024 .bf16) (w : FVec Ideal S2048x2048 .bf16) (x : FVec Ideal S256x2048 .f32) (g : FVec Ideal S1x2048 .f32) :
    k0_pay4 a (View.ld w r0_1) b (View.ld w r0_2) x g = centredBlk (mixedBlk a b w x g) := by
  unfold k0_pay4 centredBlk mixedBlk
  rfl

/-- The mean square of the rows of a block. -/
def spreadBlk (z : FVec Ideal S256x2048 .f32) : FVec Ideal S256x1 .f32 :=
  divf (shapeCast S256x1 (multiReduction .add [1] S256 (mulf z z) 0x00000000#32 reduces_S256x2048_S256 (.inl rfl) rfl) shapeCasts_S256_S256x1)
    (broadcast S256x1 (Scalar.ofBits .f32 0x45000000#32 : Ideal .f32))

theorem pay_spread (a b : FVec Ideal S256x1024 .bf16) (w : FVec Ideal S2048x2048 .bf16) (x : FVec Ideal S256x2048 .f32) (g : FVec Ideal S1x2048 .f32) :
    k0_pay5 a (View.ld w r0_1) b (View.ld w r0_2) x g = spreadBlk (centredBlk (mixedBlk a b w x g)) := by
  rw [← pay_centred]
  unfold k0_pay5 spreadBlk
  rfl

variable (m : (ℓ : Loc nD τ sig) → Buf (Elt Ideal) ℓ)

/-- The reference's mixed rows, over the kernel's arguments. -/
abbrev Mixed (c : Dev nD) : FVec Ideal S8192x2048 .f32 :=
  mixed (m ((c : Thread nD τ).loc main_arg0)) (m ((c : Thread nD τ).loc main_arg1)) (m ((c : Thread nD τ).loc main_arg2))
    (m ((c : Thread nD τ).loc main_arg3)) (m ((c : Thread nD τ).loc main_arg4))

theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![0, 0] ∧ win0_6.index t = ![0, 0] ∧ win0_7.index t = ![t.val, 0] :=
  (by decide +kernel : ∀ t : Fin grid0.N, _)

theorem row_lt (t : Fin cfg0.N) (i : Fin 256) : t.val * 256 + i.val < 8192 := by
  have h : t.val < 32 := lt_of_lt_of_eq t.isLt (by decide)
  omega

/-- The row of the arrays that a row of a point's block is. -/
abbrev rowOf (t : Fin cfg0.N) (i : Fin 256) : Fin 8192 := ⟨t.val * 256 + i.val, row_lt t i⟩

theorem emb_top (k : Fin 1024) (j : Fin 2048) : r0_1.emb (ix2 k j) = ix2 (⟨k.val, by omega⟩ : Fin 2048) j := by
  funext a; refine Fin.ext ?_
  match a with
  | ⟨0, _⟩ => show 0 + 1 * k.val = k.val; omega
  | ⟨1, _⟩ => show 0 + 1 * j.val = j.val; omega
theorem emb_bottom (k : Fin 1024) (j : Fin 2048) : r0_2.emb (ix2 k j) = ix2 (⟨1024 + k.val, by omega⟩ : Fin 2048) j := by
  funext a; refine Fin.ext ?_
  match a with
  | ⟨0, _⟩ => show 1024 + 1 * k.val = 1024 + k.val; omega
  | ⟨1, _⟩ => show 0 + 1 * j.val = j.val; omega

/-- The mixed rows of a point's block are the arrays'. -/
theorem mixed_at (c : Dev nD) (t : Fin cfg0.N) (i : Fin 256) (j : Fin 2048) :
    mixedBlk (iblk m c 0 t) (iblk m c 1 t) (iblk m c 2 t) (iblk m c 3 t) (iblk m c 4 t) (ix2 i j) = Mixed m c (ix2 (rowOf t i) j) := by
  pointwise [mixedBlk, Mixed, mixed]
  simp only [emb_top, emb_bottom]
  blk_point [iblk, V, idx t]

theorem centred_at (c : Dev nD) (t : Fin cfg0.N) (i : Fin 256) (j : Fin 2048) :
    centredBlk (mixedBlk (iblk m c 0 t) (iblk m c 1 t) (iblk m c 2 t) (iblk m c 3 t) (iblk m c 4 t)) (ix2 i j) = centred (Mixed m c) (ix2 (rowOf t i) j) := by
  have h := mixed_at m c t
  generalize mixedBlk (iblk m c 0 t) (iblk m c 1 t) (iblk m c 2 t) (iblk m c 3 t) (iblk m c 4 t) = z at h ⊢
  generalize Mixed m c = Z at h ⊢
  pointwise [centredBlk, centred]
  simp only [h]

/-- The reference's result, over the kernel's arguments. -/
abbrev Result (c : Dev nD) : FVec Ideal S8192x2048 .f32 :=
  normed (Mixed m c) (m ((c : Thread nD τ).loc main_arg5)) (m ((c : Thread nD τ).loc main_arg6))

/-- What the body stores at a block's index is the reference's result there. -/
theorem point (c : Dev nD) (t : Fin cfg0.N) (i : Fin 256) (j : Fin 2048) (z : FVec Ideal S256x2048 .f32)
    (h : ∀ (i : Fin 256) (j : Fin 2048), z (ix2 i j) = centred (Mixed m c) (ix2 (rowOf t i) j)) :
    k0_pay1 (k0_pay2 (iblk m c 5 t)) (k0_pay3 (iblk m c 6 t)) z (spreadBlk z) k0_pay6 (ix2 i j) = Result m c (ix2 (rowOf t i) j) := by
  unfold Result normed
  generalize centred (Mixed m c) = Z at h ⊢
  pointwise [k0_pay1, k0_pay2, k0_pay3, k0_pay6, spreadBlk]
  simp only [h]
  blk_point [iblk, V, idx t]

/-- The result array after the run. -/
theorem final (c : Dev nD) : (dats m 0 c).arrAt 7 (cfgs 0).N = Result m c := by
  refine (dats m 0 c).arrAt_eq_of_covers 7 _ (by decide +kernel) fun t _ y => ?_
  blk_simp
  rw [after0_7]; frame_out
  rw [pay_centred, pay_spread]
  obtain ⟨i, j, rfl⟩ : ∃ (i : Fin 256) (j : Fin 2048), y = ix2 i j := ⟨y 0, y 1, by blk_ext⟩
  rw [point m c t i j _ (centred_at m c t)]
  blk_ext [idx t]

end Cert.Out

end
-- ==== Proof.Out.Claims.lean ====
/- The claims about the output projection with its layer norm, one by one. -/
module

public import proofs.«01_k».proof.Defs
public import proofs.«01_k».proof.Proof.Gen.Kernel2.Frame
public import proofs.«01_k».proof.Proof.Gen.Kernel2Ideal.Value
public import proofs.«01_k».proof.Proof.Out.Value
public import Idealize.ShloMosaic.Lib.Claim

@[expose] public section

noncomputable section

namespace Cert.Out

open Idealize.ShloMosaic Idealize.ShloMosaic.TcCoe Idealize.SL.Sem

theorem quiet_kernel : @Cert.quiescent_Kernel2 Cert.Kernel2.Gen.facts := fun m g _ => Cert.Kernel2.Gen.frame m g

theorem quiet_ideal : @Cert.quiescent_Kernel2Ideal Cert.Kernel2Ideal.Gen.facts := fun m g _ => Cert.Kernel2Ideal.Gen.frame m g

theorem quiet_reference : @Cert.quiescent_Reference2Ideal Cert.Reference2Ideal.Gen.facts := by
  intro m g _
  exact (θ_run _ _ _).mono (fun r h => ⟨fun c => (h c).2, sem_eq_zero_of_no_sems (by decide) r.2⟩) (Cert.Reference2Ideal.Value.run m g)

theorem preserved : Cert.preserves_Kernel2_Kernel2Ideal := trivial

theorem same_result : @Cert.algebraic_Kernel2Ideal_Reference2Ideal Cert.Kernel2Ideal.Gen.facts Cert.Reference2Ideal.Gen.facts := by
  intro m g m' g' _ hagree
  refine ⟨fun c => Result m c, ?_, ?_⟩
  · exact (θ_run _ _ _).mono (fun r h c => ⟨(h c).1.trans (final m c), (h c).2⟩) (Cert.Kernel2Ideal.Value.run_blocks m g)
  · refine (θ_run _ _ _).mono (fun r h c => ⟨(h c).1.trans ?_, (h c).2⟩) (Cert.Reference2Ideal.Value.run m' g')
    obtain ⟨h0, h1, h2, h3, h4, h5, h6⟩ := hagree c
    rw [result_eq, h0, h1, h2, h3, h4, h5, h6]

end Cert.Out

end
-- ==== Proof.Proj.Access.lean ====
/- Loads and stores that go over a whole buffer, of any kernel: such a load reads the buffer's contents, and such a
   store leaves the value stored. -/
module

public import Idealize.ShloMosaic.Lib.Pipeline.FrameBody
public import Idealize.ShloMosaic.Lib.Ring
public import Idealize.ShloMosaic.Lib.Tactic

@[expose] public section

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {Λ : Labels}

local notation "𝕄" => MT nD τ sig Unit Val ℕ (UR sig nD τ) ℕ

variable {defs : Defs nD τ sig Val Λ} (𝒱 : Variants) (c : Dev nD) (bd : Option 𝒱.V) (E : Set ℕ)
  {cs : CoreSpace} {s : Shape} {e : EltTy} {M : Memref sig .tc cs s e} {α : Type}

/-- The rectangle that starts at zero and has the buffer's extents is the buffer. -/
theorem emb_all {o : Fin s.rank → ℕ} {h : ∀ a, o a + s.size a ≤ s.size a} (ho : o = fun _ => 0) (x : s.Idx) :
    (Rect.unit (s := s) o s.size h).emb x = x := by
  subst ho
  funext a
  refine Fin.ext ?_
  show 0 + 1 * (x a).val = (x a).val
  omega

/-- A load over a whole buffer reads its contents. -/
theorem load_all {K : α → sProp 𝕄} {o : Fin s.rank → ℕ} {h : ∀ a, o a + s.size a ≤ s.size a} (ho : o = fun _ => 0)
    {hl : M.view.LoadsAt (Rect.unit (s := s) o s.size h).toLoadRect}
    {k : (s.Idx → Val e) → Prog (TpuEff nD τ sig Val Λ .tc) α} {q : PosShare TreeShare} {X : s.Idx → Val e} :
    (owns (c : Thread nD τ) M q X : sProp 𝕄)
      ⊢ iprop((owns (c : Thread nD τ) M q X -∗ wp frame (wpE defs 𝒱 (c : Thread nD τ) bd) E (k X) K)
        -∗ wp frame (wpE defs 𝒱 (c : Thread nD τ) bd) E (Prog.op (TpuEff.load M (Rect.unit (s := s) o s.size h).toLoadRect hl) k) K) := by
  unfold owns
  iintro ⟨%f, %hf, H⟩ Hk
  subst hf
  iapply (wp_load_rect 𝒱 (c : Thread nD τ) bd E (m := M) (r := Rect.unit (s := s) o s.size h) (M.view.set_slice_subset _)) $$ H
  iintro H
  rw [show (M.access (Rect.unit (s := s) o s.size h)).read Val f = M.view.read Val f from
    funext fun x => congrArg (M.view.read Val f) (emb_all (h := h) ho x)]
  iapply Hk
  iexists f
  isplitr; · ipureintro; rfl
  iexact H

/-- A store over a whole buffer leaves the value stored. -/
theorem store_all {K : α → sProp 𝕄} {o : Fin s.rank → ℕ} {h : ∀ a, o a + s.size a ≤ s.size a} (ho : o = fun _ => 0)
    {w : s.Idx → Val e} {hx : (M.access (Rect.unit (s := s) o s.size h)).Stores Finset.univ}
    {hm : (Finset.univ : Finset (Rect.unit (s := s) o s.size h).shape.Idx) = Finset.univ ∨ ∀ a, (Rect.unit (s := s) o s.size h).stride a = 1}
    {k : PUnit → Prog (TpuEff nD τ sig Val Λ .tc) α} {X : s.Idx → Val e} :
    (owns (c : Thread nD τ) M fullShare X : sProp 𝕄)
      ⊢ iprop((owns (c : Thread nD τ) M fullShare w -∗ wp frame (wpE defs 𝒱 (c : Thread nD τ) bd) E (k ⟨⟩) K)
        -∗ wp frame (wpE defs 𝒱 (c : Thread nD τ) bd) E (Prog.op (TpuEff.store M (Rect.unit (s := s) o s.size h) w Finset.univ hx hm) k) K) := by
  unfold owns
  iintro ⟨%f, %hf, H⟩ Hk
  subst hf
  iapply (wp_store 𝒱 (c : Thread nD τ) bd E (m := M) (r := Rect.unit (s := s) o s.size h) (w := w) (Mk := Finset.univ) (M.view.set_slice_subset _)) $$ H
  iintro H
  iapply Hk
  iexists ((M.access (Rect.unit (s := s) o s.size h)).write Val f w Finset.univ)
  isplitr
  · ipureintro
    funext x
    refine (congrArg (M.view.read Val _) (emb_all (h := h) ho x).symm).trans ?_
    exact M.view.read_slice_write_emb (Rect.unit (s := s) o s.size h) f w (Finset.mem_univ x)
  iexact H

end Cert.Proj

end
-- ==== Proof.InAB.Run.lean ====
/- The body of the even layers' input projection at a grid point: which of its three stores it makes there, and what
   the buffers hold after them. -/
module

public import proofs.«01_k».proof.Proof.Gen.Kernel3Ideal.Frame
public import proofs.«01_k».proof.Proof.Proj.Access

@[expose] public section

set_option maxRecDepth 16384

noncomputable section

namespace Cert.InAB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen Cert.Proj

variable {F : FTy → Type} [FloatOps F]

local notation "𝕄" => MT nD τ sig Unit (Elt F) ℕ (UR sig nD τ) ℕ

/-- Whether the body fills the scratch buffer: in the first column of the grid. -/
def fills (i : grid0.Coords) : BitVec 1 :=
  Scalar.cmpi .ne (Scalar.extui (Scalar.cmpi .eq (BitVec.ofNat 32 (i 1).val) (0#32 : BitVec 32)) : BitVec 32) 0#32

/-- The modulated rows, as the scratch buffer holds them. -/
def modOf (x : FVec F S1024x2048 .f32) (sc sh : FVec F S1x2048 .f32) : FVec F S1024x2048 .bf16 :=
  shapeCast S1024x2048 (truncf .bf16 (addf (mulf x (broadcastTo S1024x2048
    (addf (broadcast S1x2048 (Scalar.ofBits .f32 0x3F800000#32 : F .f32)) sc) broadcasts_S1x2048_S1024x2048))
    (broadcastTo S1024x2048 sh broadcasts_S1x2048_S1024x2048)) bitsLt_bf16_f32 : FVec F S1024x2048 .bf16) shapeCasts_S1024x2048_S1024x2048

/-- Their product with 512 columns of the weights, -/
def accOf (u : FVec F S1024x2048 .bf16) (w : FVec F S2048x512 .bf16) : FVec F S1024x512 .f32 :=
  matmul dot_S1024x2048_S2048x512_S1024x512_1_0_0_1_n_n none u (shapeCast S2048x512 w shapeCasts_S2048x512_S2048x512)
    (constant S1024x512 .f32 0x00000000#32)

/-- and as the first result takes it. -/
def outOf (u : FVec F S1024x2048 .bf16) (w : FVec F S2048x512 .bf16) : FVec F S1024x512 .bf16 :=
  truncf .bf16 (accOf u w) bitsLt_bf16_f32

theorem zero2 : (![0, 0] : Fin 2 → ℕ) = fun _ => 0 := by decide

/-- The product and its store, and the store to the second result where the body makes it. -/
def rest (i : grid0.Coords) (arg5 : Memref sig .tc .vmem S2048x512 .bf16) (arg6 : Memref sig .tc .vmem S1024x512 .bf16) (harg6 : arg6.IsWhole)
    (arg7 : Memref sig .tc .vmem S1024x512 .f32) (arg8 : Memref sig .tc .vmem S1024x2048 .bf16) : Prog (TpuEff nD τ sig (Elt F) Λ₀ .tc) PUnit := do
  let u : Vec F S1024x2048 .bf16 ← Prog.lift (.load arg8 (Rect.unit (s := S1024x2048) ![0, 0] S1024x2048.size inb_S1024x2048_S1024x2048_0_0).toLoadRect (View.loadsAt_vmem h_S1024x2048))
  let w : Vec F S2048x512 .bf16 ← Prog.lift (.load arg5 (Rect.unit (s := S2048x512) ![0, 0] S2048x512.size inb_S2048x512_S2048x512_0_0).toLoadRect (View.loadsAt_vmem h_S2048x512))
  let _ : Vec F S1024x512 .bf16 ← Prog.lift (.load arg6 (Rect.unit (s := S1024x512) ![0, 0] S1024x512.size inb_S1024x512_S1024x512_0_0).toLoadRect (View.loadsAt_vmem h_S1024x512))
  Prog.lift (.store arg6 (Rect.unit (s := S1024x512) ![0, 0] S1024x512.size inb_S1024x512_S1024x512_0_0) (outOf u w) Finset.univ (View.stores_vmem h_S1024x512 (harg6.storeExact_slice rfl _ packedbf16_S1024x512_S1024x512_0_0) (fun _ => rfl)) (.inl rfl))
  if h2 : k0_cond2 i = 1#1 then do
    let _ : Vec F S1024x512 .f32 ← Prog.lift (.load arg7 (Rect.unit (s := S1024x512) ![0, 0] S1024x512.size inb_S1024x512_S1024x512_0_0).toLoadRect (View.loadsAt_vmem h_S1024x512))
    Prog.lift (.store arg7 (Rect.unit (s := S1024x512) ![0, 0] S1024x512.size inb_S1024x512_S1024x512_0_0) (accOf u w) Finset.univ (View.stores_vmem_bits_univ h_S1024x512 rfl) (.inl rfl))
    pure ⟨⟩
  else do pure ⟨⟩
  pure ⟨⟩

/-- The body: the scratch buffer filled where it is, then the rest. -/
def body (i : grid0.Coords) (arg2 : Memref sig .tc .vmem S1024x2048 .f32) (arg3 arg4 : Memref sig .tc .vmem S1x2048 .f32)
    (arg5 : Memref sig .tc .vmem S2048x512 .bf16) (arg6 : Memref sig .tc .vmem S1024x512 .bf16) (harg6 : arg6.IsWhole)
    (arg7 : Memref sig .tc .vmem S1024x512 .f32) (arg8 : Memref sig .tc .vmem S1024x2048 .bf16) (harg8 : arg8.IsWhole) : Prog (TpuEff nD τ sig (Elt F) Λ₀ .tc) PUnit := do
  if h1 : fills i = 1#1 then do
    let x : Vec F S1024x2048 .f32 ← Prog.lift (.load arg2 (Rect.unit (s := S1024x2048) ![0, 0] S1024x2048.size inb_S1024x2048_S1024x2048_0_0).toLoadRect (View.loadsAt_vmem h_S1024x2048))
    let sc : Vec F S1x2048 .f32 ← Prog.lift (.load arg3 (Rect.unit (s := S1x2048) ![0, 0] S1x2048.size inb_S1x2048_S1x2048_0_0).toLoadRect (View.loadsAt_vmem h_S1x2048))
    let sh : Vec F S1x2048 .f32 ← Prog.lift (.load arg4 (Rect.unit (s := S1x2048) ![0, 0] S1x2048.size inb_S1x2048_S1x2048_0_0).toLoadRect (View.loadsAt_vmem h_S1x2048))
    let _ : Vec F S1024x2048 .bf16 ← Prog.lift (.load arg8 (Rect.unit (s := S1024x2048) ![0, 0] S1024x2048.size inb_S1024x2048_S1024x2048_0_0).toLoadRect (View.loadsAt_vmem h_S1024x2048))
    Prog.lift (.store arg8 (Rect.unit (s := S1024x2048) ![0, 0] S1024x2048.size inb_S1024x2048_S1024x2048_0_0) (modOf x sc sh) Finset.univ (View.stores_vmem h_S1024x2048 (harg8.storeExact_slice rfl _ packedbf16_S1024x2048_S1024x2048_0_0) (fun _ => rfl)) (.inl rfl))
    pure ⟨⟩
  else do pure ⟨⟩
  rest i arg5 arg6 harg6 arg7 arg8

theorem body_eq (i : grid0.Coords) (arg2 : Memref sig .tc .vmem S1024x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S2048x512 .bf16) (harg5 : arg5.IsWhole)
    (arg6 : Memref sig .tc .vmem S1024x512 .bf16) (harg6 : arg6.IsWhole) (arg7 : Memref sig .tc .vmem S1024x512 .f32) (harg7 : arg7.IsWhole)
    (arg8 : Memref sig .tc .vmem S1024x2048 .bf16) (harg8 : arg8.IsWhole) :
    (cc0_in_proj_ab i arg2 harg2 arg3 harg3 arg4 harg4 arg5 harg5 arg6 harg6 arg7 harg7 arg8 harg8 : Prog (TpuEff nD τ sig (Elt F) Λ₀ .tc) PUnit)
      = body i arg2 arg3 arg4 arg5 arg6 harg6 arg7 arg8 harg8 := rfl

variable {𝒱 : Variants}

/-- The rest of the body, from the rows in the scratch buffer. -/
theorem rest_run {K : PUnit → sProp 𝕄} (c : Dev nD) (E : Set ℕ) (i : grid0.Coords) (arg5 : Memref sig .tc .vmem S2048x512 .bf16) (arg6 : Memref sig .tc .vmem S1024x512 .bf16) (harg6 : arg6.IsWhole)
    (arg7 : Memref sig .tc .vmem S1024x512 .f32) (arg8 : Memref sig .tc .vmem S1024x2048 .bf16)
    (w : S2048x512.Idx → Elt F .bf16) (d7 : S1024x512.Idx → Elt F .f32) (u : S1024x2048.Idx → Elt F .bf16) :
    iprop(owns (c : Thread nD τ) arg5 fullShare w ∗ (∃ d, owns (c : Thread nD τ) arg6 fullShare d)
      ∗ owns (c : Thread nD τ) arg7 fullShare d7 ∗ owns (c : Thread nD τ) arg8 fullShare u
      ∗ (iprop(owns (c : Thread nD τ) arg5 fullShare w ∗ owns (c : Thread nD τ) arg6 fullShare (outOf u w)
        ∗ owns (c : Thread nD τ) arg7 fullShare (if k0_cond2 i = 1#1 then accOf u w else d7) ∗ owns (c : Thread nD τ) arg8 fullShare u) -∗ K ⟨⟩))
      ⊢ wp frame (wpE (defs₀ (F := F)) 𝒱 (c : Thread nD τ) none) E (rest i arg5 arg6 harg6 arg7 arg8) K := by
  unfold rest
  by_cases h2 : k0_cond2 i = 1#1
  · simp only [h2, ↓reduceDIte, ↓reduceIte, Prog.lift, Prog.bind_op, Prog.bind_ret, Prog.pure_eq_ret]
    iintro ⟨H5, ⟨%d6, H6⟩, H7, H8, Hk⟩
    iapply (load_all 𝒱 c none E (M := arg8) zero2) $$ H8; iintro H8
    iapply (load_all 𝒱 c none E (M := arg5) zero2) $$ H5; iintro H5
    iapply (load_all 𝒱 c none E (M := arg6) zero2) $$ H6; iintro H6
    iapply (store_all 𝒱 c none E (M := arg6) zero2) $$ H6; iintro H6
    iapply (load_all 𝒱 c none E (M := arg7) zero2) $$ H7; iintro H7
    iapply (store_all 𝒱 c none E (M := arg7) zero2) $$ H7; iintro H7
    rw [wp_ret]; imodintro
    iapply Hk
    isplitl [H5]; · iexact H5
    isplitl [H6]; · iexact H6
    isplitl [H7]; · iexact H7
    iexact H8
  · simp only [h2, ↓reduceDIte, ↓reduceIte, Prog.lift, Prog.bind_op, Prog.bind_ret, Prog.pure_eq_ret]
    iintro ⟨H5, ⟨%d6, H6⟩, H7, H8, Hk⟩
    iapply (load_all 𝒱 c none E (M := arg8) zero2) $$ H8; iintro H8
    iapply (load_all 𝒱 c none E (M := arg5) zero2) $$ H5; iintro H5
    iapply (load_all 𝒱 c none E (M := arg6) zero2) $$ H6; iintro H6
    iapply (store_all 𝒱 c none E (M := arg6) zero2) $$ H6; iintro H6
    rw [wp_ret]; imodintro
    iapply Hk
    isplitl [H5]; · iexact H5
    isplitl [H6]; · iexact H6
    isplitl [H7]; · iexact H7
    iexact H8

/-- The body, from the blocks it is given and the rows in the scratch buffer. -/
theorem body_run {K : PUnit → sProp 𝕄} (c : Dev nD) (E : Set ℕ) (i : grid0.Coords) (arg2 : Memref sig .tc .vmem S1024x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S2048x512 .bf16) (harg5 : arg5.IsWhole)
    (arg6 : Memref sig .tc .vmem S1024x512 .bf16) (harg6 : arg6.IsWhole) (arg7 : Memref sig .tc .vmem S1024x512 .f32) (harg7 : arg7.IsWhole)
    (arg8 : Memref sig .tc .vmem S1024x2048 .bf16) (harg8 : arg8.IsWhole)
    (x : S1024x2048.Idx → Elt F .f32) (sc sh : S1x2048.Idx → Elt F .f32) (w : S2048x512.Idx → Elt F .bf16)
    (d7 : S1024x512.Idx → Elt F .f32) (d8 u : S1024x2048.Idx → Elt F .bf16) (hu : u = if fills i = 1#1 then modOf x sc sh else d8) :
    iprop(owns (c : Thread nD τ) arg2 fullShare x ∗ owns (c : Thread nD τ) arg3 fullShare sc ∗ owns (c : Thread nD τ) arg4 fullShare sh
      ∗ owns (c : Thread nD τ) arg5 fullShare w ∗ (∃ d, owns (c : Thread nD τ) arg6 fullShare d)
      ∗ owns (c : Thread nD τ) arg7 fullShare d7 ∗ owns (c : Thread nD τ) arg8 fullShare d8
      ∗ (iprop(owns (c : Thread nD τ) arg2 fullShare x ∗ owns (c : Thread nD τ) arg3 fullShare sc ∗ owns (c : Thread nD τ) arg4 fullShare sh
        ∗ owns (c : Thread nD τ) arg5 fullShare w ∗ owns (c : Thread nD τ) arg6 fullShare (outOf u w)
        ∗ owns (c : Thread nD τ) arg7 fullShare (if k0_cond2 i = 1#1 then accOf u w else d7) ∗ owns (c : Thread nD τ) arg8 fullShare u) -∗ K ⟨⟩))
      ⊢ wp frame (wpE (defs₀ (F := F)) 𝒱 (c : Thread nD τ) none) E
          (cc0_in_proj_ab i arg2 harg2 arg3 harg3 arg4 harg4 arg5 harg5 arg6 harg6 arg7 harg7 arg8 harg8) K := by
  rw [body_eq]
  unfold body
  by_cases h1 : fills i = 1#1
  · rw [if_pos h1] at hu
    subst hu
    simp only [h1, ↓reduceDIte, Prog.lift, Prog.bind_op, Prog.bind_ret, Prog.pure_eq_ret]
    iintro ⟨H2, H3, H4, H5, H6, H7, H8, Hk⟩
    iapply (load_all 𝒱 c none E (M := arg2) zero2) $$ H2; iintro H2
    iapply (load_all 𝒱 c none E (M := arg3) zero2) $$ H3; iintro H3
    iapply (load_all 𝒱 c none E (M := arg4) zero2) $$ H4; iintro H4
    iapply (load_all 𝒱 c none E (M := arg8) zero2) $$ H8; iintro H8
    iapply (store_all 𝒱 c none E (M := arg8) zero2) $$ H8; iintro H8
    iapply (rest_run c E i arg5 arg6 harg6 arg7 arg8 w d7 (modOf x sc sh))
    isplitl [H5]; · iexact H5
    isplitl [H6]; · iexact H6
    isplitl [H7]; · iexact H7
    isplitl [H8]; · iexact H8
    iintro ⟨H5, H6, H7, H8⟩
    iapply Hk
    isplitl [H2]; · iexact H2
    isplitl [H3]; · iexact H3
    isplitl [H4]; · iexact H4
    isplitl [H5]; · iexact H5
    isplitl [H6]; · iexact H6
    isplitl [H7]; · iexact H7
    iexact H8
  · rw [if_neg h1] at hu
    subst hu
    simp only [h1, ↓reduceDIte, Prog.lift, Prog.bind_op, Prog.bind_ret, Prog.pure_eq_ret]
    iintro ⟨H2, H3, H4, H5, H6, H7, H8, Hk⟩
    iapply (rest_run c E i arg5 arg6 harg6 arg7 arg8 w d7 u)
    isplitl [H5]; · iexact H5
    isplitl [H6]; · iexact H6
    isplitl [H7]; · iexact H7
    isplitl [H8]; · iexact H8
    iintro ⟨H5, H6, H7, H8⟩
    iapply Hk
    isplitl [H2]; · iexact H2
    isplitl [H3]; · iexact H3
    isplitl [H4]; · iexact H4
    isplitl [H5]; · iexact H5
    isplitl [H6]; · iexact H6
    isplitl [H7]; · iexact H7
    iexact H8

end Cert.InAB

end
-- ==== Proof.InAB.Frame.lean ====
/- The launch of the even layers' input projection: what the buffers hold from one grid point to the next, the body's
   obligation, the run, and from it the frame. -/
module

public import proofs.«01_k».proof.Proof.InAB.Run
public import Idealize.ShloMosaic.Lib.Claim
public import Idealize.ShloMosaic.Lib.Pipeline.TableIdle

@[expose] public section

set_option maxRecDepth 16384

noncomputable section

namespace Cert.InAB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem fills_iff : ∀ t : Fin cfg0.N, fills (cfg0.grid.coords t) = 1#1 ↔ t.val % 10 = 0 :=
  (by decide +kernel : ∀ t : Fin grid0.N, fills (grid0.coords t) = 1#1 ↔ t.val % 10 = 0)

theorem stores_iff : ∀ t : Fin cfg0.N, k0_cond2 (cfg0.grid.coords t) = 1#1 ↔ t.val % 10 = 4 ∨ t.val % 10 = 5 :=
  (by decide +kernel : ∀ t : Fin grid0.N, k0_cond2 (grid0.coords t) = 1#1 ↔ t.val % 10 = 4 ∨ t.val % 10 = 5)

/-- The first point of a point's row of the grid. -/
def first (t : Fin cfg0.N) : Fin cfg0.N := ⟨t.val - t.val % 10, by have := t.isLt; omega⟩

/-- The point whose product the second result's buffer holds: before a row's fifth point it is not read. -/
def src (t : Fin cfg0.N) : Fin cfg0.N := ⟨if t.val % 10 = 4 then t.val else t.val - t.val % 5, by have := t.isLt; split <;> omega⟩

theorem first_of_fills (t : Fin cfg0.N) (h : t.val % 10 = 0) : first t = t := by
  refine Fin.ext ?_; show t.val - t.val % 10 = t.val; omega

theorem src_of_stores (t : Fin cfg0.N) (h : t.val % 10 = 4 ∨ t.val % 10 = 5) : src t = t := by
  refine Fin.ext ?_; show (if t.val % 10 = 4 then t.val else t.val - t.val % 5) = t.val
  split <;> omega

/-- The rows of a point's row of the grid, modulated. -/
def rowsAt (c : Dev nD) (t : Fin cfg0.N) : S1024x2048.Idx → Elt F .bf16 :=
  modOf (iblk m c 0 (first t)) (iblk m c 1 (first t)) (iblk m c 2 (first t))

/-- Their product with a point's columns of the weights. -/
def prodAt (c : Dev nD) (t : Fin cfg0.N) : S1024x512.Idx → Elt F .f32 := accOf (rowsAt m c t) (iblk m c 3 t)

def outAt (c : Dev nD) (t : Fin cfg0.N) : S1024x512.Idx → Elt F .bf16 := outOf (rowsAt m c t) (iblk m c 3 t)

/-! ## The proof data -/

/-- What is held between two points: the scratch buffer, at the rows of the point before. -/
def between (c : Dev nD) (n : Fin (cfg0.N + 1)) : sProp 𝕄 :=
  iprop((∃ d, ⌜∀ t : Fin cfg0.N, t.val + 1 = n.val → d = rowsAt m c t⌝ ∗ owns (c : Thread nD τ) (Memref.whole cc0_scratch0) fullShare d)
    ∗ (∃ r, prngReg c r))

/-- The pipeline's data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
    | ⟨5, _⟩ => prodAt m c (src t)
  Φ n := between m c n
  q _ := fullShare
  owed _ := 0

theorem A_eq (c : Dev nD) (w : Fin cfg0.W) : (dats m 0 c).A w = V m c (Pipeline.arrRef spec0 w) := by dsimp only [dats]

theorem after_0 (c : Dev nD) (t) : (dats m 0 c).after 0 t = iblk m c 0 t := by dsimp only [dats]
theorem after_1 (c : Dev nD) (t) : (dats m 0 c).after 1 t = iblk m c 1 t := by dsimp only [dats]
theorem after_2 (c : Dev nD) (t) : (dats m 0 c).after 2 t = iblk m c 2 t := by dsimp only [dats]
theorem after_3 (c : Dev nD) (t) : (dats m 0 c).after 3 t = iblk m c 3 t := by dsimp only [dats]
theorem after_4 (c : Dev nD) (t) : (dats m 0 c).after 4 t = outAt m c t := by dsimp only [dats]
theorem after_5 (c : Dev nD) (t) : (dats m 0 c).after 5 t = prodAt m c (src t) := by dsimp only [dats]

theorem before_0 (c : Dev nD) (t d) : (dats m 0 c).before 0 t d = iblk m c 0 t := before0_0_of m (dats m 0 c) (A_eq m c 0) (after_0 m c) t d
theorem before_1 (c : Dev nD) (t d) : (dats m 0 c).before 1 t d = iblk m c 1 t := before0_1_of m (dats m 0 c) (A_eq m c 1) (after_1 m c) t d
theorem before_2 (c : Dev nD) (t d) : (dats m 0 c).before 2 t d = iblk m c 2 t := before0_2_of m (dats m 0 c) (A_eq m c 2) (after_2 m c) t d
theorem before_3 (c : Dev nD) (t d) : (dats m 0 c).before 3 t d = iblk m c 3 t := before0_3_of m (dats m 0 c) (A_eq m c 3) (after_3 m c) t d

/-! ## The second result's buffer -/

theorem idle_5 (t : Fin cfg0.N) : cfg0.idle 5 (cfg0.grid.coords t) = true ↔ ¬ (t.val % 10 = 4 ∨ t.val % 10 = 5) := by
  rw [← stores_iff t]
  show (!(k0_cond2 (cfg0.grid.coords t) == 1#1)) = true ↔ _
  rw [Bool.not_eq_true', beq_eq_false_iff_ne]

/-- Whether nothing has been stored since the buffer was last written back. -/
theorem fresh_5 (n : ℕ) (h : n ≤ cfg0.N) : cfg0.fresh 5 n = decide (n % 10 ≤ 5) :=
  cfg0.fresh_tab 5 (fun n => decide (n % 10 ≤ 5)) rfl
    (by decide +kernel : ∀ t : Fin cfg0.N, decide ((t.val + 1) % 10 ≤ 5) = ((cfg0.win 5).flush t || (cfg0.idle 5 (cfg0.grid.coords t) && decide (t.val % 10 ≤ 5)))) n h

theorem before_5 (c : Dev nD) (t : Fin cfg0.N) (d) (h : ¬ t.val % 10 ≤ 5) : (dats m 0 c).before 5 t d = prodAt m c (src t) := by
  have hstep : ∀ s : Fin cfg0.N, ¬ s.val % 10 ≤ 5 → prodAt m c (src s) = prodAt m c (src ⟨s.val - 1, Nat.lt_of_le_of_lt (Nat.sub_le _ _) s.isLt⟩) := fun s hs => by
    refine congrArg (prodAt m c) (Fin.ext ?_)
    show (if s.val % 10 = 4 then s.val else s.val - s.val % 5) = (if (s.val - 1) % 10 = 4 then s.val - 1 else s.val - 1 - (s.val - 1) % 5)
    split <;> split <;> omega
  rw [(dats m 0 c).before_out_traj 5 rfl (fun _ _ => rfl) (fun s h0 hi hf => ?_) t.val t rfl d, fresh_5 t.val (Nat.le_of_lt t.isLt),
    if_neg (by simpa using h), after_5]
  · exact (hstep t h).symm
  · rw [fresh_5 s.val (Nat.le_of_lt s.isLt)] at hf
    rw [after_5, after_5]
    exact hstep s (by simpa using hf)

/-- The buffer after the body has run, as the pipeline takes it back. -/
theorem leave_5 (c : Dev nD) (t : Fin cfg0.N) (d) :
    (owns (c : Thread nD τ) (st0_5 t) fullShare (if k0_cond2 (cfg0.grid.coords t) = 1#1 then prodAt m c t else (dats m 0 c).before 5 t d) : sProp 𝕄)
      ⊢ (dats m 0 c).leavesExact 5 t := by
  by_cases h : t.val % 10 = 4 ∨ t.val % 10 = 5
  · rw [if_pos ((stores_iff t).mpr h)]
    unfold Dat.leavesExact
    rw [show cfg0.idle 5 (cfg0.grid.coords t) = false from Bool.eq_false_iff.mpr fun hi => (idle_5 t).mp hi h, after_5, src_of_stores t h]
  · rw [if_neg fun hs => h ((stores_iff t).mp hs)]
    by_cases hf : t.val % 5 = 4
    · rw [before_5 m c t d (by omega)]
      unfold Dat.leavesExact
      rw [(idle_5 t).mpr h, (flush0_5 t).mpr hf, after_5]
    · rw [(dats m 0 c).leavesExact_idle 5 t ((idle_5 t).mpr h) (Bool.eq_false_iff.mpr fun hi => hf ((flush0_5 t).mp hi))]
      iintro H
      iexists d
      iexact H

/-! ## The body's obligation -/

/-- The scratch buffer and the generator, as the launch takes and returns them. -/
theorem scratch_eq (c : Dev nD) : (Pipeline.ΦA spec0 c : sProp 𝕄)
    = iprop((∃ d, owns (c : Thread nD τ) (Memref.whole cc0_scratch0) fullShare d) ∗ (∃ r, prngReg c r)) := by
  unfold Pipeline.ΦA
  rw [scopedRest0_eq]
  simp only [owns_whole]
  try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_0 (c : Dev nD) (t) : (dats m 0 c).leavesExact 0 t = owns (c : Thread nD τ) (st0_0 t) fullShare (iblk m c 0 t) := by
  unfold Dat.leavesExact; rw [show cfg0.idle 0 (cfg0.grid.coords t) = false from rfl, after_0]
theorem leaves_1 (c : Dev nD) (t) : (dats m 0 c).leavesExact 1 t = owns (c : Thread nD τ) (st0_1 t) fullShare (iblk m c 1 t) := by
  unfold Dat.leavesExact; rw [show cfg0.idle 1 (cfg0.grid.coords t) = false from rfl, after_1]
theorem leaves_2 (c : Dev nD) (t) : (dats m 0 c).leavesExact 2 t = owns (c : Thread nD τ) (st0_2 t) fullShare (iblk m c 2 t) := by
  unfold Dat.leavesExact; rw [show cfg0.idle 2 (cfg0.grid.coords t) = false from rfl, after_2]
theorem leaves_3 (c : Dev nD) (t) : (dats m 0 c).leavesExact 3 t = owns (c : Thread nD τ) (st0_3 t) fullShare (iblk m c 3 t) := by
  unfold Dat.leavesExact; rw [show cfg0.idle 3 (cfg0.grid.coords t) = false from rfl, after_3]
theorem leaves_4 (c : Dev nD) (t) : (dats m 0 c).leavesExact 4 t = owns (c : Thread nD τ) (st0_4 t) fullShare (outAt m c t) := by
  unfold Dat.leavesExact; rw [show cfg0.idle 4 (cfg0.grid.coords t) = false from rfl, after_4]

/-- The scratch buffer's rows at a point: filled there, or those of the point before. -/
theorem rows_step (c : Dev nD) (t : Fin cfg0.N) (d : S1024x2048.Idx → Elt F .bf16)
    (hd : ∀ s : Fin cfg0.N, s.val + 1 = t.castSucc.val → d = rowsAt m c s) :
    rowsAt m c t = if fills (cfg0.grid.coords t) = 1#1 then modOf (iblk m c 0 t) (iblk m c 1 t) (iblk m c 2 t) else d := by
  by_cases h : t.val % 10 = 0
  · rw [if_pos ((fills_iff t).mpr h)]
    unfold rowsAt
    rw [first_of_fills t h]
  · rw [if_neg fun hs => h ((fills_iff t).mp hs)]
    rw [hd ⟨t.val - 1, Nat.lt_of_le_of_lt (Nat.sub_le _ _) t.isLt⟩ (show t.val - 1 + 1 = t.val by omega)]
    unfold rowsAt
    rw [show first ⟨t.val - 1, Nat.lt_of_le_of_lt (Nat.sub_le _ _) t.isLt⟩ = first t from
      Fin.ext (show t.val - 1 - (t.val - 1) % 10 = t.val - t.val % 10 by omega)]

set_option maxHeartbeats 1200000 in
/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before_0, before_1, before_2, before_3]
  rw [show (dats m 0 c).Φ t.succ = between m c t.succ from rfl,
    show (dats m 0 c).owesAt () t.succ = (dats m 0 c).owesAt () t.castSucc from rfl,
    show (dats m 0 c).Φ t.castSucc = between m c t.castSucc from rfl, leaves_0, leaves_1, leaves_2, leaves_3, leaves_4]
  unfold between
  iintro ⟨⟨⟨%d, %hd, HS⟩, Hg⟩, Ho, ⟨%d0, H0⟩, ⟨%d1, H1⟩, ⟨%d2, H2⟩, ⟨%d3, H3⟩, ⟨%d4, H4⟩, ⟨%d5, H5⟩⟩
  iapply (body_run c Set.univ (cfg0.grid.coords t) (st0_0 t) _ (st0_1 t) _ (st0_2 t) _ (st0_3 t) _ (st0_4 t) _ (st0_5 t) _
    (Memref.whole cc0_scratch0) _ (iblk m c 0 t) (iblk m c 1 t) (iblk m c 2 t) (iblk m c 3 t) ((dats m 0 c).before 5 t d5) d (rowsAt m c t)
    (rows_step m c t d hd))
  isplitl [H0]; · iexact H0
  isplitl [H1]; · iexact H1
  isplitl [H2]; · iexact H2
  isplitl [H3]; · iexact H3
  isplitl [H4]; · iexists _; iexact H4
  isplitl [H5]; · iexact H5
  isplitl [HS]; · iexact HS
  iintro ⟨H0, H1, H2, H3, H4, H5, HS⟩
  isplitl [HS Hg]
  · isplitl [HS]
    · iexists (rowsAt m c t)
      isplitr
      · ipureintro
        intro s hs
        rw [show s = t from Fin.ext (by have : s.val + 1 = t.val + 1 := hs; omega)]
      iexact HS
    iexact Hg
  isplitl [Ho]; · iexact Ho
  isplitl [H0]; · iexact H0
  isplitl [H1]; · iexact H1
  isplitl [H2]; · iexact H2
  isplitl [H3]; · iexact H3
  isplitl [H4]; · iexact H4
  iapply (leave_5 m c t d5)
  iexact H5

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

theorem scratch_in (c : Dev nD) : (Pipeline.ΦA spec0 c : sProp 𝕄) ⊢ (dats m 0 c).Φ 0 := by
  rw [scratch_eq, show (dats m 0 c).Φ 0 = between m c 0 from rfl]
  unfold between
  iintro ⟨⟨%d, H⟩, Hg⟩
  isplitl [H]
  · iexists d
    isplitr
    · ipureintro
      intro s hs
      exact absurd hs (Nat.succ_ne_zero _)
    iexact H
  iexact Hg

theorem scratch_out (c : Dev nD) : (dats m 0 c).Φ (Fin.last cfg0.N) ⊢ (Pipeline.ΦA spec0 c : sProp 𝕄) := by
  rw [scratch_eq, show (dats m 0 c).Φ (Fin.last cfg0.N) = between m c (Fin.last cfg0.N) from rfl]
  unfold between
  iintro ⟨⟨%d, -, H⟩, Hg⟩
  isplitl [H]
  · iexists d; iexact H
  iexact Hg

set_option backward.isDefEq.respectTransparency.types false in
set_option maxHeartbeats 800000 in
/-- Every run ends with every array at what the pipeline's data say and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := scratch_in m) (hout := scratch_out m) (Q' := _)

/-- The frame: the arguments are left as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c)⟩, h.2⟩) (run_main m ρ)

/-- Every run ends with the two results at the blocks written, and the arguments left as they were. -/
theorem run_result : θ_run defs (onTc (τ := τ) (main (F := F))) ⟨m, fun _ => 0, ρ⟩ (fun r => ∀ c : Dev nD,
      r.2.mem ((c.tc : Thread nD τ).loc main_v1_0) = (dats m 0 c).arrAt 4 cfg0.N
      ∧ r.2.mem ((c.tc : Thread nD τ).loc main_v1_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 4, (h.1 c).1 5,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c)⟩) (run_main m ρ)

end Cert.InAB

end
-- ==== Proof.InAB.Stages.lean ====
/- The even layers' input projection, as the reference computes it. -/
module

public import proofs.«01_k».proof.Proof.Gen.Reference3Ideal.Run
public import Idealize.ShloMosaic.Lib.Pipeline.ValueKit

@[expose] public section

noncomputable section

namespace Cert.InAB

open Idealize.ShloMosaic Idealize.ShloMosaic.TcCoe
open Idealize.SL.Sem Cert.Reference3Ideal Cert.Reference3Ideal.Gen

/-- The modulated rows times the weights. -/
def projected (X : FVec Ideal S8192x2048 .f32) (C H : FVec Ideal S1x2048 .f32) (W : FVec Ideal S2048x5120 .f32) : FVec Ideal S8192x5120 .f32 :=
  Host.dotGeneral dot_S8192x2048_S2048x5120_S8192x5120_1_0_0_1_n_n none
    (addf (mulf X (broadcastInDim S8192x2048 ![0, 1] bcast_S1x2048_S8192x2048_0_1 (addf (broadcastInDim S1x2048 ![] bcast_S_S1x2048 (constant S_ .f32 0x3F800000#32)) C)))
      (broadcastInDim S8192x2048 ![0, 1] bcast_S1x2048_S8192x2048_0_1 H)) W

/-- The reference's first result, -/
def allCols (X : FVec Ideal S8192x2048 .f32) (C H : FVec Ideal S1x2048 .f32) (W : FVec Ideal S2048x5120 .f32) : FVec Ideal S8192x5120 .bf16 :=
  truncf .bf16 (projected X C H W) bitsLt_bf16_f32

/-- and its second: the columns of the forget gates. -/
def gateCols (X : FVec Ideal S8192x2048 .f32) (C H : FVec Ideal S1x2048 .f32) (W : FVec Ideal S2048x5120 .f32) : FVec Ideal S8192x1024 .f32 :=
  extractStridedSlice S8192x1024 ![0, 2048] (projected X C H W) slices_S8192x5120_S8192x1024_0_2048

end Cert.InAB

end
-- ==== Proof.InAB.Value.lean ====
/- The even layers' input projection's two results, over the reals: the reference's. -/
module

public import proofs.«01_k».proof.Proof.InAB.Frame
public import proofs.«01_k».proof.Proof.InAB.Stages

@[expose] public section

set_option maxRecDepth 16384

noncomputable section

namespace Cert.InAB

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The reference's product, over the kernel's arguments, -/
abbrev Product (c : Dev nD) : FVec Ideal S8192x5120 .f32 :=
  projected (m ((c : Thread nD τ).loc main_arg0)) (m ((c : Thread nD τ).loc main_arg1)) (m ((c : Thread nD τ).loc main_arg2)) (m ((c : Thread nD τ).loc main_arg3))

/-- and its two results. -/
abbrev AllCols (c : Dev nD) : FVec Ideal S8192x5120 .bf16 :=
  allCols (m ((c : Thread nD τ).loc main_arg0)) (m ((c : Thread nD τ).loc main_arg1)) (m ((c : Thread nD τ).loc main_arg2)) (m ((c : Thread nD τ).loc main_arg3))
abbrev GateCols (c : Dev nD) : FVec Ideal S8192x1024 .f32 :=
  gateCols (m ((c : Thread nD τ).loc main_arg0)) (m ((c : Thread nD τ).loc main_arg1)) (m ((c : Thread nD τ).loc main_arg2)) (m ((c : Thread nD τ).loc main_arg3))

theorem idx : ∀ t : Fin cfg0.N, win0_0.index (first t) = ![t.val / 10, 0] ∧ win0_1.index (first t) = ![0, 0] ∧ win0_2.index (first t) = ![0, 0]
    ∧ win0_3.index t = ![0, t.val % 10] ∧ win0_4.index t = ![t.val / 10, t.val % 10] :=
  (by decide +kernel : ∀ t : Fin grid0.N, _)

theorem pt_lt (t : Fin cfg0.N) : t.val < 80 := lt_of_lt_of_eq t.isLt (by decide)

/-- The row of the arrays that a row of a point's block is, -/
abbrev rowOf (t : Fin cfg0.N) (i : Fin 1024) : Fin 8192 := ⟨t.val / 10 * 1024 + i.val, by have := pt_lt t; omega⟩
/-- and the column. -/
abbrev colOf (t : Fin cfg0.N) (j : Fin 512) : Fin 5120 := ⟨t.val % 10 * 512 + j.val, by omega⟩

/-- The product at a point's block is the reference's there. -/
theorem prod_at (c : Dev nD) (t : Fin cfg0.N) (i : Fin 1024) (j : Fin 512) :
    prodAt m c t (ix2 i j) = Product m c (ix2 (rowOf t i) (colOf t j)) := by
  unfold prodAt rowsAt
  pointwise [accOf, modOf, Product, projected]
  blk_point [iblk, V, idx t]

/-- The first result's array after the run. -/
theorem all_final (c : Dev nD) : (dats m 0 c).arrAt 4 cfg0.N = AllCols m c := by
  refine (dats m 0 c).arrAt_eq_of_covers 4 _ (by decide +kernel) fun t _ y => ?_
  blk_simp
  rw [after_4]
  obtain ⟨i, j, rfl⟩ : ∃ (i : Fin 1024) (j : Fin 512), y = ix2 i j := ⟨y 0, y 1, by blk_ext⟩
  refine (prod_at m c t i j).trans ?_
  show AllCols m c (ix2 (rowOf t i) (colOf t j)) = _
  blk_ext [idx t]

theorem idx_gate : ∀ t : Fin cfg0.N, t.val % 5 = 4 → win0_5.index t = ![t.val / 10, (src t).val % 10 - 4] ∧ 4 ≤ (src t).val % 10 ∧ (src t).val % 10 < 6 ∧ (src t).val / 10 = t.val / 10 :=
  (by decide +kernel : ∀ t : Fin grid0.N, _)

/-- The reference's second result is a range of its product's columns. -/
theorem gate_at (c : Dev nD) (r : Fin 8192) (j : Fin 1024) (k : Fin 5120) (hk : k.val = 2048 + j.val) :
    GateCols m c (ix2 r j) = Product m c (ix2 r k) := by
  have hj : 2048 + j.val < 5120 := lt_of_lt_of_le (Nat.add_lt_add_left j.isLt 2048) (by decide)
  obtain rfl : k = ⟨2048 + j.val, hj⟩ := Fin.ext hk
  unfold GateCols gateCols Product
  generalize projected _ _ _ _ = z
  pointwise []

/-- The second result's array after the run. -/
theorem gate_final (c : Dev nD) : (dats m 0 c).arrAt 5 cfg0.N = GateCols m c := by
  refine (dats m 0 c).arrAt_eq_of_covers 5 _ (by decide +kernel) fun t hf y => ?_
  obtain ⟨hi, h4, h6, hr⟩ := idx_gate t ((flush0_5 t).mp hf)
  blk_simp
  rw [after_5]
  obtain ⟨i, j, rfl⟩ : ∃ (i : Fin 1024) (j : Fin 512), y = ix2 i j := ⟨y 0, y 1, by blk_ext⟩
  refine (prod_at m c (src t) i j).trans ?_
  have hj : (src t).val % 10 - 4 < 2 := by omega
  refine (gate_at m c (rowOf (src t) i) ⟨((src t).val % 10 - 4) * 512 + j.val, by omega⟩ (colOf (src t) j) (by show _ * 512 + _ = 2048 + (_ * 512 + _); omega)).symm.trans ?_
  blk_ext [hi, hr]

end Cert.InAB

end
-- ==== Proof.InAB.Claims.lean ====
/- The claims about the even layers' input projection, one by one. -/
module

public import proofs.«01_k».proof.Defs
public import proofs.«01_k».proof.Proof.Gen.Kernel3.Frame
public import proofs.«01_k».proof.Proof.InAB.Value
public import Idealize.ShloMosaic.Lib.Claim

@[expose] public section

noncomputable section

namespace Cert.InAB

open Idealize.ShloMosaic Idealize.ShloMosaic.TcCoe Idealize.SL.Sem

/-- The kernels have one text, before and after the reading over the reals: so have their bodies' tables, -/
theorem tables_eq : Cert.Kernel3.defs₀ (F := Bits) = Cert.Kernel3Ideal.defs₀ (F := Bits) := by
  refine congrArg Defs.onTc (funext fun l => funext fun a => ?_)
  match l, a with
  | ⟨0, _⟩, (t, s) => rfl
  | ⟨n + 1, h⟩, _ => exact absurd h (Nat.not_lt.2 (Nat.le_add_left _ _))

theorem defs_eq : Cert.Kernel3.defs (F := Bits) = Cert.Kernel3Ideal.defs (F := Bits) := congrArg (Pipeline.defs Cert.Kernel3Ideal.pcfgs) tables_eq

/-- and the kernel's frame is the one over any float values. -/
theorem quiet_kernel : @Cert.quiescent_Kernel3 Cert.Kernel3.Gen.facts := by
  intro m g _
  rw [defs_eq]
  exact frame (F := Bits) m g

theorem quiet_ideal : @Cert.quiescent_Kernel3Ideal Cert.Kernel3Ideal.Gen.facts := fun m g _ => frame m g

theorem quiet_reference : @Cert.quiescent_Reference3Ideal Cert.Reference3Ideal.Gen.facts := by
  intro m g _
  exact (θ_run _ _ _).mono (fun r h => ⟨fun c => (h c).2.2, sem_eq_zero_of_no_sems (by decide) r.2⟩) (Cert.Reference3Ideal.Value.run m g)

theorem preserved : Cert.preserves_Kernel3_Kernel3Ideal := trivial

theorem same_result : @Cert.algebraic_Kernel3Ideal_Reference3Ideal Cert.Kernel3Ideal.Gen.facts Cert.Reference3Ideal.Gen.facts := by
  intro m g m' g' _ hagree
  refine ⟨fun c => AllCols m c, fun c => GateCols m c, ?_, ?_⟩
  · exact (θ_run _ _ _).mono (fun r h c => ⟨(h c).1.trans (all_final m c), (h c).2.1.trans (gate_final m c), (h c).2.2⟩) (run_result m g)
  · refine (θ_run _ _ _).mono (fun r h c => ⟨(h c).1.trans ?_, (h c).2.1.trans ?_, (h c).2.2⟩) (Cert.Reference3Ideal.Value.run m' g')
    · obtain ⟨h0, h1, h2, h3⟩ := hagree c
      rw [h0, h1, h2, h3]
      rfl
    · obtain ⟨h0, h1, h2, h3⟩ := hagree c
      rw [h0, h1, h2, h3]
      rfl

end Cert.InAB

end
-- ==== Proof.InCD.Run.lean ====
/- The body of the odd layers' input projection at a grid point: which of its stores it makes there, and what
   the buffers hold after them. -/
module

public import proofs.«01_k».proof.Proof.Gen.Kernel4Ideal.Frame
public import proofs.«01_k».proof.Proof.Proj.Access

@[expose] public section

set_option maxRecDepth 16384

noncomputable section

namespace Cert.InCD

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal Cert.Kernel4Ideal.Gen Cert.Proj

variable {F : FTy → Type} [FloatOps F]

local notation "𝕄" => MT nD τ sig Unit (Elt F) ℕ (UR sig nD τ) ℕ

/-- The modulated rows, -/
def modOf (x : FVec F S1024x2048 .f32) (sc sh : FVec F S1x2048 .f32) : FVec F S1024x2048 .bf16 :=
  truncf .bf16 (addf (mulf x (broadcastTo S1024x2048
    (addf (broadcast S1x2048 (Scalar.ofBits .f32 0x3F800000#32 : F .f32)) sc) broadcasts_S1x2048_S1024x2048))
    (broadcastTo S1024x2048 sh broadcasts_S1x2048_S1024x2048)) bitsLt_bf16_f32

/-- as the scratch buffer holds them; -/
def keptOf (x : FVec F S1024x2048 .f32) (sc sh : FVec F S1x2048 .f32) : FVec F S1024x2048 .bf16 :=
  shapeCast S1024x2048 (modOf x sc sh) shapeCasts_S1024x2048_S1024x2048

/-- their product with the gates' weights, -/
def gateOf (x : FVec F S1024x2048 .f32) (sc sh : FVec F S1x2048 .f32) (g : FVec F S2048x128 .bf16) : FVec F S1024x128 .f32 :=
  matmul dot_S1024x2048_S2048x128_S1024x128_1_0_0_1_n_n none (modOf x sc sh) (shapeCast S2048x128 g shapeCasts_S2048x128_S2048x128)
    (constant S1024x128 .f32 0x00000000#32)

/-- and with 512 columns of the other weights. -/
def outOf (u : FVec F S1024x2048 .bf16) (w : FVec F S2048x512 .bf16) : FVec F S1024x512 .bf16 :=
  truncf .bf16 (matmul dot_S1024x2048_S2048x512_S1024x512_1_0_0_1_n_n none u (shapeCast S2048x512 w shapeCasts_S2048x512_S2048x512)
    (constant S1024x512 .f32 0x00000000#32)) bitsLt_bf16_f32

theorem zero2 : (![0, 0] : Fin 2 → ℕ) = fun _ => 0 := by decide

abbrev rA : Rect S1024x2048 := Rect.unit (s := S1024x2048) ![0, 0] S1024x2048.size inb_S1024x2048_S1024x2048_0_0
abbrev rB : Rect S1x2048 := Rect.unit (s := S1x2048) ![0, 0] S1x2048.size inb_S1x2048_S1x2048_0_0
abbrev rW : Rect S2048x512 := Rect.unit (s := S2048x512) ![0, 0] S2048x512.size inb_S2048x512_S2048x512_0_0
abbrev rG : Rect S2048x128 := Rect.unit (s := S2048x128) ![0, 0] S2048x128.size inb_S2048x128_S2048x128_0_0
abbrev rO : Rect S1024x512 := Rect.unit (s := S1024x512) ![0, 0] S1024x512.size inb_S1024x512_S1024x512_0_0
abbrev rL : Rect S1024x128 := Rect.unit (s := S1024x128) ![0, 0] S1024x128.size inb_S1024x128_S1024x128_0_0

/-- The product with the point's columns, and its store. -/
def rest (arg5 : Memref sig .tc .vmem S2048x512 .bf16) (arg7 : Memref sig .tc .vmem S1024x512 .bf16) (harg7 : arg7.IsWhole)
    (arg9 : Memref sig .tc .vmem S1024x2048 .bf16) : Prog (TpuEff nD τ sig (Elt F) Λ₀ .tc) PUnit := do
  let u : Vec F S1024x2048 .bf16 ← Prog.lift (.load arg9 rA.toLoadRect (View.loadsAt_vmem h_S1024x2048))
  let w : Vec F S2048x512 .bf16 ← Prog.lift (.load arg5 rW.toLoadRect (View.loadsAt_vmem h_S2048x512))
  let _ : Vec F S1024x512 .bf16 ← Prog.lift (.load arg7 rO.toLoadRect (View.loadsAt_vmem h_S1024x512))
  Prog.lift (.store arg7 rO (outOf u w) Finset.univ (View.stores_vmem h_S1024x512 (harg7.storeExact_slice rfl _ packedbf16_S1024x512_S1024x512_0_0) (fun _ => rfl)) (.inl rfl))
  pure ⟨⟩

/-- The body: in the first column of the grid the scratch buffer is filled and the gates' product stored; then the rest. -/
def body (i : grid0.Coords) (arg2 : Memref sig .tc .vmem S1024x2048 .f32) (arg3 arg4 : Memref sig .tc .vmem S1x2048 .f32)
    (arg5 : Memref sig .tc .vmem S2048x512 .bf16) (arg6 : Memref sig .tc .vmem S2048x128 .bf16) (arg7 : Memref sig .tc .vmem S1024x512 .bf16) (harg7 : arg7.IsWhole)
    (arg8 : Memref sig .tc .vmem S1024x128 .f32) (arg9 : Memref sig .tc .vmem S1024x2048 .bf16) (harg9 : arg9.IsWhole) : Prog (TpuEff nD τ sig (Elt F) Λ₀ .tc) PUnit := do
  if h1 : k0_cond1 i = 1#1 then do
    let x : Vec F S1024x2048 .f32 ← Prog.lift (.load arg2 rA.toLoadRect (View.loadsAt_vmem h_S1024x2048))
    let sc : Vec F S1x2048 .f32 ← Prog.lift (.load arg3 rB.toLoadRect (View.loadsAt_vmem h_S1x2048))
    let sh : Vec F S1x2048 .f32 ← Prog.lift (.load arg4 rB.toLoadRect (View.loadsAt_vmem h_S1x2048))
    let _ : Vec F S1024x2048 .bf16 ← Prog.lift (.load arg9 rA.toLoadRect (View.loadsAt_vmem h_S1024x2048))
    Prog.lift (.store arg9 rA (keptOf x sc sh) Finset.univ (View.stores_vmem h_S1024x2048 (harg9.storeExact_slice rfl _ packedbf16_S1024x2048_S1024x2048_0_0) (fun _ => rfl)) (.inl rfl))
    let g : Vec F S2048x128 .bf16 ← Prog.lift (.load arg6 rG.toLoadRect (View.loadsAt_vmem h_S2048x128))
    let _ : Vec F S1024x128 .f32 ← Prog.lift (.load arg8 rL.toLoadRect (View.loadsAt_vmem h_S1024x128))
    Prog.lift (.store arg8 rL (gateOf x sc sh g) Finset.univ (View.stores_vmem_bits_univ h_S1024x128 rfl) (.inl rfl))
    pure ⟨⟩
  else do pure ⟨⟩
  rest arg5 arg7 harg7 arg9

theorem body_eq (i : grid0.Coords) (arg2 : Memref sig .tc .vmem S1024x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S2048x512 .bf16) (harg5 : arg5.IsWhole)
    (arg6 : Memref sig .tc .vmem S2048x128 .bf16) (harg6 : arg6.IsWhole) (arg7 : Memref sig .tc .vmem S1024x512 .bf16) (harg7 : arg7.IsWhole)
    (arg8 : Memref sig .tc .vmem S1024x128 .f32) (harg8 : arg8.IsWhole) (arg9 : Memref sig .tc .vmem S1024x2048 .bf16) (harg9 : arg9.IsWhole) :
    (cc0_in_proj_cd i arg2 harg2 arg3 harg3 arg4 harg4 arg5 harg5 arg6 harg6 arg7 harg7 arg8 harg8 arg9 harg9 : Prog (TpuEff nD τ sig (Elt F) Λ₀ .tc) PUnit)
      = body i arg2 arg3 arg4 arg5 arg6 arg7 harg7 arg8 arg9 harg9 := rfl

variable {𝒱 : Variants}

/-- The rest of the body, from the rows in the scratch buffer. -/
theorem rest_run {K : PUnit → sProp 𝕄} (c : Dev nD) (E : Set ℕ) (arg5 : Memref sig .tc .vmem S2048x512 .bf16) (arg7 : Memref sig .tc .vmem S1024x512 .bf16) (harg7 : arg7.IsWhole)
    (arg9 : Memref sig .tc .vmem S1024x2048 .bf16) (w : S2048x512.Idx → Elt F .bf16) (u : S1024x2048.Idx → Elt F .bf16) :
    iprop(owns (c : Thread nD τ) arg5 fullShare w ∗ (∃ d, owns (c : Thread nD τ) arg7 fullShare d) ∗ owns (c : Thread nD τ) arg9 fullShare u
      ∗ (iprop(owns (c : Thread nD τ) arg5 fullShare w ∗ owns (c : Thread nD τ) arg7 fullShare (outOf u w)
        ∗ owns (c : Thread nD τ) arg9 fullShare u) -∗ K ⟨⟩))
      ⊢ wp frame (wpE (defs₀ (F := F)) 𝒱 (c : Thread nD τ) none) E (rest arg5 arg7 harg7 arg9) K := by
  unfold rest
  simp only [Prog.lift, Prog.bind_op, Prog.bind_ret, Prog.pure_eq_ret]
  iintro ⟨H5, ⟨%d7, H7⟩, H9, Hk⟩
  iapply (load_all 𝒱 c none E (M := arg9) zero2) $$ H9; iintro H9
  iapply (load_all 𝒱 c none E (M := arg5) zero2) $$ H5; iintro H5
  iapply (load_all 𝒱 c none E (M := arg7) zero2) $$ H7; iintro H7
  iapply (store_all 𝒱 c none E (M := arg7) zero2) $$ H7; iintro H7
  rw [wp_ret]; imodintro
  iapply Hk
  isplitl [H5]; · iexact H5
  isplitl [H7]; · iexact H7
  iexact H9

/-- The body, from the blocks it is given and the rows in the scratch buffer. -/
theorem body_run {K : PUnit → sProp 𝕄} (c : Dev nD) (E : Set ℕ) (i : grid0.Coords) (arg2 : Memref sig .tc .vmem S1024x2048 .f32) (harg2 : arg2.IsWhole) (arg3 : Memref sig .tc .vmem S1x2048 .f32) (harg3 : arg3.IsWhole)
    (arg4 : Memref sig .tc .vmem S1x2048 .f32) (harg4 : arg4.IsWhole) (arg5 : Memref sig .tc .vmem S2048x512 .bf16) (harg5 : arg5.IsWhole)
    (arg6 : Memref sig .tc .vmem S2048x128 .bf16) (harg6 : arg6.IsWhole) (arg7 : Memref sig .tc .vmem S1024x512 .bf16) (harg7 : arg7.IsWhole)
    (arg8 : Memref sig .tc .vmem S1024x128 .f32) (harg8 : arg8.IsWhole) (arg9 : Memref sig .tc .vmem S1024x2048 .bf16) (harg9 : arg9.IsWhole)
    (x : S1024x2048.Idx → Elt F .f32) (sc sh : S1x2048.Idx → Elt F .f32) (w : S2048x512.Idx → Elt F .bf16) (g : S2048x128.Idx → Elt F .bf16)
    (d8 : S1024x128.Idx → Elt F .f32) (d9 u : S1024x2048.Idx → Elt F .bf16) (hu : u = if k0_cond1 i = 1#1 then keptOf x sc sh else d9) :
    iprop(owns (c : Thread nD τ) arg2 fullShare x ∗ owns (c : Thread nD τ) arg3 fullShare sc ∗ owns (c : Thread nD τ) arg4 fullShare sh
      ∗ owns (c : Thread nD τ) arg5 fullShare w ∗ owns (c : Thread nD τ) arg6 fullShare g ∗ (∃ d, owns (c : Thread nD τ) arg7 fullShare d)
      ∗ owns (c : Thread nD τ) arg8 fullShare d8 ∗ owns (c : Thread nD τ) arg9 fullShare d9
      ∗ (iprop(owns (c : Thread nD τ) arg2 fullShare x ∗ owns (c : Thread nD τ) arg3 fullShare sc ∗ owns (c : Thread nD τ) arg4 fullShare sh
        ∗ owns (c : Thread nD τ) arg5 fullShare w ∗ owns (c : Thread nD τ) arg6 fullShare g ∗ owns (c : Thread nD τ) arg7 fullShare (outOf u w)
        ∗ owns (c : Thread nD τ) arg8 fullShare (if k0_cond1 i = 1#1 then gateOf x sc sh g else d8) ∗ owns (c : Thread nD τ) arg9 fullShare u) -∗ K ⟨⟩))
      ⊢ wp frame (wpE (defs₀ (F := F)) 𝒱 (c : Thread nD τ) none) E
          (cc0_in_proj_cd i arg2 harg2 arg3 harg3 arg4 harg4 arg5 harg5 arg6 harg6 arg7 harg7 arg8 harg8 arg9 harg9) K := by
  rw [body_eq]
  unfold body
  by_cases h1 : k0_cond1 i = 1#1
  · rw [if_pos h1] at hu
    subst hu
    simp only [h1, ↓reduceDIte, ↓reduceIte, Prog.lift, Prog.bind_op, Prog.bind_ret, Prog.pure_eq_ret]
    iintro ⟨H2, H3, H4, H5, H6, H7, H8, H9, Hk⟩
    iapply (load_all 𝒱 c none E (M := arg2) zero2) $$ H2; iintro H2
    iapply (load_all 𝒱 c none E (M := arg3) zero2) $$ H3; iintro H3
    iapply (load_all 𝒱 c none E (M := arg4) zero2) $$ H4; iintro H4
    iapply (load_all 𝒱 c none E (M := arg9) zero2) $$ H9; iintro H9
    iapply (store_all 𝒱 c none E (M := arg9) zero2) $$ H9; iintro H9
    iapply (load_all 𝒱 c none E (M := arg6) zero2) $$ H6; iintro H6
    iapply (load_all 𝒱 c none E (M := arg8) zero2) $$ H8; iintro H8
    iapply (store_all 𝒱 c none E (M := arg8) zero2) $$ H8; iintro H8
    iapply (rest_run c E arg5 arg7 harg7 arg9 w (keptOf x sc sh))
    isplitl [H5]; · iexact H5
    isplitl [H7]; · iexact H7
    isplitl [H9]; · iexact H9
    iintro ⟨H5, H7, H9⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [if_neg h1] at hu
    subst hu
    simp only [h1, ↓reduceDIte, ↓reduceIte, Prog.lift, Prog.bind_op, Prog.bind_ret, Prog.pure_eq_ret]
    iintro ⟨H2, H3, H4, H5, H6, H7, H8, H9, Hk⟩
    iapply (rest_run c E arg5 arg7 harg7 arg9 w u)
    isplitl [H5]; · iexact H5
    isplitl [H7]; · iexact H7
    isplitl [H9]; · iexact H9
    iintro ⟨H5, H7, H9⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.InCD

end
-- ==== Proof.InCD.Frame.lean ====
/- The launch of the odd layers' input projection: what the buffers hold from one grid point to the next, the body's
   obligation, the run, and from it the frame. -/
module

public import proofs.«01_k».proof.Proof.InCD.Run
public import Idealize.ShloMosaic.Lib.Claim
public import Idealize.ShloMosaic.Lib.Pipeline.TableIdle

@[expose] public section

set_option maxRecDepth 16384

noncomputable section

namespace Cert.InCD

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem fills_iff : ∀ t : Fin cfg0.N, k0_cond1 (cfg0.grid.coords t) = 1#1 ↔ t.val % 12 = 0 :=
  (by decide +kernel : ∀ t : Fin grid0.N, k0_cond1 (grid0.coords t) = 1#1 ↔ t.val % 12 = 0)

/-- The first point of a point's row of the grid. -/
def first (t : Fin cfg0.N) : Fin cfg0.N := ⟨t.val - t.val % 12, by have := t.isLt; omega⟩

theorem first_of_fills (t : Fin cfg0.N) (h : t.val % 12 = 0) : first t = t := by
  refine Fin.ext ?_; show t.val - t.val % 12 = t.val; omega

theorem first_pred (t : Fin cfg0.N) (h : ¬ t.val % 12 = 0) : first ⟨t.val - 1, Nat.lt_of_le_of_lt (Nat.sub_le _ _) t.isLt⟩ = first t :=
  Fin.ext (show t.val - 1 - (t.val - 1) % 12 = t.val - t.val % 12 by omega)

/-- The rows of a point's row of the grid, modulated. -/
def rowsAt (c : Dev nD) (t : Fin cfg0.N) : S1024x2048.Idx → Elt F .bf16 :=
  keptOf (iblk m c 0 (first t)) (iblk m c 1 (first t)) (iblk m c 2 (first t))

/-- Their product with a point's columns of the weights, -/
def outAt (c : Dev nD) (t : Fin cfg0.N) : S1024x512.Idx → Elt F .bf16 := outOf (rowsAt m c t) (iblk m c 3 t)

/-- and the gates' product, at the first point of a row. -/
def gateAt (c : Dev nD) (t : Fin cfg0.N) : S1024x128.Idx → Elt F .f32 := gateOf (iblk m c 0 t) (iblk m c 1 t) (iblk m c 2 t) (iblk m c 4 t)

/-! ## The proof data -/

/-- What is held between two points: the scratch buffer, at the rows of the point before. -/
def between (c : Dev nD) (n : Fin (cfg0.N + 1)) : sProp 𝕄 :=
  iprop((∃ d, ⌜∀ t : Fin cfg0.N, t.val + 1 = n.val → d = rowsAt m c t⌝ ∗ owns (c : Thread nD τ) (Memref.whole cc0_scratch0) fullShare d)
    ∗ (∃ r, prngReg c r))

/-- The pipeline's data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => gateAt m c (first t)
  Φ n := between m c n
  q _ := fullShare
  owed _ := 0

theorem A_eq (c : Dev nD) (w : Fin cfg0.W) : (dats m 0 c).A w = V m c (Pipeline.arrRef spec0 w) := by dsimp only [dats]

theorem after_0 (c : Dev nD) (t) : (dats m 0 c).after 0 t = iblk m c 0 t := by dsimp only [dats]
theorem after_1 (c : Dev nD) (t) : (dats m 0 c).after 1 t = iblk m c 1 t := by dsimp only [dats]
theorem after_2 (c : Dev nD) (t) : (dats m 0 c).after 2 t = iblk m c 2 t := by dsimp only [dats]
theorem after_3 (c : Dev nD) (t) : (dats m 0 c).after 3 t = iblk m c 3 t := by dsimp only [dats]
theorem after_4 (c : Dev nD) (t) : (dats m 0 c).after 4 t = iblk m c 4 t := by dsimp only [dats]
theorem after_5 (c : Dev nD) (t) : (dats m 0 c).after 5 t = outAt m c t := by dsimp only [dats]
theorem after_6 (c : Dev nD) (t) : (dats m 0 c).after 6 t = gateAt m c (first t) := by dsimp only [dats]

theorem before_0 (c : Dev nD) (t d) : (dats m 0 c).before 0 t d = iblk m c 0 t := before0_0_of m (dats m 0 c) (A_eq m c 0) (after_0 m c) t d
theorem before_1 (c : Dev nD) (t d) : (dats m 0 c).before 1 t d = iblk m c 1 t := before0_1_of m (dats m 0 c) (A_eq m c 1) (after_1 m c) t d
theorem before_2 (c : Dev nD) (t d) : (dats m 0 c).before 2 t d = iblk m c 2 t := before0_2_of m (dats m 0 c) (A_eq m c 2) (after_2 m c) t d
theorem before_3 (c : Dev nD) (t d) : (dats m 0 c).before 3 t d = iblk m c 3 t := before0_3_of m (dats m 0 c) (A_eq m c 3) (after_3 m c) t d
theorem before_4 (c : Dev nD) (t d) : (dats m 0 c).before 4 t d = iblk m c 4 t := before0_4_of m (dats m 0 c) (A_eq m c 4) (after_4 m c) t d

/-! ## The second result's buffer -/

theorem idle_6 (t : Fin cfg0.N) : cfg0.idle 6 (cfg0.grid.coords t) = true ↔ ¬ t.val % 12 = 0 := by
  rw [← fills_iff t]
  show (!(k0_cond1 (cfg0.grid.coords t) == 1#1)) = true ↔ _
  rw [Bool.not_eq_true', beq_eq_false_iff_ne]

/-- Whether nothing has been stored since the buffer was last written back. -/
theorem fresh_6 (n : ℕ) (h : n ≤ cfg0.N) : cfg0.fresh 6 n = decide (n % 12 = 0) :=
  cfg0.fresh_tab 6 (fun n => decide (n % 12 = 0)) rfl
    (by decide +kernel : ∀ t : Fin cfg0.N, decide ((t.val + 1) % 12 = 0) = ((cfg0.win 6).flush t || (cfg0.idle 6 (cfg0.grid.coords t) && decide (t.val % 12 = 0)))) n h

theorem before_6 (c : Dev nD) (t : Fin cfg0.N) (d) (h : ¬ t.val % 12 = 0) : (dats m 0 c).before 6 t d = gateAt m c (first t) := by
  rw [(dats m 0 c).before_out_traj 6 rfl (fun _ _ => rfl) (fun s h0 hi hf => ?_) t.val t rfl d, fresh_6 t.val (Nat.le_of_lt t.isLt),
    if_neg (by simpa using h), after_6, first_pred t h]
  rw [fresh_6 s.val (Nat.le_of_lt s.isLt)] at hf
  rw [after_6, after_6, first_pred s (by simpa using hf)]

/-- The buffer after the body has run, as the pipeline takes it back. -/
theorem leave_6 (c : Dev nD) (t : Fin cfg0.N) (d) :
    (owns (c : Thread nD τ) (st0_6 t) fullShare (if k0_cond1 (cfg0.grid.coords t) = 1#1 then gateAt m c t else (dats m 0 c).before 6 t d) : sProp 𝕄)
      ⊢ (dats m 0 c).leavesExact 6 t := by
  by_cases h : t.val % 12 = 0
  · rw [if_pos ((fills_iff t).mpr h)]
    unfold Dat.leavesExact
    rw [show cfg0.idle 6 (cfg0.grid.coords t) = false from Bool.eq_false_iff.mpr fun hi => (idle_6 t).mp hi h, after_6, first_of_fills t h]
  · rw [if_neg fun hs => h ((fills_iff t).mp hs)]
    by_cases hf : t.val % 12 = 11
    · rw [before_6 m c t d h]
      unfold Dat.leavesExact
      rw [(idle_6 t).mpr h, (flush0_6 t).mpr hf, after_6]
    · rw [(dats m 0 c).leavesExact_idle 6 t ((idle_6 t).mpr h) (Bool.eq_false_iff.mpr fun hi => hf ((flush0_6 t).mp hi))]
      iintro H
      iexists d
      iexact H

/-! ## The body's obligation -/

/-- The scratch buffer and the generator, as the launch takes and returns them. -/
theorem scratch_eq (c : Dev nD) : (Pipeline.ΦA spec0 c : sProp 𝕄)
    = iprop((∃ d, owns (c : Thread nD τ) (Memref.whole cc0_scratch0) fullShare d) ∗ (∃ r, prngReg c r)) := by
  unfold Pipeline.ΦA
  rw [scopedRest0_eq]
  simp only [owns_whole]
  try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_0 (c : Dev nD) (t) : (dats m 0 c).leavesExact 0 t = owns (c : Thread nD τ) (st0_0 t) fullShare (iblk m c 0 t) := by
  unfold Dat.leavesExact; rw [show cfg0.idle 0 (cfg0.grid.coords t) = false from rfl, after_0]
theorem leaves_1 (c : Dev nD) (t) : (dats m 0 c).leavesExact 1 t = owns (c : Thread nD τ) (st0_1 t) fullShare (iblk m c 1 t) := by
  unfold Dat.leavesExact; rw [show cfg0.idle 1 (cfg0.grid.coords t) = false from rfl, after_1]
theorem leaves_2 (c : Dev nD) (t) : (dats m 0 c).leavesExact 2 t = owns (c : Thread nD τ) (st0_2 t) fullShare (iblk m c 2 t) := by
  unfold Dat.leavesExact; rw [show cfg0.idle 2 (cfg0.grid.coords t) = false from rfl, after_2]
theorem leaves_3 (c : Dev nD) (t) : (dats m 0 c).leavesExact 3 t = owns (c : Thread nD τ) (st0_3 t) fullShare (iblk m c 3 t) := by
  unfold Dat.leavesExact; rw [show cfg0.idle 3 (cfg0.grid.coords t) = false from rfl, after_3]
theorem leaves_4 (c : Dev nD) (t) : (dats m 0 c).leavesExact 4 t = owns (c : Thread nD τ) (st0_4 t) fullShare (iblk m c 4 t) := by
  unfold Dat.leavesExact; rw [show cfg0.idle 4 (cfg0.grid.coords t) = false from rfl, after_4]
theorem leaves_5 (c : Dev nD) (t) : (dats m 0 c).leavesExact 5 t = owns (c : Thread nD τ) (st0_5 t) fullShare (outAt m c t) := by
  unfold Dat.leavesExact; rw [show cfg0.idle 5 (cfg0.grid.coords t) = false from rfl, after_5]

/-- The scratch buffer's rows at a point: filled there, or those of the point before. -/
theorem rows_step (c : Dev nD) (t : Fin cfg0.N) (d : S1024x2048.Idx → Elt F .bf16)
    (hd : ∀ s : Fin cfg0.N, s.val + 1 = t.castSucc.val → d = rowsAt m c s) :
    rowsAt m c t = if k0_cond1 (cfg0.grid.coords t) = 1#1 then keptOf (iblk m c 0 t) (iblk m c 1 t) (iblk m c 2 t) else d := by
  by_cases h : t.val % 12 = 0
  · rw [if_pos ((fills_iff t).mpr h)]
    unfold rowsAt
    rw [first_of_fills t h]
  · rw [if_neg fun hs => h ((fills_iff t).mp hs)]
    rw [hd ⟨t.val - 1, Nat.lt_of_le_of_lt (Nat.sub_le _ _) t.isLt⟩ (show t.val - 1 + 1 = t.val by omega)]
    unfold rowsAt
    rw [first_pred t h]

set_option maxHeartbeats 1200000 in
/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before_0, before_1, before_2, before_3, before_4]
  rw [show (dats m 0 c).Φ t.succ = between m c t.succ from rfl,
    show (dats m 0 c).owesAt () t.succ = (dats m 0 c).owesAt () t.castSucc from rfl,
    show (dats m 0 c).Φ t.castSucc = between m c t.castSucc from rfl, leaves_0, leaves_1, leaves_2, leaves_3, leaves_4, leaves_5]
  unfold between
  iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c Set.univ (cfg0.grid.coords t) (st0_0 t) _ (st0_1 t) _ (st0_2 t) _ (st0_3 t) _ (st0_4 t) _ (st0_5 t) _ (st0_6 t) _
    (Memref.whole cc0_scratch0) _ (iblk m c 0 t) (iblk m c 1 t) (iblk m c 2 t) (iblk m c 3 t) (iblk m c 4 t) ((dats m 0 c).before 6 t d6) d (rowsAt m c t)
    (rows_step m c t d hd))
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, H5, H6, HS⟩
  isplitl [HS Hg]
  · isplitl [HS]
    · iexists (rowsAt m c t)
      isplitr
      · ipureintro
        intro s hs
        rw [show s = t from Fin.ext (by have : s.val + 1 = t.val + 1 := hs; omega)]
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leave_6 m c t d6)
  iexact H6

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

theorem scratch_in (c : Dev nD) : (Pipeline.ΦA spec0 c : sProp 𝕄) ⊢ (dats m 0 c).Φ 0 := by
  rw [scratch_eq, show (dats m 0 c).Φ 0 = between m c 0 from rfl]
  unfold between
  iintro ⟨⟨%d, H⟩, Hg⟩
  isplitl [H]
  · iexists d
    isplitr
    · ipureintro
      intro s hs
      exact absurd hs (Nat.succ_ne_zero _)
    iexact H
  iexact Hg

theorem scratch_out (c : Dev nD) : (dats m 0 c).Φ (Fin.last cfg0.N) ⊢ (Pipeline.ΦA spec0 c : sProp 𝕄) := by
  rw [scratch_eq, show (dats m 0 c).Φ (Fin.last cfg0.N) = between m c (Fin.last cfg0.N) from rfl]
  unfold between
  iintro ⟨⟨%d, -, H⟩, Hg⟩
  isplitl [H]
  · iexists d; iexact H
  iexact Hg

set_option backward.isDefEq.respectTransparency.types false in
set_option maxHeartbeats 800000 in
/-- Every run ends with every array at what the pipeline's data say and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := scratch_in m) (hout := scratch_out m) (Q' := _)

/-- The frame: the arguments are left as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c)⟩, h.2⟩) (run_main m ρ)

/-- Every run ends with the two results at the blocks written, and the arguments left as they were. -/
theorem run_result : θ_run defs (onTc (τ := τ) (main (F := F))) ⟨m, fun _ => 0, ρ⟩ (fun r => ∀ c : Dev nD,
      r.2.mem ((c.tc : Thread nD τ).loc main_v9_0) = (dats m 0 c).arrAt 5 cfg0.N
      ∧ r.2.mem ((c.tc : Thread nD τ).loc main_v9_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 5, (h.1 c).1 6,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c)⟩) (run_main m ρ)

end Cert.InCD

end
-- ==== Proof.InCD.Stages.lean ====
/- The odd layers' input projection, as the reference computes it. -/
module

public import proofs.«01_k».proof.Proof.Gen.Reference4Ideal.Run
public import Idealize.ShloMosaic.Lib.Pipeline.ValueKit
public import Idealize.ShloMosaic.Lib.KernelVsHost

@[expose] public section

noncomputable section

namespace Cert.InCD

open Idealize.ShloMosaic Idealize.ShloMosaic.TcCoe
open Idealize.SL.Sem Cert.Reference4Ideal Cert.Reference4Ideal.Gen

/-- The modulated rows times the weights. -/
def projected (X : FVec Ideal S8192x2048 .f32) (C H : FVec Ideal S1x2048 .f32) (W : FVec Ideal S2048x6160 .f32) : FVec Ideal S8192x6160 .f32 :=
  Host.dotGeneral dot_S8192x2048_S2048x6160_S8192x6160_1_0_0_1_n_n none
    (addf (mulf X (broadcastInDim S8192x2048 ![0, 1] bcast_S1x2048_S8192x2048_0_1 (addf (broadcastInDim S1x2048 ![] bcast_S_S1x2048 (constant S_ .f32 0x3F800000#32)) C)))
      (broadcastInDim S8192x2048 ![0, 1] bcast_S1x2048_S8192x2048_0_1 H)) W

/-- The reference's first result, of that product: all columns but the gates', -/
def mainCols (Z : FVec Ideal S8192x6160 .f32) : FVec Ideal S8192x6144 .bf16 :=
  truncf .bf16 (concatenate S8192x6144 1 [⟨S8192x3072, extractStridedSlice S8192x3072 ![0, 0] Z slices_S8192x6160_S8192x3072_0_0⟩,
    ⟨S8192x3072, extractStridedSlice S8192x3072 ![0, 3088] Z slices_S8192x6160_S8192x3072_0_3088⟩] concatenates_S8192x3072_S8192x3072_S8192x6144_d1) bitsLt_bf16_f32

/-- and its second: the gates' 16 columns and zeros. -/
def gateCols (Z : FVec Ideal S8192x6160 .f32) : FVec Ideal S8192x128 .f32 :=
  pad S8192x128 ![0, 0] ![0, 112] ![0, 0] (extractStridedSlice S8192x16 ![0, 3072] Z slices_S8192x6160_S8192x16_0_3072)
    (sitofp .f32 (constantI S_ 32 0#32)) pads_S8192x16_S8192x128_000_01120 h_S_

/-- The column of the weights that a column of the first result is of. -/
def colW (q : Fin 6144) : Fin 6160 := ⟨if q.val < 3072 then q.val else q.val + 16, by split <;> omega⟩

theorem mainCols_at (Z : FVec Ideal S8192x6160 .f32) (r : Fin 8192) (q : Fin 6144) : mainCols Z (ix2 r q) = Z (ix2 r (colW q)) := by
  unfold colW
  pointwise [mainCols]
  split
  · rfl
  · exact congrArg (fun k => Z (ix2 r k)) (Fin.ext (by show 3088 + (q.val - 3072) = q.val + 16; omega))

theorem gateCols_at (Z : FVec Ideal S8192x6160 .f32) (r : Fin 8192) (j : Fin 128) (h : j.val < 16) :
    gateCols Z (ix2 r j) = Z (ix2 r ⟨3072 + j.val, by omega⟩) := by
  pointwise [gateCols]
  exact dif_pos h

theorem gateCols_pad (Z : FVec Ideal S8192x6160 .f32) (r : Fin 8192) (j : Fin 128) (h : ¬ j.val < 16) : gateCols Z (ix2 r j) = (0 : Ideal .f32) := by
  pointwise [gateCols]
  rw [dif_neg h]
  show (Scalar.sitofp .f32 0#32 : Ideal .f32) = 0
  exact sitofp_zero

end Cert.InCD

end
-- ==== Proof.InCD.Weights.lean ====
/- The weights of the odd layers' input projection, as the kernel's host operations lay them out. -/
module

public import proofs.«01_k».proof.Proof.InCD.Frame
public import proofs.«01_k».proof.Proof.InCD.Stages
public import Idealize.ShloMosaic.Lib.Routing.OpsSet
public import Idealize.ShloMosaic.Lib.Routing.OpsPair

@[expose] public section

set_option maxRecDepth 16384

noncomputable section

namespace Cert.InCD

open Idealize.ShloMosaic Idealize.ShloMosaic.TcCoe Idealize.ShloMosaic.Routing Idealize.SL.Sem
open Cert.Kernel4Ideal Cert.Kernel4Ideal.Gen

/-! ## The gates' columns set into a matrix of zeros -/

/-- An update lands at its own row and column. -/
theorem lands {w : ℕ} (idx : IVec S1 w) (h0 : idx (ix1 0) = 0) (r i : Fin 2048) (e : Fin 16) (j : Fin 128) :
    scatter_S2048x128_S1_S2048x16_01_n_1_0.resultIdx? (ix2 r e) idx = some (ix2 i j) ↔ r = i ∧ e.val = j.val := by
  have hs0 : scatter_S2048x128_S1_S2048x16_01_n_1_0.start (ix2 r e) idx 0 = 0 := rfl
  have hw0 : scatter_S2048x128_S1_S2048x16_01_n_1_0.window (ix2 r e) 0 = r.val := rfl
  have hw1 : scatter_S2048x128_S1_S2048x16_01_n_1_0.window (ix2 r e) 1 = e.val := rfl
  have hs1 : scatter_S2048x128_S1_S2048x16_01_n_1_0.start (ix2 r e) idx 1 = 0 := by
    have q : ∀ b, idx b = 0 := fun b => by
      rw [← h0]; refine congrArg idx (funext fun a => ?_)
      match a with
      | ⟨0, _⟩ => exact Subsingleton.elim (α := Fin 1) _ _
    show (idx _).toInt = 0
    rw [q]; exact BitVec.toInt_zero
  rw [resultIdx?_eq_some, Fin.ext_iff]
  constructor
  · intro h
    have a := h 0
    have b := h 1
    rw [hs0, hw0] at a
    rw [hs1, hw1] at b
    change (0 : ℤ) + (r.val : ℤ) = (i.val : ℤ) at a
    change (0 : ℤ) + (e.val : ℤ) = (j.val : ℤ) at b
    omega
  · intro h a
    match a with
    | ⟨0, _⟩ => rw [show (⟨0, _⟩ : Fin 2) = 0 from rfl, hs0, hw0]; show (0 : ℤ) + (r.val : ℤ) = (i.val : ℤ); omega
    | ⟨1, _⟩ => rw [show (⟨1, _⟩ : Fin 2) = 1 from rfl, hs1, hw1]; show (0 : ℤ) + (e.val : ℤ) = (j.val : ℤ); omega

theorem set_at {α : Type} {w : ℕ} (x : S2048x128.Idx → α) (idx : IVec S1 w) (h0 : idx (ix1 0) = 0) (u : S2048x16.Idx → α) (i : Fin 2048) (j : Fin 128) :
    Host.scatter scatter_S2048x128_S1_S2048x16_01_n_1_0 (fun _ b => b) x idx u (ix2 i j)
      = if h : j.val < 16 then u (ix2 i ⟨j.val, h⟩) else x (ix2 i j) := by
  have hk : ∀ k : S2048x16.Idx, k = ix2 (k 0) (k 1) := fun k => by
    funext a
    match a with
    | ⟨0, _⟩ => rfl
    | ⟨1, _⟩ => rfl
  split
  · next h =>
    refine scatter_set_hit _ x idx u _ _ (fun k q => ?_) (ix2 i ⟨j.val, h⟩) ((lands idx h0 i i ⟨j.val, h⟩ j).2 ⟨rfl, rfl⟩)
    rw [hk k] at q ⊢
    obtain ⟨a, b⟩ := (lands idx h0 _ i _ j).1 q
    rw [a, show k 1 = ⟨j.val, h⟩ from Fin.ext b]
    rfl
  · next h =>
    refine scatter_set_miss _ x idx u _ fun k q => ?_
    rw [hk k] at q
    obtain ⟨a, b⟩ := (lands idx h0 _ i _ j).1 q
    exact h (b ▸ (k 1).isLt)

variable (m : (ℓ : Loc nD τ sig) → Buf (Elt Ideal) ℓ)

/-- The gates' weights as the kernel is given them: 16 columns of the argument, -/
theorem gates_at (c : Dev nD) (k : Fin 2048) (j : Fin 128) (h : j.val < 16) :
    V m c main_v8 (ix2 k j) = m ((c : Thread nD τ).loc main_arg3) (ix2 k ⟨3072 + j.val, by omega⟩) := by
  entry_read
  rw [set_at _ _ rfl, dif_pos h]
  pointwise []

/-- and zeros. -/
theorem gates_pad (c : Dev nD) (k : Fin 2048) (j : Fin 128) (h : ¬ j.val < 16) : V m c main_v8 (ix2 k j) = (0 : Ideal .bf16) := by
  entry_read
  rw [set_at _ _ rfl, dif_neg h]
  pointwise []

/-- The other weights: the argument's columns on the two sides of the gates'. -/
theorem mains_at (c : Dev nD) (k : Fin 2048) (q : Fin 6144) :
    V m c main_v3 (ix2 k q) = m ((c : Thread nD τ).loc main_arg3) (ix2 k (colW q)) := by
  entry_read
  unfold colW
  pointwise []
  split
  · rfl
  · exact congrArg (fun e => m ((c : Thread nD τ).loc main_arg3) (ix2 k e)) (Fin.ext (by show 3088 + (q.val - 3072) = q.val + 16; omega))

end Cert.InCD

end
-- ==== Proof.InCD.Value.lean ====
/- The odd layers' input projection's two results, over the reals: the reference's. -/
module

public import proofs.«01_k».proof.Proof.InCD.Weights

@[expose] public section

set_option maxRecDepth 16384

noncomputable section

namespace Cert.InCD

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- The reference's product, over the kernel's arguments, -/
abbrev Product (c : Dev nD) : FVec Ideal Cert.Reference4Ideal.S8192x6160 .f32 :=
  projected (m ((c : Thread nD τ).loc main_arg0)) (m ((c : Thread nD τ).loc main_arg1)) (m ((c : Thread nD τ).loc main_arg2)) (m ((c : Thread nD τ).loc main_arg3))

theorem idx : ∀ t : Fin cfg0.N, win0_0.index (first t) = ![t.val / 12, 0] ∧ win0_1.index (first t) = ![0, 0] ∧ win0_2.index (first t) = ![0, 0]
    ∧ win0_3.index t = ![0, t.val % 12] ∧ win0_4.index (first t) = ![0, 0] ∧ win0_5.index t = ![t.val / 12, t.val % 12] ∧ win0_6.index t = ![t.val / 12, 0] :=
  (by decide +kernel : ∀ t : Fin grid0.N, _)

theorem pt_lt (t : Fin cfg0.N) : t.val < 96 := lt_of_lt_of_eq t.isLt (by decide)

/-- The row of the arrays that a row of a point's block is, -/
abbrev rowOf (t : Fin cfg0.N) (i : Fin 1024) : Fin 8192 := ⟨t.val / 12 * 1024 + i.val, by have := pt_lt t; omega⟩
/-- and the column of the first result. -/
abbrev colOf (t : Fin cfg0.N) (j : Fin 512) : Fin 6144 := ⟨t.val % 12 * 512 + j.val, by omega⟩

/-- A block of an array of the weights' shape, -/
theorem read_3 (z : S2048x6144.Idx → Elt Ideal .bf16) (t : Fin cfg0.N) (k : Fin 2048) (j : Fin 512) :
    ((cfg0.win 3).blk t).view.read (Elt Ideal) z (ix2 k j) = z (ix2 k (colOf t j)) := by
  blk_ext [idx t]

/-- and of one of the gates' weights' shape. -/
theorem read_4 (z : S2048x128.Idx → Elt Ideal .bf16) (t : Fin cfg0.N) (k : Fin 2048) (j : Fin 128) :
    ((cfg0.win 4).blk (first t)).view.read (Elt Ideal) z (ix2 k j) = z (ix2 k j) := by
  blk_ext [idx t]

/-- A point's block of the weights, -/
theorem block_3 (c : Dev nD) (t : Fin cfg0.N) (k : Fin 2048) (j : Fin 512) :
    iblk m c 3 t (ix2 k j) = m ((c : Thread nD τ).loc main_arg3) (ix2 k (colW (colOf t j))) := by
  have h : iblk m c 3 t (ix2 k j) = V m c main_v3 (ix2 k (colOf t j)) := by
    unfold iblk
    generalize hz : V m c (Pipeline.arrRef spec0 3) = z
    exact read_3 z t k j
  exact h.trans (mains_at m c k (colOf t j))

/-- and the gates' weights. -/
theorem block_4 (c : Dev nD) (t : Fin cfg0.N) (k : Fin 2048) (j : Fin 128) :
    iblk m c 4 (first t) (ix2 k j) = V m c main_v8 (ix2 k j) := by
  unfold iblk
  generalize hz : V m c (Pipeline.arrRef spec0 4) = z
  exact read_4 z t k j

/-- A point's product is the reference's at its rows, and at the columns of the weights that its columns are of. -/
theorem out_at (c : Dev nD) (t : Fin cfg0.N) (i : Fin 1024) (j : Fin 512) :
    outAt m c t (ix2 i j) = Product m c (ix2 (rowOf t i) (colW (colOf t j))) := by
  unfold outAt rowsAt
  pointwise [outOf, keptOf, modOf, Product, projected]
  refine Finset.sum_congr rfl fun k _ => ?_
  rw [block_3]
  blk_point [iblk, V, idx t]

/-- The first result's array after the run. -/
theorem main_final (c : Dev nD) : (dats m 0 c).arrAt 5 cfg0.N = mainCols (Product m c) := by
  refine (dats m 0 c).arrAt_eq_of_covers 5 _ (by decide +kernel) fun t _ y => ?_
  blk_simp
  rw [after_5]
  obtain ⟨i, j, rfl⟩ : ∃ (i : Fin 1024) (j : Fin 512), y = ix2 i j := ⟨y 0, y 1, by blk_ext⟩
  refine (out_at m c t i j).trans ((mainCols_at (Product m c) (rowOf t i) (colOf t j)).symm.trans ?_)
  blk_ext [idx t]

/-- The gates' product at a row's first point, at their columns, -/
theorem gate_at (c : Dev nD) (t : Fin cfg0.N) (i : Fin 1024) (j : Fin 128) (h : j.val < 16) :
    gateAt m c (first t) (ix2 i j) = Product m c (ix2 (rowOf t i) ⟨3072 + j.val, by omega⟩) := by
  unfold gateAt
  pointwise [gateOf, modOf, Product, projected]
  refine Finset.sum_congr rfl fun k _ => ?_
  rw [block_4, gates_at m c k j h]
  blk_point [iblk, V, idx t]

/-- and at the zeros beside them. -/
theorem gate_pad (c : Dev nD) (t : Fin cfg0.N) (i : Fin 1024) (j : Fin 128) (h : ¬ j.val < 16) : gateAt m c (first t) (ix2 i j) = (0 : Ideal .f32) := by
  unfold gateAt
  pointwise [gateOf, modOf]
  refine Finset.sum_eq_zero fun k _ => ?_
  rw [block_4, gates_pad m c k j h]
  exact mul_zero _

/-- The second result's array after the run. -/
theorem gate_final (c : Dev nD) : (dats m 0 c).arrAt 6 cfg0.N = gateCols (Product m c) := by
  refine (dats m 0 c).arrAt_eq_of_covers 6 _ (by decide +kernel) fun t _ y => ?_
  blk_simp
  rw [after_6]
  obtain ⟨i, j, rfl⟩ : ∃ (i : Fin 1024) (j : Fin 128), y = ix2 i j := ⟨y 0, y 1, by blk_ext⟩
  have e : gateAt m c (first t) (ix2 i j) = gateCols (Product m c) (ix2 (rowOf t i) j) := by
    by_cases h : j.val < 16
    · rw [gateCols_at _ _ _ h]; exact gate_at m c t i j h
    · rw [gateCols_pad _ _ _ h]; exact gate_pad m c t i j h
  refine e.trans ?_
  blk_ext [idx t]

end Cert.InCD

end
-- ==== Proof.InCD.Claims.lean ====
/- The claims about the odd layers' input projection, one by one. -/
module

public import proofs.«01_k».proof.Defs
public import proofs.«01_k».proof.Proof.Gen.Kernel4.Frame
public import proofs.«01_k».proof.Proof.InCD.Value
public import Idealize.ShloMosaic.Lib.Claim

@[expose] public section

noncomputable section

namespace Cert.InCD

open Idealize.ShloMosaic Idealize.ShloMosaic.TcCoe Idealize.SL.Sem

/-- The kernels have one text, before and after the reading over the reals: so have their bodies' tables, -/
theorem tables_eq : Cert.Kernel4.defs₀ (F := Bits) = Cert.Kernel4Ideal.defs₀ (F := Bits) := by
  refine congrArg Defs.onTc (funext fun l => funext fun a => ?_)
  match l, a with
  | ⟨0, _⟩, (t, s) => rfl
  | ⟨n + 1, h⟩, _ => exact absurd h (Nat.not_lt.2 (Nat.le_add_left _ _))

theorem defs_eq : Cert.Kernel4.defs (F := Bits) = Cert.Kernel4Ideal.defs (F := Bits) := congrArg (Pipeline.defs Cert.Kernel4Ideal.pcfgs) tables_eq

/-- and the kernel's frame is the one over any float values. -/
theorem quiet_kernel : @Cert.quiescent_Kernel4 Cert.Kernel4.Gen.facts := by
  intro m g _
  rw [defs_eq]
  exact frame (F := Bits) m g

theorem quiet_ideal : @Cert.quiescent_Kernel4Ideal Cert.Kernel4Ideal.Gen.facts := fun m g _ => frame m g

theorem quiet_reference : @Cert.quiescent_Reference4Ideal Cert.Reference4Ideal.Gen.facts := by
  intro m g _
  exact (θ_run _ _ _).mono (fun r h => ⟨fun c => (h c).2.2, sem_eq_zero_of_no_sems (by decide) r.2⟩) (Cert.Reference4Ideal.Value.run m g)

theorem preserved : Cert.preserves_Kernel4_Kernel4Ideal := trivial

theorem same_result : @Cert.algebraic_Kernel4Ideal_Reference4Ideal Cert.Kernel4Ideal.Gen.facts Cert.Reference4Ideal.Gen.facts := by
  intro m g m' g' _ hagree
  refine ⟨fun c => mainCols (Product m c), fun c => gateCols (Product m c), ?_, ?_⟩
  · exact (θ_run _ _ _).mono (fun r h c => ⟨(h c).1.trans (main_final m c), (h c).2.1.trans (gate_final m c), (h c).2.2⟩) (run_result m g)
  · refine (θ_run _ _ _).mono (fun r h c => ⟨(h c).1.trans ?_, (h c).2.1.trans ?_, (h c).2.2⟩) (Cert.Reference4Ideal.Value.run m' g')
    · obtain ⟨h0, h1, h2, h3⟩ := hagree c
      rw [h0, h1, h2, h3]
      rfl
    · obtain ⟨h0, h1, h2, h3⟩ := hagree c
      rw [h0, h1, h2, h3]
      rfl

end Cert.InCD

end
-- ==== Proof.Exp.Run.lean ====
/- The body of the experts' products at a grid point: which of its stores it makes there, and what the buffers hold
   after them. -/
module

public import proofs.«01_k».proof.Proof.Gen.Kernel5Ideal.Skeleton
public import proofs.«01_k».proof.Proof.Proj.Access

@[expose] public section

set_option maxRecDepth 16384

noncomputable section

namespace Cert.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen Cert.Proj

section Words

variable {nD : ℕ} {τ : Topo} {sig : RefSig} {Val : EltTy → Type} {Λ : Labels}

local notation "𝕄" => MT nD τ sig Unit Val ℕ (UR sig nD τ) ℕ

/-- A load of one word of scalar memory reads the table's element there. -/
theorem word_load {defs : Defs nD τ sig Val Λ} (𝒱 : Variants) (c : Dev nD) (bd : Option 𝒱.V) (E : Set ℕ)
    {s : Shape} {e : EltTy} {M : Memref sig .tc .smem s e} {α : Type} {K : α → sProp 𝕄} {r : Rect s} {hw : (M.access r).Loads} {x : r.shape.Idx}
    {k : Val e → Prog (TpuEff nD τ sig Val Λ .tc) α} {q : PosShare TreeShare} {X : s.Idx → Val e} :
    (owns (c : Thread nD τ) M q X : sProp 𝕄)
      ⊢ iprop((owns (c : Thread nD τ) M q X -∗ wp frame (wpE defs 𝒱 (c : Thread nD τ) bd) E (k (X (r.emb x))) K)
        -∗ wp frame (wpE defs 𝒱 (c : Thread nD τ) bd) E (smemLoadElt M r hw x k) K) := by
  unfold owns
  iintro ⟨%f, %hf, H⟩ Hk
  subst hf
  iapply (wp_smemLoadElt 𝒱 (c : Thread nD τ) bd E (m := M) (r := r) (x := x) (M.view.set_slice_subset _)) $$ H
  iintro H
  iapply Hk
  iexists f
  isplitr; · ipureintro; rfl
  iexact H

end Words

variable {F : FTy → Type} [FloatOps F]

local notation "𝕄" => MT nD τ sig Unit (Elt F) ℕ (UR sig nD τ) ℕ

/-- Whether the scratch buffers are filled at a point: at the first, and where the expert is not the point before's. -/
def changed (i : grid0.Coords) (v w : BitVec 32) : BitVec 1 :=
  Scalar.cmpi .ne (Scalar.extui (Scalar.ori (Scalar.cmpi .eq (BitVec.ofNat 32 (i 0).val) 0#32) (Scalar.cmpi .ne v w)) : BitVec 32) 0#32

/-- The point's expert's row of the weights, -/
def here (be : S96.Idx → Elt F .i32) (i : grid0.Coords) : BitVec 32 :=
  be ((Rect.unit (s := S96) (k0_off1 i) S1.size (k0_off1_inb i)).emb (Shape.Idx.first (numel1_S1.symm ▸ Nat.one_pos)))

/-- the point before's, -/
def prior (be : S96.Idx → Elt F .i32) (i : grid0.Coords) : BitVec 32 :=
  be ((Rect.unit (s := S96) (k0_off2 i) S1.size (k0_off2_inb i)).emb (Shape.Idx.first (numel1_S1.symm ▸ Nat.one_pos)))

/-- and the number of blocks that hold rows. -/
def count (nu : S1.Idx → Elt F .i32) : BitVec 32 :=
  nu ((Rect.unit (s := S1) ![0] S1.size inb_S1_S1_0).emb (Shape.Idx.first (numel1_S1.symm ▸ Nat.one_pos)))

theorem zero2 : (![0, 0] : Fin 2 → ℕ) = fun _ => 0 := by decide
theorem zero3 : (![0, 0, 0] : Fin 3 → ℕ) = fun _ => 0 := by decide

/-- Of the two last stores the body makes exactly one. -/
theorem stores_one (i : grid0.Coords) (v : BitVec 32) : k0_cond3 i v = 1#1 ↔ ¬ k0_cond2 i v = 1#1 := by
  unfold k0_cond3 k0_cond2
  simp only [Scalar.cmpi, Scalar.extui]
  generalize BitVec.ofNat 32 (i 0).val = x
  unfold IntOp.cmpi
  cases hx : x.slt v <;> simp [BitVec.sle_eq_not_slt, hx]

abbrev rX : Rect S256x2048 := Rect.unit (s := S256x2048) ![0, 0] S256x2048.size inb_S256x2048_S256x2048_0_0
abbrev rA : Rect S2048x512 := Rect.unit (s := S2048x512) ![0, 0] S2048x512.size inb_S2048x512_S2048x512_0_0
abbrev rB : Rect S512x2048 := Rect.unit (s := S512x2048) ![0, 0] S512x2048.size inb_S512x2048_S512x2048_0_0
abbrev rU : Rect S1x2048x512 := Rect.unit (s := S1x2048x512) ![0, 0, 0] S1x2048x512.size inb_S1x2048x512_S1x2048x512_0_0_0
abbrev rV : Rect S1x512x2048 := Rect.unit (s := S1x512x2048) ![0, 0, 0] S1x512x2048.size inb_S1x512x2048_S1x512x2048_0_0_0

section Body

variable (i : grid0.Coords) (arg1 : Memref sig .tc .smem S96 .i32) (harg1 : arg1.IsWhole) (arg2 : Memref sig .tc .smem S1 .i32) (harg2 : arg2.IsWhole)
  (arg3 : Memref sig .tc .vmem S256x2048 .f32) (harg3 : arg3.IsWhole) (arg4 : Memref sig .tc .vmem S1x2048x512 .f32) (harg4 : arg4.IsWhole)
  (arg5 : Memref sig .tc .vmem S1x2048x512 .f32) (harg5 : arg5.IsWhole) (arg6 : Memref sig .tc .vmem S1x512x2048 .f32) (harg6 : arg6.IsWhole)
  (arg7 : Memref sig .tc .vmem S256x2048 .f32) (harg7 : arg7.IsWhole) (arg8 : Memref sig .tc .vmem S2048x512 .bf16) (harg8 : arg8.IsWhole)
  (arg9 : Memref sig .tc .vmem S2048x512 .bf16) (harg9 : arg9.IsWhole) (arg10 : Memref sig .tc .vmem S512x2048 .bf16) (harg10 : arg10.IsWhole)

/-- The product, where the block holds rows, and zeros where it does not. -/
def finish : Prog (TpuEff nD τ sig (Elt F) Λ₀ .tc) PUnit := do
  let n : Elt F .i32 ← smemLoad arg2 (Rect.unit (s := S1) ![0] S1.size inb_S1_S1_0) numel1_S1 rfl
  if k0_h2 : k0_cond2 i n = 1#1 then do
    let x : Vec F S256x2048 .f32 ← Prog.lift (.load arg3 rX.toLoadRect (View.loadsAt_vmem h_S256x2048))
    let u : Vec F S2048x512 .bf16 ← Prog.lift (.load arg8 rA.toLoadRect (View.loadsAt_vmem h_S2048x512))
    let v : Vec F S2048x512 .bf16 ← Prog.lift (.load arg9 rA.toLoadRect (View.loadsAt_vmem h_S2048x512))
    let w : Vec F S512x2048 .bf16 ← Prog.lift (.load arg10 rB.toLoadRect (View.loadsAt_vmem h_S512x2048))
    let _ : Vec F S256x2048 .f32 ← Prog.lift (.load arg7 rX.toLoadRect (View.loadsAt_vmem h_S256x2048))
    Prog.lift (.store arg7 rX (k0_pay4 x u v w) Finset.univ (View.stores_vmem_bits_univ h_S256x2048 rfl) (.inl rfl))
    pure ⟨⟩
  else do pure ⟨⟩
  let n' : Elt F .i32 ← smemLoad arg2 (Rect.unit (s := S1) ![0] S1.size inb_S1_S1_0) numel1_S1 rfl
  if k0_h3 : k0_cond3 i n' = 1#1 then do
    let _ : Vec F S256x2048 .f32 ← Prog.lift (.load arg7 rX.toLoadRect (View.loadsAt_vmem h_S256x2048))
    Prog.lift (.store arg7 rX (k0_pay5 (F := F)) Finset.univ (View.stores_vmem_bits_univ h_S256x2048 rfl) (.inl rfl))
    pure ⟨⟩
  else do pure ⟨⟩
  pure ⟨⟩

/-- The body: the scratch buffers are filled where the expert changes, and then the product. -/
def body : Prog (TpuEff nD τ sig (Elt F) Λ₀ .tc) PUnit := do
  let v : Elt F .i32 ← smemLoad arg1 (Rect.unit (s := S96) (k0_off1 i) S1.size (k0_off1_inb i)) numel1_S1 rfl
  let w : Elt F .i32 ← smemLoad arg1 (Rect.unit (s := S96) (k0_off2 i) S1.size (k0_off2_inb i)) numel1_S1 rfl
  if changed i v w = 1#1 then do
    let a : Vec F S1x2048x512 .f32 ← Prog.lift (.load arg4 rU.toLoadRect (View.loadsAt_vmem h_S1x2048x512))
    let _ : Vec F S2048x512 .bf16 ← Prog.lift (.load arg8 rA.toLoadRect (View.loadsAt_vmem h_S2048x512))
    Prog.lift (.store arg8 rA (k0_pay1 a) Finset.univ (View.stores_vmem h_S2048x512 (harg8.storeExact_slice rfl _ packedbf16_S2048x512_S2048x512_0_0) (fun _ => rfl)) (.inl rfl))
    let b : Vec F S1x2048x512 .f32 ← Prog.lift (.load arg5 rU.toLoadRect (View.loadsAt_vmem h_S1x2048x512))
    let _ : Vec F S2048x512 .bf16 ← Prog.lift (.load arg9 rA.toLoadRect (View.loadsAt_vmem h_S2048x512))
    Prog.lift (.store arg9 rA (k0_pay2 b) Finset.univ (View.stores_vmem h_S2048x512 (harg9.storeExact_slice rfl _ packedbf16_S2048x512_S2048x512_0_0) (fun _ => rfl)) (.inl rfl))
    let d : Vec F S1x512x2048 .f32 ← Prog.lift (.load arg6 rV.toLoadRect (View.loadsAt_vmem h_S1x512x2048))
    let _ : Vec F S512x2048 .bf16 ← Prog.lift (.load arg10 rB.toLoadRect (View.loadsAt_vmem h_S512x2048))
    Prog.lift (.store arg10 rB (k0_pay3 d) Finset.univ (View.stores_vmem h_S512x2048 (harg10.storeExact_slice rfl _ packedbf16_S512x2048_S512x2048_0_0) (fun _ => rfl)) (.inl rfl))
    pure ⟨⟩
  else do pure ⟨⟩
  finish i arg2 arg3 arg7 arg8 arg9 arg10

theorem body_eq : (cc0_expert_mlp i arg1 harg1 arg2 harg2 arg3 harg3 arg4 harg4 arg5 harg5 arg6 harg6 arg7 harg7 arg8 harg8 arg9 harg9 arg10 harg10
      : Prog (TpuEff nD τ sig (Elt F) Λ₀ .tc) PUnit)
    = body i arg1 arg2 arg3 arg4 arg5 arg6 arg7 arg8 harg8 arg9 harg9 arg10 harg10 := rfl

/-- What the output's buffer holds after the body. -/
def outOf (n : BitVec 32) (x : S256x2048.Idx → Elt F .f32) (u v : S2048x512.Idx → Elt F .bf16) (w : S512x2048.Idx → Elt F .bf16) : S256x2048.Idx → Elt F .f32 :=
  if k0_cond2 i n = 1#1 then k0_pay4 x u v w else k0_pay5 (F := F)

variable {𝒱 : Variants}

/-- The product's store, or the zeros', from the weights in the scratch buffers. -/
theorem finish_run {K : PUnit → sProp 𝕄} (c : Dev nD) (E : Set ℕ) (q : PosShare TreeShare) (nu : S1.Idx → Elt F .i32)
    (x : S256x2048.Idx → Elt F .f32) (u v : S2048x512.Idx → Elt F .bf16) (w : S512x2048.Idx → Elt F .bf16) :
    iprop(owns (c : Thread nD τ) arg2 q nu ∗ owns (c : Thread nD τ) arg3 fullShare x ∗ (∃ d, owns (c : Thread nD τ) arg7 fullShare d)
      ∗ owns (c : Thread nD τ) arg8 fullShare u ∗ owns (c : Thread nD τ) arg9 fullShare v ∗ owns (c : Thread nD τ) arg10 fullShare w
      ∗ (iprop(owns (c : Thread nD τ) arg2 q nu ∗ owns (c : Thread nD τ) arg3 fullShare x
        ∗ owns (c : Thread nD τ) arg7 fullShare (outOf i (count nu) x u v w)
        ∗ owns (c : Thread nD τ) arg8 fullShare u ∗ owns (c : Thread nD τ) arg9 fullShare v ∗ owns (c : Thread nD τ) arg10 fullShare w) -∗ K ⟨⟩))
      ⊢ wp frame (wpE (defs₀ (F := F)) 𝒱 (c : Thread nD τ) none) E (finish i arg2 arg3 arg7 arg8 arg9 arg10) K := by
  unfold finish
  simp only [smemLoad, smemLoadElt_bind, Prog.bind_ret]
  iintro ⟨H2, H3, ⟨%d, H7⟩, H8, H9, H10, Hk⟩
  iapply (word_load 𝒱 c none E (M := arg2)) $$ H2; iintro H2
  by_cases h : k0_cond2 i (count nu) = 1#1
  · have h3 : ¬ k0_cond3 i (count nu) = 1#1 := fun h' => (stores_one i _).mp h' h
    unfold count at h h3
    unfold outOf count
    simp only [h, h3, ↓reduceDIte, ↓reduceIte, Prog.lift, Prog.bind_op, Prog.bind_ret, Prog.pure_eq_ret, smemLoadElt_bind]
    iapply (load_all 𝒱 c none E (M := arg3) zero2) $$ H3; iintro H3
    iapply (load_all 𝒱 c none E (M := arg8) zero2) $$ H8; iintro H8
    iapply (load_all 𝒱 c none E (M := arg9) zero2) $$ H9; iintro H9
    iapply (load_all 𝒱 c none E (M := arg10) zero2) $$ H10; iintro H10
    iapply (load_all 𝒱 c none E (M := arg7) zero2) $$ H7; iintro H7
    iapply (store_all 𝒱 c none E (M := arg7) zero2) $$ H7; iintro H7
    iapply (word_load 𝒱 c none E (M := arg2)) $$ H2; iintro H2
    simp only [h3, ↓reduceDIte, ↓reduceIte]
    rw [wp_ret]; imodintro
    iapply Hk
    isplitl [H2]; · iexact H2
    isplitl [H3]; · iexact H3
    isplitl [H7]; · iexact H7
    isplitl [H8]; · iexact H8
    isplitl [H9]; · iexact H9
    iexact H10
  · have h3 : k0_cond3 i (count nu) = 1#1 := (stores_one i _).mpr h
    unfold count at h h3
    unfold outOf count
    simp only [h, h3, ↓reduceDIte, ↓reduceIte, Prog.lift, Prog.bind_op, Prog.bind_ret, Prog.pure_eq_ret, smemLoadElt_bind]
    iapply (word_load 𝒱 c none E (M := arg2)) $$ H2; iintro H2
    simp only [h3, ↓reduceDIte, ↓reduceIte]
    iapply (load_all 𝒱 c none E (M := arg7) zero2) $$ H7; iintro H7
    iapply (store_all 𝒱 c none E (M := arg7) zero2) $$ H7; iintro H7
    rw [wp_ret]; imodintro
    iapply Hk
    isplitl [H2]; · iexact H2
    isplitl [H3]; · iexact H3
    isplitl [H7]; · iexact H7
    isplitl [H8]; · iexact H8
    isplitl [H9]; · iexact H9
    iexact H10

/-- The body, from the blocks it is given and what is in the scratch buffers. -/
theorem body_run {K : PUnit → sProp 𝕄} (c : Dev nD) (E : Set ℕ) (q q' : PosShare TreeShare) (be : S96.Idx → Elt F .i32) (nu : S1.Idx → Elt F .i32)
    (x : S256x2048.Idx → Elt F .f32) (a b : S1x2048x512.Idx → Elt F .f32) (e : S1x512x2048.Idx → Elt F .f32)
    (d8 d9 u v : S2048x512.Idx → Elt F .bf16) (d10 w : S512x2048.Idx → Elt F .bf16)
    (hu : u = if changed i (here be i) (prior be i) = 1#1 then k0_pay1 a else d8)
    (hv : v = if changed i (here be i) (prior be i) = 1#1 then k0_pay2 b else d9)
    (hw : w = if changed i (here be i) (prior be i) = 1#1 then k0_pay3 e else d10) :
    iprop(owns (c : Thread nD τ) arg1 q be ∗ owns (c : Thread nD τ) arg2 q' nu ∗ owns (c : Thread nD τ) arg3 fullShare x
      ∗ owns (c : Thread nD τ) arg4 fullShare a ∗ owns (c : Thread nD τ) arg5 fullShare b ∗ owns (c : Thread nD τ) arg6 fullShare e
      ∗ (∃ d, owns (c : Thread nD τ) arg7 fullShare d)
      ∗ owns (c : Thread nD τ) arg8 fullShare d8 ∗ owns (c : Thread nD τ) arg9 fullShare d9 ∗ owns (c : Thread nD τ) arg10 fullShare d10
      ∗ (iprop(owns (c : Thread nD τ) arg1 q be ∗ owns (c : Thread nD τ) arg2 q' nu ∗ owns (c : Thread nD τ) arg3 fullShare x
        ∗ owns (c : Thread nD τ) arg4 fullShare a ∗ owns (c : Thread nD τ) arg5 fullShare b ∗ owns (c : Thread nD τ) arg6 fullShare e
        ∗ owns (c : Thread nD τ) arg7 fullShare (outOf i (count nu) x u v w)
        ∗ owns (c : Thread nD τ) arg8 fullShare u ∗ owns (c : Thread nD τ) arg9 fullShare v ∗ owns (c : Thread nD τ) arg10 fullShare w) -∗ K ⟨⟩))
      ⊢ wp frame (wpE (defs₀ (F := F)) 𝒱 (c : Thread nD τ) none) E
          (cc0_expert_mlp i arg1 harg1 arg2 harg2 arg3 harg3 arg4 harg4 arg5 harg5 arg6 harg6 arg7 harg7 arg8 harg8 arg9 harg9 arg10 harg10) K := by
  rw [body_eq]
  unfold body
  simp only [smemLoad, smemLoadElt_bind, Prog.bind_ret]
  iintro ⟨H1, H2, H3, H4, H5, H6, H7, H8, H9, H10, Hk⟩
  iapply (word_load 𝒱 c none E (M := arg1)) $$ H1; iintro H1
  iapply (word_load 𝒱 c none E (M := arg1)) $$ H1; iintro H1
  by_cases h : changed i (here be i) (prior be i) = 1#1
  · rw [if_pos h] at hu hv hw
    unfold here prior at h
    simp only [h, ↓reduceDIte, ↓reduceIte, Prog.lift, Prog.bind_op, Prog.bind_ret, Prog.pure_eq_ret]
    iapply (load_all 𝒱 c none E (M := arg4) zero3) $$ H4; iintro H4
    iapply (load_all 𝒱 c none E (M := arg8) zero2) $$ H8; iintro H8
    iapply (store_all 𝒱 c none E (M := arg8) zero2) $$ H8; iintro H8
    iapply (load_all 𝒱 c none E (M := arg5) zero3) $$ H5; iintro H5
    iapply (load_all 𝒱 c none E (M := arg9) zero2) $$ H9; iintro H9
    iapply (store_all 𝒱 c none E (M := arg9) zero2) $$ H9; iintro H9
    iapply (load_all 𝒱 c none E (M := arg6) zero3) $$ H6; iintro H6
    iapply (load_all 𝒱 c none E (M := arg10) zero2) $$ H10; iintro H10
    iapply (store_all 𝒱 c none E (M := arg10) zero2) $$ H10; iintro H10
    rw [← hu, ← hv, ← hw]
    iapply (finish_run i arg2 arg3 arg7 arg8 arg9 arg10 c E q' nu x u v w)
    isplitl [H2]; · iexact H2
    isplitl [H3]; · iexact H3
    isplitl [H7]; · iexact H7
    isplitl [H8]; · iexact H8
    isplitl [H9]; · iexact H9
    isplitl [H10]; · iexact H10
    iintro ⟨H2, H3, H7, H8, H9, H10⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [if_neg h] at hu hv hw
    unfold here prior at h
    simp only [h, ↓reduceDIte, ↓reduceIte, Prog.lift, Prog.bind_op, Prog.bind_ret, Prog.pure_eq_ret]
    rw [← hu, ← hv, ← hw]
    iapply (finish_run i arg2 arg3 arg7 arg8 arg9 arg10 c E q' nu x u v w)
    isplitl [H2]; · iexact H2
    isplitl [H3]; · iexact H3
    isplitl [H7]; · iexact H7
    isplitl [H8]; · iexact H8
    isplitl [H9]; · iexact H9
    isplitl [H10]; · iexact H10
    iintro ⟨H2, H3, H7, H8, H9, H10⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Body

end Cert.Exp

end
-- ==== Proof.Exp.Tables.lean ====
/- The experts' products: what the host computes before the kernel runs, from the number of rows each expert has. -/
module

public import proofs.«01_k».proof.Proof.Gen.Kernel5Ideal.Launch
public import Idealize.ShloMosaic.Lib.Pipeline.FrameBody
public import Idealize.ShloMosaic.Lib.StableHlo.Run
public import Idealize.ShloMosaic.Lib.Routing.Ops
public import Idealize.ShloMosaic.Lib.Tactic

@[expose] public section

set_option maxRecDepth 16384

noncomputable section

namespace Cert.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Cert.Kernel5Ideal Cert.Kernel5Ideal.Gen

variable {F : FTy → Type} [FloatOps F]

/-- The quotient rounded down, of 32 words, -/
def floorDiv32 (x : IVec S32 32) (k : IVec S_ 32) : IVec S32 32 :=
  select (andi (cmpi .ne (signi x) (broadcastInDim S32 ![] bcast_S_S32 (signi k)))
      (cmpi .ne (Host.remsi x (broadcastInDim S32 ![] bcast_S_S32 k)) (broadcastInDim S32 ![] bcast_S_S32 (constantI S_ 32 0#32))))
    (subi (Host.divsi x (broadcastInDim S32 ![] bcast_S_S32 k)) (broadcastInDim S32 ![] bcast_S_S32 (constantI S_ 32 1#32)))
    (Host.divsi x (broadcastInDim S32 ![] bcast_S_S32 k))

/-- and of one. -/
def floorDiv1 (x : IVec S1 32) (k : IVec S_ 32) : IVec S1 32 :=
  select (andi (cmpi .ne (signi x) (broadcastInDim S1 ![] bcast_S_S1 (signi k)))
      (cmpi .ne (Host.remsi x (broadcastInDim S1 ![] bcast_S_S1 k)) (broadcastInDim S1 ![] bcast_S_S1 (constantI S_ 32 0#32))))
    (subi (Host.divsi x (broadcastInDim S1 ![] bcast_S_S1 k)) (broadcastInDim S1 ![] bcast_S_S1 (constantI S_ 32 1#32)))
    (Host.divsi x (broadcastInDim S1 ![] bcast_S_S1 k))

/-- Each expert's rows, rounded up to whole blocks, -/
def padded (n : IVec S32 32) : IVec S32 32 :=
  muli (floorDiv32 (subi (addi n (broadcastInDim S32 ![] bcast_S_S32 (constantI S_ 32 256#32)))
    (broadcastInDim S32 ![] bcast_S_S32 (constantI S_ 32 1#32))) (constantI S_ 32 256#32))
    (broadcastInDim S32 ![] bcast_S_S32 (constantI S_ 32 256#32))

/-- and where they end. -/
def padEnd (n : IVec S32 32) : IVec S32 32 :=
  Host.reduceWindow IntOp.addi ![32] ![1] ![31] ![0] (padded n) (broadcastInDim S_ ![] bcast_S_S_ (constantI S_ 32 0#32))
    reduceWindows_S32_S32_w32s1p31_0 h_S_

/-- The first row of each block. -/
def starts : IVec S96 32 := muli (iotaInDim S96 32 0) (broadcastInDim S96 ![] bcast_S_S96 (constantI S_ 32 256#32))

/-- The expert whose rows each block holds: as many as end at or before its first row, -/
def expertOf (n : IVec S32 32) : IVec S96 32 :=
  minsi (Host.reduce IntOp.addi
    (extui 32 (cmpi .sle (broadcastInDim S96x32 ![0, 1] bcast_S1x32_S96x32_0_1 (broadcastInDim S1x32 ![1] bcast_S32_S1x32_1 (padEnd n)))
      (broadcastInDim S96x32 ![0, 1] bcast_S96x1_S96x32_0_1 (broadcastInDim S96x1 ![0] bcast_S96_S96x1_0 starts))) natLt_1_32)
    (constantI S_ 32 0#32) reducesTo_S96x32_S96_d1 h_S_)
    (broadcastInDim S96 ![] bcast_S_S96 (constantI S_ 32 31#32))

/-- counted among all the layers' experts; -/
def rowOf (n : IVec S32 32) : IVec S96 32 := addi (expertOf n) (broadcastInDim S96 ![] bcast_S_S96 (constantI S_ 32 32#32))

/-- and how many blocks hold rows. -/
def used (n : IVec S32 32) : IVec S1 32 := floorDiv1 (extractStridedSlice S1 ![31] (padEnd n) slices_S32_S1_31) (constantI S_ 32 256#32)

variable (m : (ℓ : Loc nD τ sig) → Buf (Elt F) ℓ)

/-- The host's operations, in the order they run. -/
abbrev hostOpss : List (List (HloOp τ sig (Elt F))) := [hostOps0, hostOps0_1, hostOps0_2, hostOps0_3, hostOps0_4, hostOps0_5]

/-- A core's buffers when the kernel starts. -/
def V (c : Dev nD) (b : Ref sig .tc) : Buf (Elt F) ((c : Thread nD τ).loc b) := StableHlo.after (hostOpss (F := F)).flatten (fun b => m (c, b)) b

theorem hostOps_fresh : (hostOpss (F := F)).Forall fun ops => ops.Forall fun op => op.fresh = ∅ := by
  simp only [List.Forall]; repeat' constructor

theorem hostOps_sub : (hostOpss (F := F)).Forall fun ops => ops.Forall fun op => op.bufs ⊆ StableHlo.tcRefs τ sig :=
  ⟨hostOps0_sub, hostOps0_1_sub, hostOps0_2_sub, hostOps0_3_sub, hostOps0_4_sub, hostOps0_5_sub⟩

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostOpss hostOps_sub hostOps_fresh main_chain

theorem V_main_arg0 (c : Dev nD) : V m c main_arg0 = m ((c : Thread nD τ).loc main_arg0) := by
  unfold V
  simp only [hostOpss, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

theorem V_main_arg1 (c : Dev nD) : V m c main_arg1 = m ((c : Thread nD τ).loc main_arg1) := by
  unfold V
  simp only [hostOpss, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

theorem V_main_arg2 (c : Dev nD) : V m c main_arg2 = m ((c : Thread nD τ).loc main_arg2) := by
  unfold V
  simp only [hostOpss, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

theorem V_main_arg3 (c : Dev nD) : V m c main_arg3 = m ((c : Thread nD τ).loc main_arg3) := by
  unfold V
  simp only [hostOpss, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

theorem V_main_arg4 (c : Dev nD) : V m c main_arg4 = m ((c : Thread nD τ).loc main_arg4) := by
  unfold V
  simp only [hostOpss, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

theorem V_main_v0 (c : Dev nD) : V m c main_v0 = shapeCast S128x2048x512 (m ((c : Thread nD τ).loc main_arg2)) shapeCasts_S4x32x2048x512_S128x2048x512 := by
  unfold V
  simp only [hostOpss, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

theorem V_main_v1 (c : Dev nD) : V m c main_v1 = shapeCast S128x2048x512 (m ((c : Thread nD τ).loc main_arg3)) shapeCasts_S4x32x2048x512_S128x2048x512 := by
  unfold V
  simp only [hostOpss, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

theorem V_main_v2 (c : Dev nD) : V m c main_v2 = shapeCast S128x512x2048 (m ((c : Thread nD τ).loc main_arg4)) shapeCasts_S4x32x512x2048_S128x512x2048 := by
  unfold V
  simp only [hostOpss, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

theorem V_main_v24 (c : Dev nD) : V m c main_v24 = rowOf (m ((c : Thread nD τ).loc main_arg1)) := by
  unfold V
  simp only [hostOpss, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

theorem V_main_v26 (c : Dev nD) : V m c main_v26 = used (m ((c : Thread nD τ).loc main_arg1)) := by
  unfold V
  simp only [hostOpss, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

end Cert.Exp

end
-- ==== Proof.Exp.Frame.lean ====
/- The launch of the experts' products: what the buffers hold from one grid point to the next, the body's obligation,
   the run, and from it the frame. -/
module

public import proofs.«01_k».proof.Proof.Exp.Run
public import proofs.«01_k».proof.Proof.Exp.Tables
public import Idealize.ShloMosaic.Lib.Claim

@[expose] public section

set_option maxRecDepth 16384

noncomputable section

namespace Cert.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-! ## The grid's points -/

theorem point (t : Fin grid0.N) : (grid0.coords t 0).val = t.val :=
  (by decide +kernel : ∀ t : Fin grid0.N, (grid0.coords t 0).val = t.val) t

theorem off1 (t : Fin grid0.N) : k0_off1 (grid0.coords t) = ![t.val] :=
  (by decide +kernel : ∀ t : Fin grid0.N, k0_off1 (grid0.coords t) = ![t.val]) t

theorem off2 (t : Fin grid0.N) : k0_off2 (grid0.coords t) = ![t.val - 1] :=
  (by decide +kernel : ∀ t : Fin grid0.N, k0_off2 (grid0.coords t) = ![t.val - 1]) t

/-- The point before. -/
def pred (t : Fin grid0.N) : Fin grid0.N := ⟨t.val - 1, Nat.lt_of_le_of_lt (Nat.sub_le _ _) t.isLt⟩

theorem prior_eq (be : S96.Idx → Elt F .i32) (t : Fin grid0.N) : prior be (grid0.coords t) = here be (grid0.coords (pred t)) := by
  unfold prior here
  refine congrArg be (funext fun x => Fin.ext ?_)
  exact congrArg (· + 1 * _) (congrFun ((off2 t).trans (off1 (pred t)).symm) x)

/-- Where the scratch buffers are not filled, the expert is the point before's. -/
theorem same_of_unchanged (be : S96.Idx → Elt F .i32) (t : Fin grid0.N) (h : ¬ changed (grid0.coords t) (here be (grid0.coords t)) (prior be (grid0.coords t)) = 1#1) :
    t.val ≠ 0 ∧ here be (grid0.coords t) = here be (grid0.coords (pred t)) := by
  rw [prior_eq] at h
  unfold changed at h
  rw [point] at h
  revert h
  generalize here be (grid0.coords t) = v
  generalize here be (grid0.coords (pred t)) = w
  intro h
  refine ⟨fun h0 => h ?_, by_contra fun hne => h ?_⟩
  · rw [h0]
    simp [Scalar.cmpi, Scalar.extui, Scalar.ori, IntOp.cmpi]
    cases v != w <;> rfl
  · have hb : (v != w) = true := by simpa using hne
    simp [Scalar.cmpi, Scalar.extui, Scalar.ori, IntOp.cmpi, hb]
    cases (BitVec.ofNat 32 t.val == 0#32) <;> rfl

/-! ## The blocks -/

/-- A window's block at a point. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- The points' rows of the weights, as the scratch buffers hold them. -/
def gateAt (c : Dev nD) (t : Fin (cfg0 a).N) : S2048x512.Idx → Elt F .bf16 := k0_pay1 (iblk m a c 1 t)
def upAt (c : Dev nD) (t : Fin (cfg0 a).N) : S2048x512.Idx → Elt F .bf16 := k0_pay2 (iblk m a c 2 t)
def downAt (c : Dev nD) (t : Fin (cfg0 a).N) : S512x2048.Idx → Elt F .bf16 := k0_pay3 (iblk m a c 3 t)

/-- What a point leaves of the result. -/
def outAt (c : Dev nD) (t : Fin (cfg0 a).N) : S256x2048.Idx → Elt F .f32 :=
  outOf (grid0.coords t) (count (a.1 1)) (iblk m a c 0 t) (gateAt m a c t) (upAt m a c t) (downAt m a c t)

theorem read_1 (z : S128x2048x512.Idx → Elt F .f32) (t s : Fin (cfg0 a).N) (h : here (a.1 0) (grid0.coords t) = here (a.1 0) (grid0.coords s)) :
    (((cfg0 a).win 1).blk t).view.read (Elt F) z = (((cfg0 a).win 1).blk s).view.read (Elt F) z := by
  funext x
  refine congrArg z (funext fun d => Fin.ext ?_)
  exact congrArg (fun o : Fin 3 → ℕ => o d * S1x2048x512.size d + 1 * (x d).val) (congrArg (fun v : BitVec 32 => (![v.toNat, 0, 0] : Fin 3 → ℕ)) h)

theorem block_1 (c : Dev nD) (t s : Fin (cfg0 a).N) (h : here (a.1 0) (grid0.coords t) = here (a.1 0) (grid0.coords s)) : iblk m a c 1 t = iblk m a c 1 s :=
  read_1 a _ t s h

theorem read_2 (z : S128x2048x512.Idx → Elt F .f32) (t s : Fin (cfg0 a).N) (h : here (a.1 0) (grid0.coords t) = here (a.1 0) (grid0.coords s)) :
    (((cfg0 a).win 2).blk t).view.read (Elt F) z = (((cfg0 a).win 2).blk s).view.read (Elt F) z := by
  funext x
  refine congrArg z (funext fun d => Fin.ext ?_)
  exact congrArg (fun o : Fin 3 → ℕ => o d * S1x2048x512.size d + 1 * (x d).val) (congrArg (fun v : BitVec 32 => (![v.toNat, 0, 0] : Fin 3 → ℕ)) h)

theorem block_2 (c : Dev nD) (t s : Fin (cfg0 a).N) (h : here (a.1 0) (grid0.coords t) = here (a.1 0) (grid0.coords s)) : iblk m a c 2 t = iblk m a c 2 s :=
  read_2 a _ t s h

theorem read_3 (z : S128x512x2048.Idx → Elt F .f32) (t s : Fin (cfg0 a).N) (h : here (a.1 0) (grid0.coords t) = here (a.1 0) (grid0.coords s)) :
    (((cfg0 a).win 3).blk t).view.read (Elt F) z = (((cfg0 a).win 3).blk s).view.read (Elt F) z := by
  funext x
  refine congrArg z (funext fun d => Fin.ext ?_)
  exact congrArg (fun o : Fin 3 → ℕ => o d * S1x512x2048.size d + 1 * (x d).val) (congrArg (fun v : BitVec 32 => (![v.toNat, 0, 0] : Fin 3 → ℕ)) h)

theorem block_3 (c : Dev nD) (t s : Fin (cfg0 a).N) (h : here (a.1 0) (grid0.coords t) = here (a.1 0) (grid0.coords s)) : iblk m a c 3 t = iblk m a c 3 s :=
  read_3 a _ t s h

/-! ## The proof data -/

/-- What is held between two points: the scratch buffers, at the point before's weights, the generator, and the tables. -/
def between (c : Dev nD) (n : Fin ((cfg0 a).N + 1)) : sProp 𝕄 :=
  iprop((∃ d8, ∃ d9, ∃ d10, ⌜∀ t : Fin (cfg0 a).N, t.val + 1 = n.val → d8 = gateAt m a c t ∧ d9 = upAt m a c t ∧ d10 = downAt m a c t⌝
      ∗ owns (c : Thread nD τ) (Memref.whole cc0_scratch0) fullShare d8 ∗ owns (c : Thread nD τ) (Memref.whole cc0_scratch1) fullShare d9
      ∗ owns (c : Thread nD τ) (Memref.whole cc0_scratch2) fullShare d10)
    ∗ (∃ r, prngReg c r)
    ∗ owns (c : Thread nD τ) (Memref.whole main_v24) fullShare.right (a.1 0) ∗ owns (c : Thread nD τ) (Memref.whole main_v26) fullShare.right (a.1 1))

/-- The tables' contents, of the one launch. -/
abbrev adms : (p : Fin 1) → (pcfgs (F := F) p).Adm := fun _ => a

/-- The pipeline's data. -/
def dats (p : Fin 1) (c : Dev nD) : Dat τ (Elt F) Unit ℕ (UR sig nD τ) ℕ (Pipeline.pin pcfgs (adms a) p) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => outAt m a c t
  Φ n := between m a c n
  q _ := fullShare
  owed _ := 0

theorem A_eq (c : Dev nD) (w : Fin (cfg0 a).W) : (dats m a 0 c).A w = V m c (Pipeline.arrRef spec0 w) := by dsimp only [dats]

theorem after_0 (c : Dev nD) (t) : (dats m a 0 c).after 0 t = iblk m a c 0 t := by dsimp only [dats]; rfl
theorem after_1 (c : Dev nD) (t) : (dats m a 0 c).after 1 t = iblk m a c 1 t := by dsimp only [dats]; rfl
theorem after_2 (c : Dev nD) (t) : (dats m a 0 c).after 2 t = iblk m a c 2 t := by dsimp only [dats]; rfl
theorem after_3 (c : Dev nD) (t) : (dats m a 0 c).after 3 t = iblk m a c 3 t := by dsimp only [dats]; rfl
theorem after_4 (c : Dev nD) (t) : (dats m a 0 c).after 4 t = outAt m a c t := by dsimp only [dats]; rfl

/-- An input's buffer holds its block at every point. -/
theorem before_0 (c : Dev nD) (t d) : (dats m a 0 c).before 0 t d = iblk m a c 0 t :=
  ((dats m a 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t d) : (dats m a 0 c).before 1 t d = iblk m a c 1 t :=
  ((dats m a 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t d) : (dats m a 0 c).before 2 t d = iblk m a c 2 t :=
  ((dats m a 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (c : Dev nD) (t d) : (dats m a 0 c).before 3 t d = iblk m a c 3 t :=
  ((dats m a 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)

/-- The result's buffer is stored at every point. -/
theorem never_idle (t : Fin (cfg0 a).N) : (cfg0 a).idle 4 ((cfg0 a).grid.coords t) = false := by
  show (!(k0_cond2 (grid0.coords t) (a.1.atD 1 ![0]) == 1#1) && !(k0_cond3 (grid0.coords t) (a.1.atD 1 ![0]) == 1#1)) = false
  have h := stores_one (grid0.coords t) (a.1.atD 1 ![0])
  by_cases h2 : k0_cond2 (grid0.coords t) (a.1.atD 1 ![0]) = 1#1
  · rw [h2]; rfl
  · rw [h.mpr h2]
    exact Bool.and_false _

/-! ## The body's obligation -/

/-- A window's buffer at a point. -/
abbrev st (w : Fin (cfg0 a).W) (t : Fin (cfg0 a).N) := ((cfg0 a).win w).stage ((cfg0 a).slots t w)

/-- The scratch buffers and the generator, as the launch takes and returns them, -/
theorem scratch_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d)) ∗ (∃ r, prngReg c r)) := by
  unfold Pipeline.ΦA
  rw [scopedRest0_eq]
  simp only [owns_whole]
  try rfl

/-- and the tables. -/
theorem tables_held (c : Dev nD) : (Pipeline.ΦT pre0 a.1 c : sProp 𝕄)
    = iprop(owns (c : Thread nD τ) (Memref.whole main_v24) fullShare.right (a.1 0) ∗ owns (c : Thread nD τ) (Memref.whole main_v26) fullShare.right (a.1 1)) := by
  unfold Pipeline.ΦT Pipeline.prefHeld
  rw [bigSep_univ_two]
  exact congrArg₂ (fun P Q : sProp 𝕄 => iprop(P ∗ Q)) (owns_whole (c : Thread nD τ) main_v24 fullShare.right (a.1 0)).symm
    (owns_whole (c : Thread nD τ) main_v26 fullShare.right (a.1 1)).symm

/-- What the body is called with at a point, -/
def bodyPre (c : Dev nD) (t : Fin (cfg0 a).N) : sProp 𝕄 :=
  iprop((dats m a 0 c).Φ t.castSucc ∗ (dats m a 0 c).owesAt () t.castSucc
    ∗ (∃ d, owns (c : Thread nD τ) (st a 0 t) fullShare ((dats m a 0 c).before 0 t d))
    ∗ (∃ d, owns (c : Thread nD τ) (st a 1 t) fullShare ((dats m a 0 c).before 1 t d))
    ∗ (∃ d, owns (c : Thread nD τ) (st a 2 t) fullShare ((dats m a 0 c).before 2 t d))
    ∗ (∃ d, owns (c : Thread nD τ) (st a 3 t) fullShare ((dats m a 0 c).before 3 t d))
    ∗ (∃ d, owns (c : Thread nD τ) (st a 4 t) fullShare ((dats m a 0 c).before 4 t d)))

/-- and what it returns. -/
def bodyPost (c : Dev nD) (t : Fin (cfg0 a).N) : sProp 𝕄 :=
  iprop((dats m a 0 c).Φ t.succ ∗ (dats m a 0 c).owesAt () t.succ
    ∗ (dats m a 0 c).leavesExact 0 t
    ∗ (dats m a 0 c).leavesExact 1 t
    ∗ (dats m a 0 c).leavesExact 2 t
    ∗ (dats m a 0 c).leavesExact 3 t
    ∗ (dats m a 0 c).leavesExact 4 t)

theorem leaves_0 (c : Dev nD) (t) : (dats m a 0 c).leavesExact 0 t = owns (c : Thread nD τ) (st a 0 t) fullShare (iblk m a c 0 t) := by
  unfold Dat.leavesExact; rw [show (cfg0 a).idle 0 ((cfg0 a).grid.coords t) = false from rfl, after_0]
theorem leaves_1 (c : Dev nD) (t) : (dats m a 0 c).leavesExact 1 t = owns (c : Thread nD τ) (st a 1 t) fullShare (iblk m a c 1 t) := by
  unfold Dat.leavesExact; rw [show (cfg0 a).idle 1 ((cfg0 a).grid.coords t) = false from rfl, after_1]
theorem leaves_2 (c : Dev nD) (t) : (dats m a 0 c).leavesExact 2 t = owns (c : Thread nD τ) (st a 2 t) fullShare (iblk m a c 2 t) := by
  unfold Dat.leavesExact; rw [show (cfg0 a).idle 2 ((cfg0 a).grid.coords t) = false from rfl, after_2]
theorem leaves_3 (c : Dev nD) (t) : (dats m a 0 c).leavesExact 3 t = owns (c : Thread nD τ) (st a 3 t) fullShare (iblk m a c 3 t) := by
  unfold Dat.leavesExact; rw [show (cfg0 a).idle 3 ((cfg0 a).grid.coords t) = false from rfl, after_3]
theorem leaves_4 (c : Dev nD) (t) : (dats m a 0 c).leavesExact 4 t = owns (c : Thread nD τ) (st a 4 t) fullShare (outAt m a c t) := by
  unfold Dat.leavesExact; rw [never_idle a t, after_4]

/-- The kernel's body at a point, on what the pipeline calls it with. -/
abbrev bodyAt (t : Fin (cfg0 a).N) : Prog (TpuEff nD τ sig (Elt F) Λ₀ .tc) PUnit :=
  defs₀ (F := F) .tc (cfg0 a).body ((cfg0 a).bodyArgs t ((cfg0 a).slots t))

/-- The scratch buffers' weights at a point: filled there, or those of the point before. -/
theorem weights_step (c : Dev nD) (t : Fin (cfg0 a).N) (d8 d9 : S2048x512.Idx → Elt F .bf16) (d10 : S512x2048.Idx → Elt F .bf16)
    (hd : ∀ s : Fin (cfg0 a).N, s.val + 1 = t.castSucc.val → d8 = gateAt m a c s ∧ d9 = upAt m a c s ∧ d10 = downAt m a c s) :
    gateAt m a c t = (if changed (grid0.coords t) (here (a.1 0) (grid0.coords t)) (prior (a.1 0) (grid0.coords t)) = 1#1 then k0_pay1 (iblk m a c 1 t) else d8)
    ∧ upAt m a c t = (if changed (grid0.coords t) (here (a.1 0) (grid0.coords t)) (prior (a.1 0) (grid0.coords t)) = 1#1 then k0_pay2 (iblk m a c 2 t) else d9)
    ∧ downAt m a c t = (if changed (grid0.coords t) (here (a.1 0) (grid0.coords t)) (prior (a.1 0) (grid0.coords t)) = 1#1 then k0_pay3 (iblk m a c 3 t) else d10) := by
  by_cases h : changed (grid0.coords t) (here (a.1 0) (grid0.coords t)) (prior (a.1 0) (grid0.coords t)) = 1#1
  · rw [if_pos h, if_pos h, if_pos h]
    exact ⟨rfl, rfl, rfl⟩
  · rw [if_neg h, if_neg h, if_neg h]
    obtain ⟨h0, he⟩ := same_of_unchanged (a.1 0) t h
    obtain ⟨e8, e9, e10⟩ := hd (pred t) (show t.val - 1 + 1 = t.val by omega)
    rw [e8, e9, e10]
    unfold gateAt upAt downAt
    rw [block_1 m a c t (pred t) he, block_2 m a c t (pred t) he, block_3 m a c t (pred t) he]
    exact ⟨rfl, rfl, rfl⟩

set_option maxHeartbeats 1200000 in
/-- The body at any point. -/
theorem sound_body (c : Dev nD) (t : Fin (cfg0 a).N) :
    bodyPre m a c t ⊢ wp frame (wpE (defs₀ (F := F)) Variants.none (c : Thread nD τ) none) Set.univ (bodyAt a t) (fun _ => bodyPost m a c t) := by
  unfold bodyPre bodyPost
  simp only [before_0, before_1, before_2, before_3]
  rw [show (dats m a 0 c).Φ t.succ = between m a c t.succ from rfl,
    show (dats m a 0 c).owesAt () t.succ = (dats m a 0 c).owesAt () t.castSucc from rfl,
    show (dats m a 0 c).Φ t.castSucc = between m a c t.castSucc from rfl, leaves_0, leaves_1, leaves_2, leaves_3, leaves_4]
  unfold between
  iintro ⟨⟨⟨%d8, %d9, %d10, %hd, HS8, HS9, HS10⟩, Hg, HT, HU⟩, Ho, ⟨%d0, H0⟩, ⟨%d1, H1⟩, ⟨%d2, H2⟩, ⟨%d3, H3⟩, ⟨%d4, H4⟩⟩
  iapply (body_run (grid0.coords t) (Memref.whole main_v24) (Memref.isWhole_whole _) (Memref.whole main_v26) (Memref.isWhole_whole _)
    (st a 0 t) (hstage0_0 (((cfg0 a).slots t 0).cast nbuf0_0)) (st a 1 t) (hstage0_1 (((cfg0 a).slots t 1).cast nbuf0_1))
    (st a 2 t) (hstage0_2 (((cfg0 a).slots t 2).cast nbuf0_2)) (st a 3 t) (hstage0_3 (((cfg0 a).slots t 3).cast nbuf0_3))
    (st a 4 t) (hstage0_4 (((cfg0 a).slots t 4).cast nbuf0_4)) (Memref.whole cc0_scratch0) (Memref.isWhole_whole _)
    (Memref.whole cc0_scratch1) (Memref.isWhole_whole _) (Memref.whole cc0_scratch2) (Memref.isWhole_whole _) c Set.univ fullShare.right fullShare.right (a.1 0) (a.1 1)
    (iblk m a c 0 t) (iblk m a c 1 t) (iblk m a c 2 t) (iblk m a c 3 t) d8 d9 (gateAt m a c t) (upAt m a c t) d10 (downAt m a c t)
    (weights_step m a c t d8 d9 d10 hd).1 (weights_step m a c t d8 d9 d10 hd).2.1 (weights_step m a c t d8 d9 d10 hd).2.2)
  isplitl [HT]; · iexact HT
  isplitl [HU]; · iexact HU
  isplitl [H0]; · iexact H0
  isplitl [H1]; · iexact H1
  isplitl [H2]; · iexact H2
  isplitl [H3]; · iexact H3
  isplitl [H4]; · iexists _; iexact H4
  isplitl [HS8]; · iexact HS8
  isplitl [HS9]; · iexact HS9
  isplitl [HS10]; · iexact HS10
  iintro ⟨HT, HU, H0, H1, H2, H3, H4, HS8, HS9, HS10⟩
  isplitl [HS8 HS9 HS10 Hg HT HU]
  · isplitl [HS8 HS9 HS10]
    · iexists (gateAt m a c t)
      iexists (upAt m a c t)
      iexists (downAt m a c t)
      isplitr
      · ipureintro
        intro s hs
        rw [show s = t from Fin.ext (by have : s.val + 1 = t.val + 1 := hs; omega)]
        exact ⟨rfl, rfl, rfl⟩
      isplitl [HS8]; · iexact HS8
      isplitl [HS9]; · iexact HS9
      iexact HS10
    isplitl [Hg]; · iexact Hg
    isplitl [HT]; · iexact HT
    iexact HU
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m a 0 c) (defs₀ (F := F)) Variants.none () Set.univ := fun t => by
  rw [bigSep_W0, bigSep_W0]
  exact triple_restated (sound_body m a c t) rfl .rfl fun _ => .rfl

/-! ## The run -/

theorem scratch_in (c : Dev nD) : iprop(Pipeline.ΦA spec0 c ∗ Pipeline.ΦT pre0 a.1 c) ⊢ (dats m a 0 c).Φ 0 := by
  rw [scratch_eq, tables_held, show (dats m a 0 c).Φ 0 = between m a c 0 from rfl]
  unfold between
  iintro ⟨⟨⟨⟨%d8, H8⟩, ⟨%d9, H9⟩, ⟨%d10, H10⟩⟩, Hg⟩, HT, HU⟩
  isplitl [H8 H9 H10]
  · iexists d8
    iexists d9
    iexists d10
    isplitr
    · ipureintro
      intro s hs
      exact absurd hs (Nat.succ_ne_zero _)
    isplitl [H8]; · iexact H8
    isplitl [H9]; · iexact H9
    iexact H10
  isplitl [Hg]; · iexact Hg
  isplitl [HT]; · iexact HT
  iexact HU

theorem scratch_out (c : Dev nD) : (dats m a 0 c).Φ (Fin.last (cfg0 a).N) ⊢ (Pipeline.ΦA spec0 c : sProp 𝕄) := by
  rw [scratch_eq, show (dats m a 0 c).Φ (Fin.last (cfg0 a).N) = between m a c (Fin.last (cfg0 a).N) from rfl]
  unfold between
  iintro ⟨⟨%d8, %d9, %d10, -, H8, H9, H10⟩, Hg, -, -⟩
  isplitl [H8 H9 H10]
  · isplitl [H8]
    · iexists d8; iexact H8
    isplitl [H9]
    · iexists d9; iexact H9
    iexists d10; iexact H10
  iexact Hg

set_option backward.isDefEq.respectTransparency.types false in
set_option maxHeartbeats 800000 in
/-- From tables that hold what the host computed, every run ends with every array at what the pipeline's data say and
    every semaphore at zero. -/
theorem run_main (ha : ∀ c k, V m c (pre0.ref k) = a.1 k) : θ_run defs (onTc (τ := τ) (main (F := F))) (s₀ m ρ)
    (fun r => Pipeline.FramePost (Pipeline.pin pcfgs (adms a)) (dats m a) 0 (V m) r ∧ r.2.sem = fun _ => 0) :=
  Pipeline.θ_run_frameP_track pcfgs (adms a) (dats m a) (0 : Fin 1) launch0 defs₀ Variants.none m ρ main
    (hbody := fun c => (body_obligation m a c).loose) (hshare := fun c => (dats m a 0 c).share_full fun _ => rfl)
    (howed := fun _ _ => rfl) (V := V m) (hmain := hmain m Variants.none) (hA := A_eq m a) (hpf := ha)
    (hin := scratch_in m a) (hout := scratch_out m a) (Q' := _)

/-- The run's end: the result at the blocks written, the arguments left as they were, and every semaphore at zero. -/
theorem run_result (ha : ∀ c k, V m c (pre0.ref k) = a.1 k) : θ_run defs (onTc (τ := τ) (main (F := F))) ⟨m, fun _ => 0, ρ⟩ (fun r => (∀ c : Dev nD,
      r.2.mem ((c.tc : Thread nD τ).loc main_v27) = (dats m a 0 c).arrAt 4 (cfg0 a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).1 4,
      ((h.1 c).1 0).trans (((dats m a 0 c).arrAt_in 0 rfl _).trans ((A_eq m a c 0).trans (V_main_arg0 m c))),
      ((h.1 c).2 main_arg1 (Pipeline.mem_restRefs_of main_arg1 (by decide) (show ∀ w : Fin 5, (spec0 w).arr.view.ref ≠ main_arg1 by decide))).trans (V_main_arg1 m c),
      ((h.1 c).2 main_arg2 (Pipeline.mem_restRefs_of main_arg2 (by decide) (show ∀ w : Fin 5, (spec0 w).arr.view.ref ≠ main_arg2 by decide))).trans (V_main_arg2 m c),
      ((h.1 c).2 main_arg3 (Pipeline.mem_restRefs_of main_arg3 (by decide) (show ∀ w : Fin 5, (spec0 w).arr.view.ref ≠ main_arg3 by decide))).trans (V_main_arg3 m c),
      ((h.1 c).2 main_arg4 (Pipeline.mem_restRefs_of main_arg4 (by decide) (show ∀ w : Fin 5, (spec0 w).arr.view.ref ≠ main_arg4 by decide))).trans (V_main_arg4 m c)⟩, h.2⟩) (run_main m ρ a ha)

end Cert.Exp

end
-- ==== Proof.Exp.Words.lean ====
/- The experts' products: which expert's weights each block of rows takes and which blocks hold rows, in numbers. -/
module

public import proofs.«01_k».proof.Proof.Exp.Tables
public import proofs.«01_k».proof.Proof.Gen.Pre_some_rows

@[expose] public section

set_option maxRecDepth 16384

noncomputable section

namespace Cert.Exp

open Idealize.ShloMosaic Idealize.ShloMosaic.Routing Idealize.ShloMosaic.ValueIdx
open Cert.Kernel5Ideal Cert.Kernel5Ideal.Gen

/-- An expert's number is below 32. -/
theorem expertOf_le (n : IVec S32 32) (b : Fin 96) : ∃ k : ℕ, k ≤ 31 ∧ expertOf n (ix1 b) = BitVec.ofNat 32 k := by
  classical
  unfold expertOf
  generalize hm : (cmpi .sle (broadcastInDim S96x32 ![0, 1] bcast_S1x32_S96x32_0_1 (broadcastInDim S1x32 ![1] bcast_S32_S1x32_1 (padEnd n)))
      (broadcastInDim S96x32 ![0, 1] bcast_S96x1_S96x32_0_1 (broadcastInDim S96x1 ![0] bcast_S96_S96x1_0 starts)) : IVec S96x32 1) = msk
  have h := reduce_count (n := 96) (m := 32) (by decide) msk natLt_1_32 reducesTo_S96x32_S96_d1 h_S_ b
    (fun q => ∃ hq : q < 32, msk (ix2 b ⟨q, hq⟩) = 1#1) (fun q => ⟨fun h => ⟨q.isLt, h⟩, fun ⟨_, h⟩ => h⟩)
  have hk := Nat.count_le (fun q => ∃ hq : q < 32, msk (ix2 b ⟨q, hq⟩) = 1#1) (n := 32)
  generalize Nat.count (fun q => ∃ hq : q < 32, msk (ix2 b ⟨q, hq⟩) = 1#1) 32 = k at h hk
  refine ⟨min k 31, Nat.min_le_right _ _, ?_⟩
  show IntOp.minsi (Host.reduce IntOp.addi (extui 32 msk natLt_1_32) (constantI S_ 32 0#32) reducesTo_S96x32_S96_d1 h_S_ (ix1 b)) 31#32 = _
  rw [show Host.reduce IntOp.addi (extui 32 msk natLt_1_32) (constantI S_ 32 0#32) reducesTo_S96x32_S96_d1 h_S_ (ix1 b) = BitVec.ofNat 32 k from h]
  revert hk
  exact (by decide : ∀ k ≤ 32, IntOp.minsi (BitVec.ofNat 32 k) 31#32 = BitVec.ofNat 32 (min k 31)) k

/-- The rows end at a multiple of 256. -/
theorem padEnd_eq (n : IVec S32 32) : ∃ K : ℕ, padEnd n (ix1 31) = BitVec.ofNat 32 (256 * K) := by
  let f : ℕ → ℕ := fun i => 256 * (floorDiv32 (subi (addi n (broadcastInDim S32 ![] bcast_S_S32 (constantI S_ 32 256#32)))
    (broadcastInDim S32 ![] bcast_S_S32 (constantI S_ 32 1#32))) (constantI S_ 32 256#32) (ix1 (Fin.ofNat 32 i))).toNat
  have h := cumsum1 (N := 32) (Nm1 := 31) rfl (padded n) f (fun i => ?_) (broadcastInDim S_ ![] bcast_S_S_ (constantI S_ 32 0#32)) rfl
    reduceWindows_S32_S32_w32s1p31_0 h_S_ 31
  · refine ⟨((List.range 32).map fun i => (floorDiv32 (subi (addi n (broadcastInDim S32 ![] bcast_S_S32 (constantI S_ 32 256#32)))
    (broadcastInDim S32 ![] bcast_S_S32 (constantI S_ 32 1#32))) (constantI S_ 32 256#32) (ix1 (Fin.ofNat 32 i))).toNat).sum, h.trans ?_⟩
    exact congrArg (BitVec.ofNat 32) (List.sum_map_mul_left _ _ _)
  · have hi : (Fin.ofNat 32 i.val : Fin 32) = i := Fin.ext (Nat.mod_eq_of_lt i.isLt)
    simp only [f, hi]
    show floorDiv32 _ _ (ix1 i) * 256#32 = _
    apply BitVec.eq_of_toNat_eq
    simp [Nat.mul_comm]

theorem padEnd_toInt (n : IVec S32 32) : ∃ k : ℤ, (padEnd n (ix1 31)).toInt = 256 * k := by
  obtain ⟨K, h⟩ := padEnd_eq n
  refine ⟨Int.bmod K 16777216, ?_⟩
  rw [h, BitVec.toInt_eq_toNat_bmod, BitVec.toNat_ofNat, Int.bmod_def, Int.bmod_def]
  split <;> split <;> omega

/-- The quotient by 256, rounded down, of one word. -/
def quot (p : BitVec 32) : BitVec 32 := floorDiv1 (fun _ => p) (constantI S_ 32 256#32) (ix1 0)

/-- It is exact where the word is a multiple. -/
theorem quot_toInt (p : BitVec 32) (k : ℤ) (h : p.toInt = 256 * k) : (quot p).toInt = k := by
  have hr : IntOp.remsi .host p 256#32 = 0#32 := by
    rw [IntOp.remsi_of_pos _ (by decide)]
    apply BitVec.eq_of_toInt_eq
    rw [BitVec.toInt_srem, h]
    show Int.tmod (256 * k) 256 = 0
    exact Int.mul_tmod_right _ _
  have hq : quot p = IntOp.divsi .host p 256#32 := by
    have hz : ∀ c : BitVec 1, ¬ IntOp.andi c (IntOp.cmpi .ne 0#32 0#32) = 1#1 := by decide
    show (if IntOp.andi _ (IntOp.cmpi .ne (IntOp.remsi .host p 256#32) 0#32) = 1#1 then _ else _) = _
    rw [hr]
    exact if_neg (hz _)
  rw [hq, show IntOp.divsi .host p 256#32 = p.sdiv 256#32 from if_neg (IntOp.not_corner_of_pos (by decide)), BitVec.toInt_sdiv, h,
    show (256#32).toInt = 256 from rfl, Int.mul_tdiv_cancel_left _ (by decide), Int.bmod_def]
  have h1 := BitVec.le_toInt p
  have h2 := BitVec.toInt_lt (x := p)
  rw [h] at h1 h2
  norm_num at h1 h2 ⊢
  split <;> omega

theorem one_idx (j : S1.Idx) : j = ix1 0 := by
  funext d
  obtain rfl : d = 0 := Subsingleton.elim (α := Fin 1) _ _
  exact Fin.ext (Nat.lt_one_iff.mp (j 0).isLt)

/-- Where the last expert's rows end. -/
theorem last_eq (n : IVec S32 32) (j : S1.Idx) : extractStridedSlice S1 ![31] (padEnd n) slices_S32_S1_31 j = padEnd n (ix1 31) := by
  rw [one_idx j]
  refine congrArg (padEnd n) (funext fun d => Fin.ext ?_)
  obtain rfl : d = 0 := Subsingleton.elim (α := Fin 1) _ _
  rfl

theorem used_eq (n : IVec S32 32) : used n (ix1 0) = quot (padEnd n (ix1 31)) := by
  unfold used quot
  rw [show extractStridedSlice S1 ![31] (padEnd n) slices_S32_S1_31 = fun _ => padEnd n (ix1 31) from funext (last_eq n)]

/-- The blocks that hold rows are those that start before the rows end. -/
theorem holds_iff (n : IVec S32 32) (b : Fin 96) :
    IntOp.cmpi .slt (BitVec.ofNat 32 b.val) (used n (ix1 0)) = IntOp.cmpi .slt (BitVec.ofNat 32 b.val * 256#32) (padEnd n (ix1 31)) := by
  obtain ⟨k, hk⟩ := padEnd_toInt n
  have hq := quot_toInt _ k hk
  rw [← used_eq] at hq
  have hb : (BitVec.ofNat 32 b.val).toInt = b.val := by revert b; decide
  have hb' : (BitVec.ofNat 32 b.val * 256#32).toInt = 256 * b.val := by revert b; decide
  show BitVec.ofBool (BitVec.slt _ _) = BitVec.ofBool (BitVec.slt _ _)
  refine congrArg _ ?_
  rw [BitVec.slt, BitVec.slt, hb, hb', hk, hq]
  exact decide_eq_decide.mpr (by omega)

variable {F : FTy → Type} [FloatOps F]

/-- Where the precondition holds, some block holds rows. -/
theorem used_pos (x0 : FVec F S24576x2048 .f32) (n : IVec S32 32) (x2 x3 : FVec F S4x32x2048x512 .f32) (x4 : FVec F S4x32x512x2048 .f32)
    (h : Cert.Pre_some_rows.fn (F := F) x0 n x2 x3 x4 = fun _ => 1#1) : 1 ≤ (used n (ix1 0)).toInt := by
  have h0 : IntOp.cmpi .sgt (quot (padEnd n (ix1 31))) 0#32 = 1#1 := by
    have e : shapeCast S_ (extractStridedSlice S1 ![31] (padEnd n) slices_S32_S1_31) Cert.Pre_some_rows.Gen.shapeCasts_S1_S_ ix0 = padEnd n (ix1 31) := last_eq n _
    rw [← congrFun h ix0, ← e]
    rfl
  rw [used_eq]
  have h1 : BitVec.ofBool (BitVec.slt 0#32 (quot (padEnd n (ix1 31)))) = 1#1 := h0
  rw [BitVec.slt] at h1
  by_contra hc
  rw [decide_eq_false (by rw [BitVec.toInt_zero]; omega)] at h1
  exact absurd h1 (by decide)

end Cert.Exp

end
-- ==== Proof.Exp.Launch.lean ====
/- The experts' products from a launch whose counts give some block rows: the tables the host computes are ones the
   kernel's index maps stay inside the arrays for, and so the run, and the frame. -/
module

public import proofs.«01_k».proof.Proof.Exp.Frame
public import proofs.«01_k».proof.Proof.Exp.Words
public import Idealize.ShloMosaic.Lib.WordArith

@[expose] public section

set_option maxRecDepth 16384

noncomputable section

namespace Cert.Exp

open Idealize.ShloMosaic Idealize.ShloMosaic.TcCoe Idealize.ShloMosaic.Routing Idealize.ShloMosaic.ValueIdx
open Idealize.SL.Sem
open Cert.Kernel5Ideal Cert.Kernel5Ideal.Gen

variable {F : FTy → Type} [FloatOps F]

theorem here_eq (be : S96.Idx → Elt F .i32) (i : grid0.Coords) : here be i = be (ix1 (i 0)) := by
  unfold here
  refine congrArg be (funext fun d => Fin.ext ?_)
  obtain rfl : d = 0 := Subsingleton.elim (α := Fin 1) _ _
  show (BitVec.ofNat 32 (i 0).val).toNat + 1 * 0 = (i 0).val
  have h : (i 0).val < 96 := (i 0).isLt
  rw [BitVec.toNat_ofNat]
  omega

theorem count_eq (nu : S1.Idx → Elt F .i32) : count nu = nu (ix1 0) := congrArg nu (one_idx _)

/-- A block's row of the weights, -/
theorem rowOf_toNat (n : IVec S32 32) (b : Fin 96) : (rowOf n (ix1 b)).toNat = (expertOf n (ix1 b)).toNat + 32 ∧ (expertOf n (ix1 b)).toNat ≤ 31 := by
  obtain ⟨k, hk, h⟩ := expertOf_le n b
  have e : rowOf n (ix1 b) = expertOf n (ix1 b) + 32#32 := rfl
  rw [e, h, BitVec.toNat_add, BitVec.toNat_ofNat, BitVec.toNat_ofNat]
  omega

/-- and its rows. -/
theorem block_row (b : Fin 96) (v : BitVec 32) (h : 1 ≤ v.toInt) :
    (Scalar.minsi (BitVec.ofNat 32 b.val) (Scalar.subi v 1#32)).toNat = min b.val (v.toNat - 1) := by
  have hv := v.isLt
  have hp : 1 ≤ v.toNat ∧ v.toNat < 2 ^ 31 := by
    rw [BitVec.toInt_eq_toNat_cond] at h
    split at h <;> omega
  have e : (v - 1#32).toNat = v.toNat - 1 := by
    rw [BitVec.toNat_sub, BitVec.toNat_ofNat]
    omega
  have hb : (BitVec.ofNat 32 b.val).toNat = b.val := by
    rw [BitVec.toNat_ofNat]
    omega
  refine (WordArith.toNat_minsi_of_lt (BitVec.ofNat 32 b.val) (v - 1#32) (by omega) (by omega)).trans ?_
  rw [e, hb]

variable (m : (ℓ : Loc nD τ sig) → Buf (Elt F) ℓ) (ρ : Dev nD → PrngReg)

/-- The number of rows of each expert, of a launch. -/
abbrev counts (c : Dev nD) : IVec S32 32 := m ((c : Thread nD τ).loc main_arg1)

/-- The tables the host computes. -/
def tables (c : Dev nD) : pre0.Contents (Elt F) := fun k => V m c (pre0.ref k)

theorem tables_0 (c : Dev nD) : tables m c 0 = rowOf (counts m c) := V_main_v24 m c
theorem tables_1 (c : Dev nD) : tables m c 1 = used (counts m c) := V_main_v26 m c

/-- What an iteration reads of each. -/
theorem here_tables (c : Dev nD) (i : grid0.Coords) : here (F := F) (tables m c 0) i = rowOf (counts m c) (ix1 (i 0)) :=
  (here_eq _ i).trans (congrFun (tables_0 m c) _)

theorem count_tables (c : Dev nD) : count (F := F) (tables m c 1) = used (counts m c) (ix1 0) :=
  (count_eq _).trans (congrFun (tables_1 m c) _)

theorem ok (c : Dev nD) (h : 1 ≤ (used (counts m c) (ix1 0)).toInt) : ok0 (tables m c) := by
  have hw : ∀ i : grid0.Coords, (here (F := F) (tables m c 0) i).toNat ≤ 63 := fun i => by
    rw [here_tables]
    have := rowOf_toNat (counts m c) (i 0)
    omega
  refine ⟨fun i => ⟨?_, .inl rfl⟩, fun i => ⟨?_, .inl rfl⟩, fun i => ⟨?_, .inl rfl⟩, fun i => ⟨?_, .inl rfl⟩⟩
  · show ∀ d : Fin 2, ((![(Scalar.minsi (BitVec.ofNat 32 (i 0).val) (Scalar.subi (count (tables m c 1)) 1#32)).toNat, 0] : Fin 2 → ℕ) d + 1) * S256x2048.size d ≤ S24576x2048.size d
    have hr : (Scalar.minsi (BitVec.ofNat 32 (i 0).val) (Scalar.subi (count (F := F) (tables m c 1)) 1#32)).toNat ≤ (i 0).val := by
      rw [count_tables]
      exact (block_row (i 0) _ h).trans_le (min_le_left _ _)
    have hi : (i 0).val < 96 := (i 0).isLt
    intro d
    fin_cases d
    · show ((Scalar.minsi (BitVec.ofNat 32 (i 0).val) (Scalar.subi (count (F := F) (tables m c 1)) 1#32)).toNat + 1) * 256 ≤ 24576
      omega
    · show (0 + 1) * 2048 ≤ 2048
      omega
  all_goals
    have hi := hw i
    intro d
    fin_cases d
    · show ((here (F := F) (tables m c 0) i).toNat + 1) * 1 ≤ 128
      omega
    · show (0 + 1) * _ ≤ _
      decide
    · show (0 + 1) * _ ≤ _
      decide

/-- The tables, as ones the kernel takes. -/
def adm (h : ∀ c : Dev nD, 1 ≤ (used (counts m c) (ix1 0)).toInt) : (pcfg0 (F := F)).Adm := ⟨tables m 0, ok m 0 (h 0)⟩

/-- The run from such a launch. -/
theorem run (h : ∀ c : Dev nD, 1 ≤ (used (counts m c) (ix1 0)).toInt) : θ_run defs (onTc (τ := τ) (main (F := F))) ⟨m, fun _ => 0, ρ⟩ (fun r => (∀ c : Dev nD,
      r.2.mem ((c.tc : Thread nD τ).loc main_v27) = (dats m (adm m h) 0 c).arrAt 4 (cfg0 (adm m h)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  run_result m ρ (adm m h) fun c k => by
    obtain rfl : c = 0 := Subsingleton.elim (α := Fin 1) _ _
    rfl

/-- The frame: the arguments are left as they were, and every semaphore at zero. -/
theorem frame (h : ∀ c : Dev nD, 1 ≤ (used (counts m c) (ix1 0)).toInt) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (run m ρ h)

end Cert.Exp

end
-- ==== Proof.Exp.Same.lean ====
/- The kernel over its own words and the kernel over the reals are one text: the tables of bodies agree, and so do the two lists of operations. -/
module

public import proofs.«01_k».proof.Proof.Gen.Kernel5.Launch
public import proofs.«01_k».proof.Proof.Exp.Launch
public import proofs.«01_k».proof.Defs

@[expose] public section

set_option maxRecDepth 16384

noncomputable section

namespace Cert.Exp

open Idealize.ShloMosaic Idealize.ShloMosaic.TcCoe Idealize.SL.Sem

/-- The kernels have one text, before and after the reading over the reals: so have their bodies' tables, -/
theorem tables_same : Cert.Kernel5.defs₀ (F := Bits) = Cert.Kernel5Ideal.defs₀ (F := Bits) := by
  refine congrArg Defs.onTc (funext fun l => funext fun a => ?_)
  match l, a with
  | ⟨0, _⟩, (t, s) => rfl
  | ⟨n + 1, h⟩, _ => exact absurd h (Nat.not_lt.2 (Nat.le_add_left _ _))

set_option maxHeartbeats 4000000 in
theorem defs_same : Cert.Kernel5.defs (F := Bits) = Cert.Kernel5Ideal.defs (F := Bits) := congrArg (Pipeline.defs Cert.Kernel5Ideal.pcfgs) tables_same

/-- the operations before the call, list by list, -/
theorem ops0_same : Cert.Kernel5.Gen.hostOps0 (F := Bits) = Cert.Kernel5Ideal.Gen.hostOps0 (F := Bits) := rfl

theorem ops1_same : Cert.Kernel5.Gen.hostOps0_1 (F := Bits) = Cert.Kernel5Ideal.Gen.hostOps0_1 (F := Bits) := rfl

theorem ops2_same : Cert.Kernel5.Gen.hostOps0_2 (F := Bits) = Cert.Kernel5Ideal.Gen.hostOps0_2 (F := Bits) := rfl

theorem ops3_same : Cert.Kernel5.Gen.hostOps0_3 (F := Bits) = Cert.Kernel5Ideal.Gen.hostOps0_3 (F := Bits) := rfl

theorem ops4_same : Cert.Kernel5.Gen.hostOps0_4 (F := Bits) = Cert.Kernel5Ideal.Gen.hostOps0_4 (F := Bits) := rfl

theorem ops5_same : Cert.Kernel5.Gen.hostOps0_5 (F := Bits) = Cert.Kernel5Ideal.Gen.hostOps0_5 (F := Bits) := rfl

open Cert.Kernel5Ideal in
/-- The program that six lists of operations and the call make. -/
abbrev launched (a0 a1 a2 a3 a4 a5 : List (HloOp τ sig (Elt Bits))) :
    Prog (TpuEff nD τ sig (Elt Bits) (Pipeline.Sig Λ₀ (Fin 1) fun p => (pcfgs (F := Bits) p).Adm) .tc) PUnit :=
  Pipeline.chain [StableHlo.seq a0, StableHlo.seq a1, StableHlo.seq a2, StableHlo.seq a3, StableHlo.seq a4, StableHlo.seq a5,
    Prog.lift (.customCall (Pipeline.entry 0) ())]

set_option maxHeartbeats 1000000 in
theorem main_launched (c : Dev Cert.Kernel5.nD) : Cert.Kernel5.main (F := Bits) c =
    launched Cert.Kernel5.Gen.hostOps0 Cert.Kernel5.Gen.hostOps0_1 Cert.Kernel5.Gen.hostOps0_2 Cert.Kernel5.Gen.hostOps0_3
      Cert.Kernel5.Gen.hostOps0_4 Cert.Kernel5.Gen.hostOps0_5 := Cert.Kernel5.Gen.main_chain c

theorem launched_congr {a0 a1 a2 a3 a4 a5 b0 b1 b2 b3 b4 b5 : List (HloOp Cert.Kernel5Ideal.τ Cert.Kernel5Ideal.sig (Elt Bits))}
    (h0 : a0 = b0) (h1 : a1 = b1) (h2 : a2 = b2) (h3 : a3 = b3) (h4 : a4 = b4) (h5 : a5 = b5) :
    launched a0 a1 a2 a3 a4 a5 = launched b0 b1 b2 b3 b4 b5 := by
  subst h0 h1 h2 h3 h4 h5
  rfl

set_option maxHeartbeats 1000000 in
/-- and so the two programs. -/
theorem main_same (c : Dev Cert.Kernel5.nD) : Cert.Kernel5.main (F := Bits) c = Cert.Kernel5Ideal.main (F := Bits) c :=
  (main_launched c).trans ((launched_congr ops0_same ops1_same ops2_same ops3_same ops4_same ops5_same).trans (Cert.Kernel5Ideal.Gen.main_chain c).symm)

end Cert.Exp

end
-- ==== Proof.Exp.Reference.lean ====
/- The reference's result over the reals, entry by entry: a block's rows through its expert's three matrices where the block
   holds rows, and zero elsewhere. -/
module

public import proofs.«01_k».proof.Proof.Exp.Words
public import proofs.«01_k».proof.Proof.Gen.Reference5Ideal.Run
public import Idealize.ShloMosaic.Lib.Pointwise

@[expose] public section

set_option maxRecDepth 16384

noncomputable section

namespace Cert.Exp

open Idealize.ShloMosaic Idealize.ShloMosaic.TcCoe
open Idealize.SL.Sem
open Cert.Reference5Ideal Cert.Reference5Ideal.Gen

/-! ## A table's members, one to a block -/

/-- The dimension numbers of a stack's members taken by their numbers. -/
abbrev memberDims (N P Q n : ℕ) (wf : GatherDims.WF ⟨3, ![N, P, Q]⟩ ⟨2, ![n, 1]⟩ ⟨3, ![n, P, Q]⟩ [1, 2] [0] [] [0] [] 1 ![1, P, Q]) :
    GatherDims ⟨3, ![N, P, Q]⟩ ⟨2, ![n, 1]⟩ ⟨3, ![n, P, Q]⟩ where
  offsetDims := [1, 2]
  collapsedSliceDims := [0]
  operandBatchingDims := []
  startIndicesBatchingDims := []
  startIndexMap := [0]
  indexVectorDim := 1
  sliceSizes := ![1, P, Q]
  wf := wf

/-- An entry of such a member. -/
theorem member_at {α : Type} {N P Q n : ℕ} (wf) (x : (⟨3, ![N, P, Q]⟩ : Shape).Idx → α) (idx : IVec ⟨2, ![n, 1]⟩ 32) (b : Fin n) (i : Fin P) (j : Fin Q)
    (e : Fin N) (he : idx (ix2 b 0) = BitVec.ofNat 32 e.val) (hN : N < 2 ^ 31) :
    Host.gather (memberDims N P Q n wf) x idx (ix3 b i j) = x (ix3 e i j) := by
  unfold Host.gather
  refine congrArg x (funext fun d => Fin.ext ?_)
  show (memberDims N P Q n wf).start (ix3 b i j) idx d + (memberDims N P Q n wf).batchCoord (ix3 b i j) d + (memberDims N P Q n wf).offCoord (ix3 b i j) d = _
  rw [GatherDims.batchCoord_eq_zero _ _ _ List.not_mem_nil]
  match d with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 3) ∈ (memberDims N P Q n wf).startIndexMap from List.mem_singleton.mpr rfl)]
    have hsi : (memberDims N P Q n wf).siIdx (ix3 b i j) ⟨List.idxOf (0 : Fin 3) (memberDims N P Q n wf).startIndexMap,
        List.idxOf_lt_length_iff.2 (List.mem_singleton.mpr rfl)⟩ = ix2 b 0 := by
      funext k; refine Fin.ext ?_
      match k with
      | ⟨0, _⟩ => rfl
      | ⟨1, _⟩ => rfl
    refine (congrArg (fun w : BitVec 32 => min w.toInt.toNat (N - 1)) ((congrArg idx hsi).trans he)).trans ?_
    have := e.isLt
    show min (BitVec.ofNat 32 e.val).toInt.toNat (N - 1) = e.val
    rw [BitVec.toInt_eq_toNat_bmod, BitVec.toNat_ofNat, Int.bmod_def]
    omega
  | ⟨1, _⟩ =>
    have hk : (1 : Fin 3) ∈ (memberDims N P Q n wf).sKept := (GatherDims.mem_sKept _ _).2 ⟨show ¬ (1 : Fin 3) ∈ [(0 : Fin 3)] by decide, List.not_mem_nil⟩
    have hs : (memberDims N P Q n wf).start (ix3 b i j) idx 1 = 0 := dif_neg (show ¬ (1 : Fin 3) ∈ [(0 : Fin 3)] by decide)
    have ho : (memberDims N P Q n wf).offCoord (ix3 b i j) 1 = (ix3 e i j 1).val := dif_pos hk
    refine (congrArg₂ (fun u v => u + 0 + v) hs ho).trans ?_
    exact Nat.zero_add _
  | ⟨2, _⟩ =>
    have hk : (2 : Fin 3) ∈ (memberDims N P Q n wf).sKept := (GatherDims.mem_sKept _ _).2 ⟨show ¬ (2 : Fin 3) ∈ [(0 : Fin 3)] by decide, List.not_mem_nil⟩
    have hs : (memberDims N P Q n wf).start (ix3 b i j) idx 2 = 0 := dif_neg (show ¬ (2 : Fin 3) ∈ [(0 : Fin 3)] by decide)
    have ho : (memberDims N P Q n wf).offCoord (ix3 b i j) 2 = (ix3 e i j 2).val := dif_pos hk
    refine (congrArg₂ (fun u v => u + 0 + v) hs ho).trans ?_
    exact Nat.zero_add _

/-! ## One layer's weights -/

/-- The odd layers' experts' weights, in and out. -/
def layerIn (w : FVec Ideal S4x32x2048x512 .f32) : FVec Ideal S32x2048x512 .f32 :=
  shapeCast _ (extractStridedSlice S1x32x2048x512 ![1, 0, 0, 0] w slices_S4x32x2048x512_S1x32x2048x512_1_0_0_0) shapeCasts_S1x32x2048x512_S32x2048x512
def layerOut (w : FVec Ideal S4x32x512x2048 .f32) : FVec Ideal S32x512x2048 .f32 :=
  shapeCast _ (extractStridedSlice S1x32x512x2048 ![1, 0, 0, 0] w slices_S4x32x512x2048_S1x32x512x2048_1_0_0_0) shapeCasts_S1x32x512x2048_S32x512x2048

/-- A reshaped array's entry, found by its position. -/
theorem cast_at {s t : Shape} {α : Type} (x : s.Idx → α) (h : s.ShapeCasts t) (j : t.Idx) (i : s.Idx) (e : (s.rowMajor i : ℕ) = t.rowMajor j) :
    shapeCast t x h j = x i := congrArg x (Shape.reshapeEquiv_eq_of_rowMajor h e)

theorem layerIn_at (w : FVec Ideal S4x32x2048x512 .f32) (e : Fin 32) (i : Fin 2048) (j : Fin 512) : layerIn w (ix3 e i j) = w (ix4 1 e i j) := by
  unfold layerIn
  refine (cast_at _ _ _ (ix4 0 e i j) ?_).trans (congrArg w (funext fun d => Fin.ext ?_))
  · rw [Idealize.ShloMosaic.rowMajor_val4 _ 33554432 1048576 512 rfl rfl rfl, Idealize.ShloMosaic.rowMajor_val3 _ 1048576 512 rfl rfl]
    show 0 * 33554432 + e.val * 1048576 + i.val * 512 + j.val = e.val * 1048576 + i.val * 512 + j.val
    omega
  · match d with
    | ⟨0, _⟩ => rfl
    | ⟨1, _⟩ => exact Nat.zero_add _
    | ⟨2, _⟩ => exact Nat.zero_add _
    | ⟨3, _⟩ => exact Nat.zero_add _

theorem layerOut_at (w : FVec Ideal S4x32x512x2048 .f32) (e : Fin 32) (i : Fin 512) (j : Fin 2048) : layerOut w (ix3 e i j) = w (ix4 1 e i j) := by
  unfold layerOut
  refine (cast_at _ _ _ (ix4 0 e i j) ?_).trans (congrArg w (funext fun d => Fin.ext ?_))
  · rw [Idealize.ShloMosaic.rowMajor_val4 _ 33554432 1048576 2048 rfl rfl rfl, Idealize.ShloMosaic.rowMajor_val3 _ 1048576 2048 rfl rfl]
    show 0 * 33554432 + e.val * 1048576 + i.val * 2048 + j.val = e.val * 1048576 + i.val * 2048 + j.val
    omega
  · match d with
    | ⟨0, _⟩ => rfl
    | ⟨1, _⟩ => exact Nat.zero_add _
    | ⟨2, _⟩ => exact Nat.zero_add _
    | ⟨3, _⟩ => exact Nat.zero_add _

/-! ## The products -/

theorem dotIn_at (x : FVec Ideal S96x256x2048 .f32) (w : FVec Ideal S96x2048x512 .f32) (b : Fin 96) (i : Fin 256) (k : Fin 512) :
    Host.dotGeneral dot_S96x256x2048_S96x2048x512_S96x256x512_2_1_1_2_0_0 none x w (ix3 b i k) = ∑ h : Fin 2048, x (ix3 b i h) * w (ix3 b h k) := by
  pointwise

theorem dotOut_at (x : FVec Ideal S96x256x512 .f32) (w : FVec Ideal S96x512x2048 .f32) (b : Fin 96) (i : Fin 256) (q : Fin 2048) :
    Host.dotGeneral dot_S96x256x512_S96x512x2048_S96x256x2048_2_1_1_2_0_0 none x w (ix3 b i q) = ∑ k : Fin 512, x (ix3 b i k) * w (ix3 b k q) := by
  pointwise

/-! ## The stages -/

/-- The expert of each block, as the reference takes its weights by. -/
abbrev byBlock (n : IVec S32 32) : IVec S96x1 32 := broadcastInDim S96x1 ![0] bcast_S96_S96x1_0 (expertOf n)

/-- A block's rows through a matrix of its expert's, -/
def inner (x : FVec Ideal S24576x2048 .f32) (n : IVec S32 32) (w : FVec Ideal S4x32x2048x512 .f32) : FVec Ideal S96x256x512 .f32 :=
  Host.dotGeneral dot_S96x256x2048_S96x2048x512_S96x256x512_2_1_1_2_0_0 none (shapeCast _ x shapeCasts_S24576x2048_S96x256x2048)
    (Host.gather gather_S32x2048x512_S96x1_S96x2048x512_12_0_n_n_0_1_12048512 (layerIn w) (byBlock n))

/-- two such products, the one gating the other, -/
def gated (g u : FVec Ideal S96x256x512 .f32) : FVec Ideal S96x256x512 .f32 :=
  mulf (mulf g (Host.divf (broadcastInDim S96x256x512 ![] bcast_S_S96x256x512 (constant S_ .f32 0x3F800000#32))
    (addf (broadcastInDim S96x256x512 ![] bcast_S_S96x256x512 (constant S_ .f32 0x3F800000#32)) (Host.exp (Host.negf g))))) u

/-- which blocks hold rows, -/
def holds (n : IVec S32 32) : IVec S96x256x2048 1 :=
  broadcastInDim S96x256x2048 ![0, 1, 2] bcast_S96x1x1_S96x256x2048_0_1_2
    (cmpi .slt (broadcastInDim S96x1x1 ![0] bcast_S96_S96x1x1_0 starts)
      (broadcastInDim S96x1x1 ![] bcast_S_S96x1x1 (shapeCast _ (extractStridedSlice S1 ![31] (padEnd n) slices_S32_S1_31) shapeCasts_S1_S_)))

/-- and the result. -/
def expected (x : FVec Ideal S24576x2048 .f32) (n : IVec S32 32) (wg wu : FVec Ideal S4x32x2048x512 .f32) (wd : FVec Ideal S4x32x512x2048 .f32) :
    FVec Ideal S24576x2048 .f32 :=
  shapeCast _ (select (holds n)
    (Host.dotGeneral dot_S96x256x512_S96x512x2048_S96x256x2048_2_1_1_2_0_0 none (gated (inner x n wg) (inner x n wu))
      (Host.gather gather_S32x512x2048_S96x1_S96x512x2048_12_0_n_n_0_1_15122048 (layerOut wd) (byBlock n)))
    (broadcastInDim S96x256x2048 ![] bcast_S_S96x256x2048 (id (constant S_ .f32 0x00000000#32)))) shapeCasts_S96x256x2048_S24576x2048

/-- The reference's run ends at it. -/
theorem result_eq (m : (ℓ : Loc nD τ sig) → Buf (Elt Ideal) ℓ) (c : Dev nD) :
    Cert.Reference5Ideal.Value.res_main_v41 m c = expected (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## Its entries -/

/-- A block's expert, -/
def expert (n : IVec S32 32) (b : Fin 96) : Fin 32 := ⟨(expertOf n (ValueIdx.ix1 b)).toNat, by
  obtain ⟨k, hk, h⟩ := expertOf_le n b
  have e : expertOf n (ValueIdx.ix1 b) = BitVec.ofNat 32 k := h
  rw [e, BitVec.toNat_ofNat]
  omega⟩

theorem byBlock_at (n : IVec S32 32) (b : Fin 96) : byBlock n (ix2 b 0) = BitVec.ofNat 32 (expert n b).val := by
  have e : byBlock n (ix2 b 0) = expertOf n (ValueIdx.ix1 b) := by
    refine congrArg (expertOf n) (funext fun d => ?_)
    obtain rfl : d = 0 := Subsingleton.elim (α := Fin 1) _ _
    rfl
  rw [e]
  exact ((BitVec.ofNat_toNat 32 (expertOf n (ValueIdx.ix1 b))).trans (BitVec.setWidth_eq _)).symm

/-- the row of the arrays that a row of a block is, -/
abbrev row (b : Fin 96) (i : Fin 256) : Fin 24576 := ⟨b.val * 256 + i.val, by omega⟩

/-- a row's product with a matrix of an expert's, -/
def product (x : FVec Ideal S24576x2048 .f32) (w : FVec Ideal S4x32x2048x512 .f32) (e : Fin 32) (r : Fin 24576) (k : Fin 512) : Ideal .f32 :=
  ∑ h : Fin 2048, x (ix2 r h) * w (ix4 1 e h k)

/-- and what the expert makes of it. -/
def mlp (x : FVec Ideal S24576x2048 .f32) (wg wu : FVec Ideal S4x32x2048x512 .f32) (wd : FVec Ideal S4x32x512x2048 .f32) (e : Fin 32) (r : Fin 24576) (q : Fin 2048) :
    Ideal .f32 :=
  ∑ k : Fin 512, product x wg e r k * Ideal.logistic (product x wg e r k) * product x wu e r k * wd (ix4 1 e k q)

theorem rows_at (x : FVec Ideal S24576x2048 .f32) (b : Fin 96) (i : Fin 256) (h : Fin 2048) :
    shapeCast S96x256x2048 x shapeCasts_S24576x2048_S96x256x2048 (ix3 b i h) = x (ix2 (row b i) h) := by
  refine cast_at _ _ _ _ ?_
  rw [Idealize.ShloMosaic.rowMajor_val2 _ 2048 rfl, Idealize.ShloMosaic.rowMajor_val3 _ 524288 2048 rfl rfl]
  show (b.val * 256 + i.val) * 2048 + h.val = b.val * 524288 + i.val * 2048 + h.val
  omega

theorem inner_at (x : FVec Ideal S24576x2048 .f32) (n : IVec S32 32) (w : FVec Ideal S4x32x2048x512 .f32) (b : Fin 96) (i : Fin 256) (k : Fin 512) :
    inner x n w (ix3 b i k) = product x w (expert n b) (row b i) k := by
  unfold inner product
  rw [dotIn_at]
  refine Finset.sum_congr rfl fun h _ => ?_
  rw [rows_at]
  refine congrArg _ ((member_at _ _ _ _ _ _ _ (byBlock_at n b) (by decide)).trans (layerIn_at w _ _ _))

theorem one_at (j : S96x256x512.Idx) : broadcastInDim S96x256x512 ![] bcast_S_S96x256x512 (constant (F := Ideal) S_ .f32 0x3F800000#32) j = (1 : Ideal .f32) := by
  pointwise

theorem gated_at (g u : FVec Ideal S96x256x512 .f32) (j : S96x256x512.Idx) : gated g u j = g j * Ideal.logistic (g j) * u j := by
  show g j * Ideal.div (broadcastInDim S96x256x512 ![] bcast_S_S96x256x512 (constant (F := Ideal) S_ .f32 0x3F800000#32) j)
    (broadcastInDim S96x256x512 ![] bcast_S_S96x256x512 (constant (F := Ideal) S_ .f32 0x3F800000#32) j + Ideal.exp (-(g j))) * u j = _
  rw [one_at]
  rfl

theorem holds_at (n : IVec S32 32) (b : Fin 96) (i : Fin 256) (q : Fin 2048) :
    holds n (ix3 b i q) = IntOp.cmpi .slt (BitVec.ofNat 32 b.val * 256#32) (padEnd n (ValueIdx.ix1 31)) := by
  have e : shapeCast S_ (extractStridedSlice S1 ![31] (padEnd n) slices_S32_S1_31) shapeCasts_S1_S_ ValueIdx.ix0 = padEnd n (ValueIdx.ix1 31) := last_eq n _
  refine Eq.trans ?_ (congrArg (IntOp.cmpi .slt (BitVec.ofNat 32 b.val * 256#32)) e)
  rfl

/-- An entry of the reference's result. -/
theorem expected_at (x : FVec Ideal S24576x2048 .f32) (n : IVec S32 32) (wg wu : FVec Ideal S4x32x2048x512 .f32) (wd : FVec Ideal S4x32x512x2048 .f32)
    (b : Fin 96) (i : Fin 256) (q : Fin 2048) : expected x n wg wu wd (ix2 (row b i) q)
      = if IntOp.cmpi .slt (BitVec.ofNat 32 b.val * 256#32) (padEnd n (ValueIdx.ix1 31)) = 1#1 then mlp x wg wu wd (expert n b) (row b i) q else (0 : Ideal .f32) := by
  unfold expected
  refine (cast_at _ _ _ (ix3 b i q) ?_).trans ?_
  · rw [Idealize.ShloMosaic.rowMajor_val2 _ 2048 rfl, Idealize.ShloMosaic.rowMajor_val3 _ 524288 2048 rfl rfl]
    show b.val * 524288 + i.val * 2048 + q.val = (b.val * 256 + i.val) * 2048 + q.val
    omega
  · unfold select Scalar.select
    rw [holds_at]
    refine if_congr Iff.rfl ?_ ?_
    · rw [dotOut_at]
      unfold mlp
      refine Finset.sum_congr rfl fun k _ => ?_
      rw [gated_at, inner_at, inner_at]
      exact congrArg _ ((member_at _ _ _ _ _ _ _ (byBlock_at n b) (by decide)).trans (layerOut_at wd _ _ _))
    · show constant (F := Ideal) S_ .f32 0x00000000#32 ValueIdx.ix0 = _
      pointwise

end Cert.Exp

end
-- ==== Proof.Exp.Value.lean ====
/- The experts' products over the reals: the run's result is the reference's. -/
module

public import proofs.«01_k».proof.Proof.Exp.Launch
public import proofs.«01_k».proof.Proof.Exp.Reference
public import Idealize.ShloMosaic.Lib.Pipeline.ValueKit

@[expose] public section

set_option maxRecDepth 16384

noncomputable section

namespace Cert.Exp

open Idealize.ShloMosaic Idealize.ShloMosaic.TcCoe
open Idealize.SL.Sem
open Idealize.ShloMosaic.Pipeline (Dat Window)
open Cert.Kernel5Ideal Cert.Kernel5Ideal.Gen

/-! ## What the body computes -/

/-- A block is computed where its number is below the number of those that hold rows. -/
theorem computes_iff (i : grid0.Coords) (n : BitVec 32) : k0_cond2 i n = 1#1 ↔ IntOp.cmpi .slt (BitVec.ofNat 32 (i 0).val) n = 1#1 := by
  show Scalar.cmpi .ne (Scalar.extui (IntOp.cmpi .slt (BitVec.ofNat 32 (i 0).val) n) : BitVec 32) 0#32 = 1#1 ↔ _
  generalize IntOp.cmpi .slt (BitVec.ofNat 32 (i 0).val) n = v
  revert v
  decide

theorem pay1_at (v : Vec Ideal S1x2048x512 .f32) (h : Fin 2048) (k : Fin 512) : k0_pay1 v (ix2 h k) = v (ix3 0 h k) := by
  pointwise [k0_pay1]

theorem pay2_at (v : Vec Ideal S1x2048x512 .f32) (h : Fin 2048) (k : Fin 512) : k0_pay2 v (ix2 h k) = v (ix3 0 h k) := by
  pointwise [k0_pay2]

theorem pay3_at (v : Vec Ideal S1x512x2048 .f32) (k : Fin 512) (q : Fin 2048) : k0_pay3 v (ix2 k q) = v (ix3 0 k q) := by
  pointwise [k0_pay3]

theorem pay4_at (x : Vec Ideal S256x2048 .f32) (u v : Vec Ideal S2048x512 .bf16) (w : Vec Ideal S512x2048 .bf16) (i : Fin 256) (q : Fin 2048) :
    k0_pay4 x u v w (ix2 i q) = ∑ k : Fin 512, (∑ h : Fin 2048, x (ix2 i h) * u (ix2 h k)) * Ideal.logistic (∑ h : Fin 2048, x (ix2 i h) * u (ix2 h k))
      * (∑ h : Fin 2048, x (ix2 i h) * v (ix2 h k)) * w (ix2 k q) := by
  pointwise [k0_pay4]

/-- A row through an expert's three matrices, given where the row and the matrices are from. -/
theorem pay4_of (x : Vec Ideal S256x2048 .f32) (u v : Vec Ideal S2048x512 .bf16) (w : Vec Ideal S512x2048 .bf16) (X : FVec Ideal S24576x2048 .f32)
    (wg wu : FVec Ideal S4x32x2048x512 .f32) (wd : FVec Ideal S4x32x512x2048 .f32) (e : Fin 32) (r : Fin 24576) (i : Fin 256) (q : Fin 2048)
    (hx : ∀ h : Fin 2048, x (ix2 i h) = X (ix2 r h)) (hu : ∀ (h : Fin 2048) (k : Fin 512), u (ix2 h k) = wg (ix4 1 e h k))
    (hv : ∀ (h : Fin 2048) (k : Fin 512), v (ix2 h k) = wu (ix4 1 e h k)) (hw : ∀ k : Fin 512, w (ix2 k q) = wd (ix4 1 e k q)) :
    k0_pay4 x u v w (ix2 i q) = mlp X wg wu wd e r q := by
  rw [pay4_at]
  unfold mlp product
  simp only [hx, hu, hv, hw]

theorem pay5_at (j : S256x2048.Idx) : k0_pay5 (F := Ideal) j = (0 : Ideal .f32) := by
  pointwise [k0_pay5]

/-! ## The blocks -/

section Blocks

variable (a : (pcfg0 (F := Ideal)).Adm)

/-- A point's block number. -/
abbrev num (t : Fin (cfg0 a).N) : Fin 96 := ⟨t.val, lt_of_lt_of_eq t.isLt (show grid0.N = 96 by decide)⟩

theorem rows_read (z : S24576x2048.Idx → Elt Ideal .f32) (t : Fin (cfg0 a).N) (i : Fin 256) (h : Fin 2048)
    (hb : (Scalar.minsi (BitVec.ofNat 32 (grid0.coords t 0).val) (Scalar.subi (count (F := Ideal) (a.1 1)) 1#32)).toNat = t.val) :
    (((cfg0 a).win 0).blk t).view.read (Elt Ideal) z (ix2 i h) = z (ix2 (row (num a t) i) h) := by
  refine congrArg z (funext fun d => Fin.ext ?_)
  refine (congrArg (fun v : ℕ => (![v, 0] : Fin 2 → ℕ) d * S256x2048.size d + 1 * (ix2 i h d).val) hb).trans ?_
  match d with
  | ⟨0, _⟩ => show t.val * 256 + 1 * i.val = t.val * 256 + i.val; omega
  | ⟨1, _⟩ => show 0 * 2048 + 1 * h.val = h.val; omega

theorem gate_read (z : S128x2048x512.Idx → Elt Ideal .f32) (t : Fin (cfg0 a).N) (e : Fin 128) (h : Fin 2048) (k : Fin 512)
    (he : (here (F := Ideal) (a.1 0) (grid0.coords t)).toNat = e.val) : (((cfg0 a).win 1).blk t).view.read (Elt Ideal) z (ix3 0 h k) = z (ix3 e h k) := by
  refine congrArg z (funext fun d => Fin.ext ?_)
  refine (congrArg (fun v : ℕ => (![v, 0, 0] : Fin 3 → ℕ) d * S1x2048x512.size d + 1 * (ix3 (0 : Fin 1) h k d).val) he).trans ?_
  match d with
  | ⟨0, _⟩ => show e.val * 1 + 1 * 0 = e.val; omega
  | ⟨1, _⟩ => show 0 * 2048 + 1 * h.val = h.val; omega
  | ⟨2, _⟩ => show 0 * 512 + 1 * k.val = k.val; omega

theorem up_read (z : S128x2048x512.Idx → Elt Ideal .f32) (t : Fin (cfg0 a).N) (e : Fin 128) (h : Fin 2048) (k : Fin 512)
    (he : (here (F := Ideal) (a.1 0) (grid0.coords t)).toNat = e.val) : (((cfg0 a).win 2).blk t).view.read (Elt Ideal) z (ix3 0 h k) = z (ix3 e h k) := by
  refine congrArg z (funext fun d => Fin.ext ?_)
  refine (congrArg (fun v : ℕ => (![v, 0, 0] : Fin 3 → ℕ) d * S1x2048x512.size d + 1 * (ix3 (0 : Fin 1) h k d).val) he).trans ?_
  match d with
  | ⟨0, _⟩ => show e.val * 1 + 1 * 0 = e.val; omega
  | ⟨1, _⟩ => show 0 * 2048 + 1 * h.val = h.val; omega
  | ⟨2, _⟩ => show 0 * 512 + 1 * k.val = k.val; omega

theorem down_read (z : S128x512x2048.Idx → Elt Ideal .f32) (t : Fin (cfg0 a).N) (e : Fin 128) (k : Fin 512) (q : Fin 2048)
    (he : (here (F := Ideal) (a.1 0) (grid0.coords t)).toNat = e.val) : (((cfg0 a).win 3).blk t).view.read (Elt Ideal) z (ix3 0 k q) = z (ix3 e k q) := by
  refine congrArg z (funext fun d => Fin.ext ?_)
  refine (congrArg (fun v : ℕ => (![v, 0, 0] : Fin 3 → ℕ) d * S1x512x2048.size d + 1 * (ix3 (0 : Fin 1) k q d).val) he).trans ?_
  match d with
  | ⟨0, _⟩ => show e.val * 1 + 1 * 0 = e.val; omega
  | ⟨1, _⟩ => show 0 * 512 + 1 * k.val = k.val; omega
  | ⟨2, _⟩ => show 0 * 2048 + 1 * q.val = q.val; omega

theorem idx4 (t : Fin grid0.N) : cc0_transform_4 (grid0.coords t) = ![t.val, 0] :=
  (by decide +kernel : ∀ t : Fin grid0.N, cc0_transform_4 (grid0.coords t) = ![t.val, 0]) t

theorem result_emb (t : Fin (cfg0 a).N) (i : Fin 256) (q : Fin 2048) : (((cfg0 a).win 4).blk t).view.emb (ix2 i q) = ix2 (row (num a t) i) q := by
  refine funext fun d => Fin.ext ?_
  refine (congrArg (fun v : Fin 2 → ℕ => v d * S256x2048.size d + 1 * (ix2 i q d).val) (idx4 t)).trans ?_
  match d with
  | ⟨0, _⟩ => show t.val * 256 + 1 * i.val = t.val * 256 + i.val; omega
  | ⟨1, _⟩ => show 0 * 2048 + 1 * q.val = q.val; omega

/-- Every point's block is written back, -/
theorem flush4 (t : Fin (cfg0 a).N) : ((cfg0 a).win 4).flush t = true :=
  (Window.flush_eq_flushOf ((cfg0 a).win 4) t).trans ((by decide +kernel : ∀ t : Fin grid0.N, Window.flushOf grid0 true cc0_transform_4 t = true) t)

/-- and the blocks are the whole result. -/
theorem covers4 : ((cfg0 a).win 4).Covers := by
  refine ⟨fun d => ?_, fun β => ⟨⟨(β (0 : Fin 2)).val, ?_⟩, flush4 a _, fun d => ⟨?_, .inl rfl⟩⟩⟩
  · match d with
    | ⟨0, _⟩ => exact (by decide : 0 < 256)
    | ⟨1, _⟩ => exact (by decide : 0 < 2048)
  · exact lt_of_lt_of_eq (β (0 : Fin 2)).isLt (show (24576 + 256 - 1) / 256 = grid0.N by decide)
  · refine (congrFun (idx4 ⟨(β (0 : Fin 2)).val, _⟩) d).trans ?_
    match d with
    | ⟨0, _⟩ => rfl
    | ⟨1, _⟩ => exact (Nat.lt_one_iff.1 (lt_of_lt_of_eq (β (1 : Fin 2)).isLt (show (2048 + 2048 - 1) / 2048 = 1 by decide))).symm

end Blocks

/-! ## The weights the kernel is given -/

/-- An odd layer's expert's row of the stacks of all the layers' experts. -/
abbrev stackRow (e : Fin 32) : Fin 128 := ⟨e.val + 32, by omega⟩

theorem stackIn_at (w : FVec Ideal S4x32x2048x512 .f32) (e : Fin 32) (h : Fin 2048) (k : Fin 512) :
    shapeCast S128x2048x512 w shapeCasts_S4x32x2048x512_S128x2048x512 (ix3 (stackRow e) h k) = w (ix4 1 e h k) := by
  refine cast_at _ _ _ _ ?_
  rw [Idealize.ShloMosaic.rowMajor_val4 _ 33554432 1048576 512 rfl rfl rfl, Idealize.ShloMosaic.rowMajor_val3 _ 1048576 512 rfl rfl]
  show 1 * 33554432 + e.val * 1048576 + h.val * 512 + k.val = (e.val + 32) * 1048576 + h.val * 512 + k.val
  omega

theorem stackOut_at (w : FVec Ideal S4x32x512x2048 .f32) (e : Fin 32) (k : Fin 512) (q : Fin 2048) :
    shapeCast S128x512x2048 w shapeCasts_S4x32x512x2048_S128x512x2048 (ix3 (stackRow e) k q) = w (ix4 1 e k q) := by
  refine cast_at _ _ _ _ ?_
  rw [Idealize.ShloMosaic.rowMajor_val4 _ 33554432 1048576 2048 rfl rfl rfl, Idealize.ShloMosaic.rowMajor_val3 _ 1048576 2048 rfl rfl]
  show 1 * 33554432 + e.val * 1048576 + k.val * 2048 + q.val = (e.val + 32) * 1048576 + k.val * 2048 + q.val
  omega

/-! ## The result -/

variable (m : (ℓ : Loc nD τ sig) → Buf (Elt Ideal) ℓ) (hp : ∀ c : Dev nD, 1 ≤ (used (counts m c) (ValueIdx.ix1 0)).toInt)

/-- The reference's result, over the kernel's arguments. -/
abbrev Expected (c : Dev nD) : FVec Ideal S24576x2048 .f32 :=
  expected (m ((c : Thread nD τ).loc main_arg0)) (counts m c) (m ((c : Thread nD τ).loc main_arg2)) (m ((c : Thread nD τ).loc main_arg3))
    (m ((c : Thread nD τ).loc main_arg4))

/-- A point's row of the weights is its block's expert's. -/
theorem here_at (c : Dev nD) (t : Fin (cfg0 (adm m hp)).N) :
    (here (F := Ideal) ((adm m hp).1 0) (grid0.coords t)).toNat = (stackRow (expert (counts m c) (num (adm m hp) t))).val := by
  obtain rfl : c = 0 := Subsingleton.elim (α := Fin 1) _ _
  have e : here (F := Ideal) ((adm m hp).1 0) (grid0.coords t) = rowOf (counts m 0) (ValueIdx.ix1 (num (adm m hp) t)) :=
    (here_tables m 0 (grid0.coords t)).trans (congrArg (fun b : Fin 96 => rowOf (counts m 0) (ValueIdx.ix1 b)) (Fin.ext (point t)))
  rw [e]
  exact (rowOf_toNat (counts m 0) (num (adm m hp) t)).1

theorem count_at (c : Dev nD) : count (F := Ideal) ((adm m hp).1 1) = used (counts m c) (ValueIdx.ix1 0) := by
  obtain rfl : c = 0 := Subsingleton.elim (α := Fin 1) _ _
  exact count_tables m 0

/-- The three matrices at a point, -/
theorem gate_at (c : Dev nD) (t : Fin (cfg0 (adm m hp)).N) (h : Fin 2048) (k : Fin 512) :
    gateAt m (adm m hp) c t (ix2 h k) = m ((c : Thread nD τ).loc main_arg2) (ix4 1 (expert (counts m c) (num (adm m hp) t)) h k) := by
  unfold gateAt
  refine (pay1_at _ _ _).trans ((gate_read (adm m hp) _ t _ h k (here_at m hp c t)).trans ?_)
  exact (congrFun (V_main_v0 m c) _).trans (stackIn_at _ _ h k)

theorem up_at (c : Dev nD) (t : Fin (cfg0 (adm m hp)).N) (h : Fin 2048) (k : Fin 512) :
    upAt m (adm m hp) c t (ix2 h k) = m ((c : Thread nD τ).loc main_arg3) (ix4 1 (expert (counts m c) (num (adm m hp) t)) h k) := by
  unfold upAt
  refine (pay2_at _ _ _).trans ((up_read (adm m hp) _ t _ h k (here_at m hp c t)).trans ?_)
  exact (congrFun (V_main_v1 m c) _).trans (stackIn_at _ _ h k)

theorem down_at (c : Dev nD) (t : Fin (cfg0 (adm m hp)).N) (k : Fin 512) (q : Fin 2048) :
    downAt m (adm m hp) c t (ix2 k q) = m ((c : Thread nD τ).loc main_arg4) (ix4 1 (expert (counts m c) (num (adm m hp) t)) k q) := by
  unfold downAt
  refine (pay3_at _ _ _).trans ((down_read (adm m hp) _ t _ k q (here_at m hp c t)).trans ?_)
  exact (congrFun (V_main_v2 m c) _).trans (stackOut_at _ _ k q)

/-- and its rows, where it is computed. -/
theorem rows_of (c : Dev nD) (t : Fin (cfg0 (adm m hp)).N) (i : Fin 256) (h : Fin 2048)
    (hc : IntOp.cmpi .slt (BitVec.ofNat 32 t.val) (used (counts m c) (ValueIdx.ix1 0)) = 1#1) :
    iblk m (adm m hp) c 0 t (ix2 i h) = m ((c : Thread nD τ).loc main_arg0) (ix2 (row (num (adm m hp) t) i) h) := by
  refine (rows_read (adm m hp) _ t i h ?_).trans (congrFun (V_main_arg0 m c) _)
  rw [count_at m hp c, point]
  refine (block_row (num (adm m hp) t) _ (hp c)).trans (min_eq_left ?_)
  have hl := IntOp.cmpi_slt.1 hc
  have ht := (num (adm m hp) t).isLt
  have e : (BitVec.ofNat 32 t.val).toInt = t.val := by
    rw [BitVec.toInt_eq_toNat_bmod, BitVec.toNat_ofNat, Int.bmod_def]
    have : t.val < 96 := ht
    omega
  rw [e, BitVec.toInt_eq_toNat_cond] at hl
  show t.val ≤ _
  have hu := (used (counts m c) (ValueIdx.ix1 0)).isLt
  split at hl <;> omega

/-- What a point leaves is the reference's, at its rows. -/
theorem out_at (c : Dev nD) (t : Fin (cfg0 (adm m hp)).N) (i : Fin 256) (q : Fin 2048) :
    outAt m (adm m hp) c t (ix2 i q) = Expected m c (ix2 (row (num (adm m hp) t) i) q) := by
  refine Eq.trans ?_ (expected_at _ _ _ _ _ (num (adm m hp) t) i q).symm
  unfold outAt outOf
  rw [count_at m hp c]
  have hk : k0_cond2 (grid0.coords t) (used (counts m c) (ValueIdx.ix1 0)) = 1#1
      ↔ IntOp.cmpi .slt (BitVec.ofNat 32 t.val) (used (counts m c) (ValueIdx.ix1 0)) = 1#1 := by
    rw [computes_iff, point]
  have hh : IntOp.cmpi .slt (BitVec.ofNat 32 t.val) (used (counts m c) (ValueIdx.ix1 0)) = IntOp.cmpi .slt (BitVec.ofNat 32 t.val * 256#32) (padEnd (counts m c) (ValueIdx.ix1 31)) :=
    holds_iff (counts m c) (num (adm m hp) t)
  by_cases hc : IntOp.cmpi .slt (BitVec.ofNat 32 t.val) (used (counts m c) (ValueIdx.ix1 0)) = 1#1
  · rw [if_pos (hk.2 hc), if_pos (hh.symm.trans hc)]
    exact pay4_of _ _ _ _ _ _ _ _ _ _ i q (fun h => rows_of m hp c t i h hc) (fun h k => gate_at m hp c t h k) (fun h k => up_at m hp c t h k)
      (fun k => down_at m hp c t k q)
  · rw [if_neg (fun h => hc (hk.1 h)), if_neg (fun h => hc (hh.trans h))]
    exact pay5_at _

/-- What is written back at a point is the reference's. -/
theorem written (c : Dev nD) (t : Fin (cfg0 (adm m hp)).N) (y : S256x2048.Idx) :
    outAt m (adm m hp) c t y = Expected m c ((((cfg0 (adm m hp)).win 4).blk t).view.emb y) := by
  obtain ⟨i, q, rfl⟩ : ∃ (i : Fin 256) (q : Fin 2048), y = ix2 i q := ⟨y 0, y 1, ValueIdx.eq_ix2 y⟩
  exact (out_at m hp c t i q).trans (congrArg (Expected m c) (result_emb (adm m hp) t i q)).symm

/-- The result's array after the run. -/
theorem final (c : Dev nD) : (dats m (adm m hp) 0 c).arrAt 4 (cfg0 (adm m hp)).N = Expected m c := by
  refine (dats m (adm m hp) 0 c).arrAt_eq_of_covers 4 _ (covers4 (adm m hp)) (fun t _ y => ?_) (Memref.isWhole_whole _)
  refine Eq.trans ?_ (written m hp c t y)
  rw [after_4]
  refine (cast_eq _ _).trans ?_
  rfl

end Cert.Exp

end
-- ==== Proof.Exp.Claims.lean ====
/- The claims about the experts' products, one by one. -/
module

public import proofs.«01_k».proof.Defs
public import proofs.«01_k».proof.Proof.Gen.Kernel5
public import proofs.«01_k».proof.Proof.Exp.Same
public import proofs.«01_k».proof.Proof.Exp.Value
public import Idealize.ShloMosaic.Lib.Claim

@[expose] public section

noncomputable section

namespace Cert.Exp

open Idealize.ShloMosaic Idealize.ShloMosaic.TcCoe Idealize.SL.Sem

set_option maxRecDepth 16384 in
set_option maxHeartbeats 1000000 in
/-- The kernel is the one over any float values, at its own words: so is its frame. -/
theorem quiet_kernel : @Cert.quiescent_Kernel5 Cert.Kernel5.Gen.facts Cert.Pre_some_rows.Gen.facts := by
  intro m g h
  rw [defs_same, funext main_same]
  exact frame (F := Bits) m g fun c => used_pos _ _ _ _ _ (h c)

theorem quiet_ideal : @Cert.quiescent_Kernel5Ideal Cert.Kernel5Ideal.Gen.facts Cert.Pre_some_rows.Gen.facts := fun m g h =>
  frame m g fun c => used_pos _ _ _ _ _ (h c)

theorem quiet_reference : @Cert.quiescent_Reference5Ideal Cert.Reference5Ideal.Gen.facts := by
  intro m g _
  exact (θ_run _ _ _).mono (fun r h => ⟨fun c => (h c).2, sem_eq_zero_of_no_sems (by decide) r.2⟩) (Cert.Reference5Ideal.Value.run m g)

theorem quiet_reference_pre : @Cert.quiescent_Reference5Ideal_pre_some_rows Cert.Reference5Ideal.Gen.facts Cert.Pre_some_rows.Gen.facts :=
  fun m g _ => quiet_reference m g trivial

theorem preserved : Cert.preserves_Kernel5_Kernel5Ideal := trivial

theorem same_result : @Cert.algebraic_Kernel5Ideal_Reference5Ideal Cert.Kernel5Ideal.Gen.facts Cert.Reference5Ideal.Gen.facts Cert.Pre_some_rows.Gen.facts := by
  intro m g m' g' hpre hagree
  have hp : ∀ c : Dev Cert.Kernel5Ideal.nD, 1 ≤ (used (counts m c) (ValueIdx.ix1 0)).toInt := fun c => used_pos _ _ _ _ _ (hpre c)
  refine ⟨fun c => Expected m c, ?_, ?_⟩
  · exact (θ_run _ _ _).mono (fun r h c => ⟨(h.1 c).1.trans (final m hp c), (h.1 c).2⟩) (run m g hp)
  · refine (θ_run _ _ _).mono (fun r h c => ⟨(h c).1.trans ?_, (h c).2⟩) (Cert.Reference5Ideal.Value.run m' g')
    obtain ⟨h0, h1, h2, h3, h4⟩ := hagree c
    rw [result_eq, h0, h1, h2, h3, h4]

end Cert.Exp

end
-- ==== Proof.Mod.Reference.lean ====
/- The modulation as the reference computes it, entry by entry: the activated condition times a layer's weights, plus its offsets. -/
module

public import proofs.«01_k».proof.Proof.Gen.Reference6Ideal.Run
public import Idealize.ShloMosaic.Lib.Pointwise

@[expose] public section

noncomputable section

namespace Cert.Mod

open Idealize.ShloMosaic Idealize.ShloMosaic.TcCoe
open Idealize.SL.Sem
open Cert.Reference6Ideal Cert.Reference6Ideal.Gen

/-- The condition, activated. -/
def active (C : FVec Ideal S1x2048 .f32) : FVec Ideal S1x2048 .f32 :=
  mulf C (Host.divf (broadcastInDim S1x2048 ![] bcast_S_S1x2048 (constant S_ .f32 0x3F800000#32))
    (addf (broadcastInDim S1x2048 ![] bcast_S_S1x2048 (constant S_ .f32 0x3F800000#32)) (Host.exp (Host.negf C))))

/-- The modulation of every layer. -/
def modulation (C : FVec Ideal S1x2048 .f32) (W : FVec Ideal S4x2048x12288 .f32) (B : FVec Ideal S4x12288 .f32) : FVec Ideal S4x1x12288 .f32 :=
  addf (transpose S4x1x12288 [1, 0, 2] (Host.dotGeneral dot_S1x2048_S4x2048x12288_S1x4x12288_1_1_0_02_n_n none (active C) W)
    transposes_S1x4x12288_S4x1x12288_1_0_2) (broadcastInDim S4x1x12288 ![0, 2] bcast_S4x12288_S4x1x12288_0_2 B)

/-- One term of an entry's sum: that of the condition's number `r`, nothing past the last. -/
def term (C : FVec Ideal S1x2048 .f32) (W : FVec Ideal S4x2048x12288 .f32) (l : Fin 4) (n : Fin 12288) (r : ℕ) : Ideal .f32 :=
  if h : r < 2048 then C (ix2 0 ⟨r, h⟩) * Ideal.logistic (C (ix2 0 ⟨r, h⟩)) * W (ix3 l ⟨r, h⟩ n) else 0

theorem term_of (C : FVec Ideal S1x2048 .f32) (W : FVec Ideal S4x2048x12288 .f32) (l : Fin 4) (n : Fin 12288) {r : ℕ} (h : r < 2048) :
    term C W l n r = C (ix2 0 ⟨r, h⟩) * Ideal.logistic (C (ix2 0 ⟨r, h⟩)) * W (ix3 l ⟨r, h⟩ n) := by
  unfold term
  exact dif_pos h

theorem one_at (j : S1x2048.Idx) : broadcastInDim S1x2048 ![] bcast_S_S1x2048 (constant (F := Ideal) S_ .f32 0x3F800000#32) j = (1 : EReal) := by
  show constant (F := Ideal) S_ .f32 0x3F800000#32 ValueIdx.ix0 = _
  pointwise

theorem active_at (C : FVec Ideal S1x2048 .f32) (j : S1x2048.Idx) : active C j = C j * Ideal.logistic (C j) := by
  show C j * Ideal.div (broadcastInDim S1x2048 ![] bcast_S_S1x2048 (constant (F := Ideal) S_ .f32 0x3F800000#32) j)
    (broadcastInDim S1x2048 ![] bcast_S_S1x2048 (constant (F := Ideal) S_ .f32 0x3F800000#32) j + Ideal.exp (-(C j))) = _
  rw [one_at]
  rfl

theorem product_at (C : FVec Ideal S1x2048 .f32) (W : FVec Ideal S4x2048x12288 .f32) (B : FVec Ideal S4x12288 .f32) (l : Fin 4) (n : Fin 12288) :
    addf (transpose S4x1x12288 [1, 0, 2] (Host.dotGeneral dot_S1x2048_S4x2048x12288_S1x4x12288_1_1_0_02_n_n none C W)
      transposes_S1x4x12288_S4x1x12288_1_0_2) (broadcastInDim S4x1x12288 ![0, 2] bcast_S4x12288_S4x1x12288_0_2 B) (ix3 l 0 n)
      = (∑ r : Fin 2048, C (ix2 0 r) * W (ix3 l r n)) + B (ix2 l n) := by
  pointwise

/-- An entry of the modulation is the sum of its terms and the layer's offset. -/
theorem modulation_at (C : FVec Ideal S1x2048 .f32) (W : FVec Ideal S4x2048x12288 .f32) (B : FVec Ideal S4x12288 .f32) (l : Fin 4) (n : Fin 12288) :
    modulation C W B (ix3 l 0 n) = (∑ r ∈ Finset.range 2048, term C W l n r) + B (ix2 l n) := by
  unfold modulation
  rw [product_at, Finset.sum_range]
  refine congrArg (· + B (ix2 l n)) (Finset.sum_congr rfl fun r _ => ?_)
  rw [active_at]
  exact (term_of C W l n r.isLt).symm

end Cert.Mod

end
-- ==== Proof.Mod.Value.lean ====
/- The modulation over the reals: the kernel's sums, taken 64 rows at a time in eight interleaved parts, are the reference's. -/
module

public import proofs.«01_k».proof.Proof.Gen.Kernel6Ideal.Value
public import proofs.«01_k».proof.Proof.Mod.Reference
public import Idealize.ShloMosaic.Lib.Pipeline.ValueKit

@[expose] public section

set_option maxRecDepth 16384

noncomputable section

namespace Cert.Mod

open Idealize.ShloMosaic Idealize.ShloMosaic.TcCoe Idealize.SL.Sem
open Idealize.ShloMosaic.Pipeline (Dat)
open Cert.Kernel6Ideal Cert.Kernel6Ideal.Gen

/-! ## One trip of the loop -/

/-- What a trip carries on: its 64 numbers of the condition times its 64 rows of the weights, added to what it was handed. -/
theorem trip_eq (𝒱 : Variants) (c : Dev nD) (bd : Option 𝒱.V) (i : grid0.Coords) (arg2 : Memref sig .tc .vmem S2048x1 .f32) (harg2 : arg2.IsWhole)
    (arg3 : Memref sig .tc .vmem S1x2048x1024 .f32) (harg3 : arg3.IsWhole) (arg4 : Memref sig .tc .vmem S1x1x1024 .f32) (harg4 : arg4.IsWhole)
    (arg5 : Memref sig .tc .vmem S1x1x1024 .f32) (harg5 : arg5.IsWhole) (x : Vec Ideal S2048x1 .f32) (w : Vec Ideal S1x2048x1024 .f32)
    (k : Fin k0_t1_loop.trips) (acc : FVec Ideal S8x1024 .f32) :
    tripR_k0_t1 (F := Ideal) 𝒱 c bd i arg2 harg2 arg3 harg3 arg4 harg4 arg5 harg5 (harg2.unread x) (harg3.unread w) k acc
      = k0_pay2 acc (fun y => x ((Rect.unit (s := S2048x1) (k0_off1 k) S64x1.size (k0_off1_inb k)).emb y))
        (fun y => w ((Rect.unit (s := S1x2048x1024) (k0_off2 k) S1x64x1024.size (k0_off2_inb k)).emb y)) := by
  unfold tripR_k0_t1 trip_k0_t1
  refine congrArg₂ (k0_pay2 acc) (funext fun y => ?_) (funext fun y => ?_)
  · exact congrFun (harg2.read_unread x) _
  · exact congrFun (harg3.read_unread w) _

theorem trips_eq : k0_t1_loop.trips = 32 := by decide
theorem off1 : ∀ k : Fin k0_t1_loop.trips, k0_off1 k = ![k.val * 64, 0] := by decide
theorem off2 : ∀ k : Fin k0_t1_loop.trips, k0_off2 k = ![0, k.val * 64, 0] := by decide

theorem row_lt (k : Fin k0_t1_loop.trips) (i : Fin 64) : k.val * 64 + i.val < 2048 := by
  have h : k.val < 32 := lt_of_lt_of_eq k.isLt trips_eq
  omega

theorem emb1 (k : Fin k0_t1_loop.trips) (i : Fin 64) :
    (Rect.unit (s := S2048x1) (k0_off1 k) S64x1.size (k0_off1_inb k)).emb (ix2 i 0) = ix2 (⟨k.val * 64 + i.val, row_lt k i⟩ : Fin 2048) 0 := by
  funext a; refine Fin.ext ?_
  show k0_off1 k a + 1 * (ix2 i (0 : Fin 1) a).val = _
  rw [off1]
  match a with
  | ⟨0, _⟩ => show k.val * 64 + 1 * i.val = k.val * 64 + i.val; omega
  | ⟨1, _⟩ => rfl

theorem emb2 (k : Fin k0_t1_loop.trips) (i : Fin 64) (j : Fin 1024) :
    (Rect.unit (s := S1x2048x1024) (k0_off2 k) S1x64x1024.size (k0_off2_inb k)).emb (ix3 0 i j) = ix3 0 (⟨k.val * 64 + i.val, row_lt k i⟩ : Fin 2048) j := by
  funext a; refine Fin.ext ?_
  show k0_off2 k a + 1 * (ix3 (0 : Fin 1) i j a).val = _
  rw [off2]
  match a with
  | ⟨0, _⟩ => rfl
  | ⟨1, _⟩ => show k.val * 64 + 1 * i.val = k.val * 64 + i.val; omega
  | ⟨2, _⟩ => show 0 + 1 * j.val = j.val; omega

theorem pay1_at (s : Fin 8) (j : Fin 1024) : k0_pay1 (F := Ideal) (ix2 s j) = (0 : EReal) := by
  pointwise [k0_pay1]

theorem pay2_at (acc : FVec Ideal S8x1024 .f32) (x : Vec Ideal S64x1 .f32) (w : Vec Ideal S1x64x1024 .f32) (s : Fin 8) (j : Fin 1024) :
    k0_pay2 acc x w (ix2 s j) = acc (ix2 s j) + ∑ a : Fin 8, x (ix2 (⟨a.val * 8 + s.val, by omega⟩ : Fin 64) 0)
      * Ideal.logistic (x (ix2 (⟨a.val * 8 + s.val, by omega⟩ : Fin 64) 0)) * w (ix3 0 (⟨a.val * 8 + s.val, by omega⟩ : Fin 64) j) := by
  pointwise [k0_pay2]

theorem pay3_at (acc : FVec Ideal S8x1024 .f32) (b : Vec Ideal S1x1x1024 .f32) (j : Fin 1024) :
    k0_pay3 acc b (ix3 0 0 j) = (∑ s : Fin 8, acc (ix2 s j)) + b (ix3 0 0 j) := by
  pointwise [k0_pay3]

/-! ## The whole loop -/

/-- Before trip `k` the eight parts hold the sums of their terms among the first `64 k`. -/
theorem before_trip (𝒱 : Variants) (c : Dev nD) (bd : Option 𝒱.V) (i : grid0.Coords) (arg2 : Memref sig .tc .vmem S2048x1 .f32) (harg2 : arg2.IsWhole)
    (arg3 : Memref sig .tc .vmem S1x2048x1024 .f32) (harg3 : arg3.IsWhole) (arg4 : Memref sig .tc .vmem S1x1x1024 .f32) (harg4 : arg4.IsWhole)
    (arg5 : Memref sig .tc .vmem S1x1x1024 .f32) (harg5 : arg5.IsWhole) (x : Vec Ideal S2048x1 .f32) (w : Vec Ideal S1x2048x1024 .f32)
    (C : FVec Ideal S1x2048 .f32) (W : FVec Ideal S4x2048x12288 .f32) (l : Fin 4) (n : Fin 12288) (s : Fin 8) (j : Fin 1024)
    (hx : ∀ r : Fin 2048, x (ix2 r 0) = C (ix2 0 r)) (hw : ∀ r : Fin 2048, w (ix3 0 r j) = W (ix3 l r n)) :
    ∀ k : ℕ, k ≤ 32 → st_k0_t1 (F := Ideal) 𝒱 c bd i arg2 harg2 arg3 harg3 arg4 harg4 arg5 harg5 (harg2.unread x) (harg3.unread w) k0_pay1 k (ix2 s j)
      = ∑ q ∈ Finset.range (k * 8), term C W l n (q * 8 + s.val)
  | 0, _ => (congrFun (st_k0_t1_zero ..) _).trans (pay1_at s j)
  | k + 1, hk => by
    have h := before_trip 𝒱 c bd i arg2 harg2 arg3 harg3 arg4 harg4 arg5 harg5 x w C W l n s j hx hw k (by omega)
    have hk' : k < k0_t1_loop.trips := lt_of_lt_of_eq hk trips_eq.symm
    refine (congrFun ((st_k0_t1_succ 𝒱 c bd i arg2 harg2 arg3 harg3 arg4 harg4 arg5 harg5 _ _ _ ⟨k, hk'⟩).trans (trip_eq ..)) _).trans ((pay2_at ..).trans ?_)
    rw [h, Nat.succ_mul, Finset.sum_range_add, Finset.sum_range (n := 8)]
    refine congrArg _ (Finset.sum_congr rfl fun a _ => ?_)
    have hr : (k * 8 + a.val) * 8 + s.val < 2048 := by omega
    have e : (⟨(⟨k, hk'⟩ : Fin k0_t1_loop.trips).val * 64 + (⟨a.val * 8 + s.val, by omega⟩ : Fin 64).val, row_lt _ _⟩ : Fin 2048) = ⟨(k * 8 + a.val) * 8 + s.val, hr⟩ :=
      Fin.ext (show k * 64 + (a.val * 8 + s.val) = (k * 8 + a.val) * 8 + s.val by omega)
    rw [emb1, emb2, hx, hw, e]
    exact (term_of C W l n hr).symm

/-- The eight parts' sums are the whole's. -/
theorem parts_sum (f : ℕ → EReal) : ∀ k : ℕ, ∑ s : Fin 8, ∑ q ∈ Finset.range k, f (q * 8 + s.val) = ∑ r ∈ Finset.range (k * 8), f r
  | 0 => by simp
  | k + 1 => by
    rw [Nat.succ_mul, Finset.sum_range_add, ← parts_sum f k, Finset.sum_range (n := 8), ← Finset.sum_add_distrib]
    exact Finset.sum_congr rfl fun s _ => Finset.sum_range_succ _ _

/-! ## The result -/

variable (m : (ℓ : Loc nD τ sig) → Buf (Elt Ideal) ℓ)

/-- The reference's result, over the kernel's arguments. -/
abbrev Result (c : Dev nD) : FVec Ideal S4x1x12288 .f32 :=
  modulation (m ((c : Thread nD τ).loc main_arg0)) (m ((c : Thread nD τ).loc main_arg1)) (m ((c : Thread nD τ).loc main_arg2))

theorem idx : ∀ t : Fin cfg0.N, win0_0.index t = ![0, 0] ∧ win0_1.index t = ![t.val / 12, 0, t.val % 12] ∧ win0_2.index t = ![t.val / 12, 0, t.val % 12]
    ∧ win0_3.index t = ![t.val / 12, 0, t.val % 12] :=
  (by decide +kernel : ∀ t : Fin grid0.N, _)

theorem pt_lt (t : Fin cfg0.N) : t.val < 48 := lt_of_lt_of_eq t.isLt (by decide)

/-- The layer of a point's block, -/
abbrev layerOf (t : Fin cfg0.N) : Fin 4 := ⟨t.val / 12, by have := pt_lt t; omega⟩
/-- and the column of the arrays that a column of it is. -/
abbrev colOf (t : Fin cfg0.N) (j : Fin 1024) : Fin 12288 := ⟨t.val % 12 * 1024 + j.val, by omega⟩

theorem cond_at (c : Dev nD) (t : Fin cfg0.N) (r : Fin 2048) : iblk m c 0 t (ix2 r 0) = m ((c : Thread nD τ).loc main_arg0) (ix2 0 r) := by
  blk_point [iblk, V, idx t]

theorem weight_at (c : Dev nD) (t : Fin cfg0.N) (r : Fin 2048) (j : Fin 1024) :
    iblk m c 1 t (ix3 0 r j) = m ((c : Thread nD τ).loc main_arg1) (ix3 (layerOf t) r (colOf t j)) := by
  blk_point [iblk, V, idx t]

theorem offset_at (c : Dev nD) (t : Fin cfg0.N) (j : Fin 1024) : iblk m c 2 t (ix3 0 0 j) = m ((c : Thread nD τ).loc main_arg2) (ix2 (layerOf t) (colOf t j)) := by
  blk_point [iblk, V, idx t]

/-- The result array after the run. -/
theorem final (c : Dev nD) : (dats m 0 c).arrAt 3 cfg0.N = Result m c := by
  refine (dats m 0 c).arrAt_eq_of_covers 3 _ (by decide +kernel) fun t _ y => ?_
  blk_simp
  rw [after0_3]
  unfold outsAt0 out0_A_3 kernelRun0_A
  frame_out
  obtain ⟨j, rfl⟩ : ∃ j : Fin 1024, y = ix3 0 0 j := ⟨y 2, by blk_ext⟩
  refine (pay3_at _ _ j).trans ?_
  rw [offset_at]
  refine (congrArg (· + m ((c : Thread nD τ).loc main_arg2) (ix2 (layerOf t) (colOf t j))) (Finset.sum_congr rfl fun s _ =>
    before_trip _ _ _ _ _ _ _ _ _ _ _ _ _ _ _ _ (layerOf t) (colOf t j) s j (cond_at m c t) (fun r => weight_at m c t r j) 32 le_rfl)).trans ?_
  refine (congrArg (· + _) (parts_sum (term _ _ _ _) _)).trans ?_
  refine (modulation_at _ _ _ (layerOf t) (colOf t j)).symm.trans ?_
  show Result m c (ix3 (layerOf t) 0 (colOf t j)) = _
  blk_ext [idx t]

end Cert.Mod

end
-- ==== Proof.Mod.Claims.lean ====
/- The claims about the modulation, one by one. -/
module

public import proofs.«01_k».proof.Defs
public import proofs.«01_k».proof.Proof.Gen.Kernel6.Frame
public import proofs.«01_k».proof.Proof.Gen.Kernel6Ideal.Value
public import proofs.«01_k».proof.Proof.Mod.Value
public import Idealize.ShloMosaic.Lib.Claim

@[expose] public section

noncomputable section

namespace Cert.Mod

open Idealize.ShloMosaic Idealize.ShloMosaic.TcCoe Idealize.SL.Sem

theorem quiet_kernel : @Cert.quiescent_Kernel6 Cert.Kernel6.Gen.facts := fun m g _ => Cert.Kernel6.Gen.frame m g

theorem quiet_ideal : @Cert.quiescent_Kernel6Ideal Cert.Kernel6Ideal.Gen.facts := fun m g _ => Cert.Kernel6Ideal.Gen.frame m g

theorem quiet_reference : @Cert.quiescent_Reference6Ideal Cert.Reference6Ideal.Gen.facts := by
  intro m g _
  exact (θ_run _ _ _).mono (fun r h => ⟨fun c => (h c).2, sem_eq_zero_of_no_sems (by decide) r.2⟩) (Cert.Reference6Ideal.Value.run m g)

theorem preserved : Cert.preserves_Kernel6_Kernel6Ideal := trivial

theorem same_result : @Cert.algebraic_Kernel6Ideal_Reference6Ideal Cert.Kernel6Ideal.Gen.facts Cert.Reference6Ideal.Gen.facts := by
  intro m g m' g' _ hagree
  refine ⟨fun c => Result m c, ?_, ?_⟩
  · exact (θ_run _ _ _).mono (fun r h c => ⟨(h c).1.trans (final m c), (h c).2⟩) (Cert.Kernel6Ideal.Value.run_blocks m g)
  · refine (θ_run _ _ _).mono (fun r h c => ⟨(h c).1.trans ?_, (h c).2⟩) (Cert.Reference6Ideal.Value.run m' g')
    obtain ⟨h0, h1, h2⟩ := hagree c
    rw [h0, h1, h2]
    rfl

end Cert.Mod

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Launch
public import proofs.«01_k».proof.Proof.Gen.Kernel5Ideal.Skeleton
public import proofs.«01_k».proof.Proof.Gen.Kernel5Ideal.Launch
public import proofs.«01_k».proof.Proof.Gen.Reference5Ideal.Run
public import proofs.«01_k».proof.Proof.Gen.Pre_some_rows
public import proofs.«01_k».proof.Proof.Gen.Kernel6.Launch
public import proofs.«01_k».proof.Proof.Gen.Kernel6.Frame
public import proofs.«01_k».proof.Proof.Gen.Kernel6Ideal.Skeleton
public import proofs.«01_k».proof.Proof.Gen.Kernel6Ideal.Launch
public import proofs.«01_k».proof.Proof.Gen.Kernel6Ideal.Frame
public import proofs.«01_k».proof.Proof.Gen.Kernel6Ideal.Value
public import proofs.«01_k».proof.Proof.Gen.Reference6Ideal.Run
public import proofs.«01_k».proof.Proof.SB.Claims
public import proofs.«01_k».proof.Proof.Out.Claims
public import proofs.«01_k».proof.Proof.InAB.Claims
public import proofs.«01_k».proof.Proof.InCD.Claims
public import proofs.«01_k».proof.Proof.Exp.Claims
public import proofs.«01_k».proof.Proof.Mod.Claims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Stick.pre_facts, Cert.Pre_some_rows.Gen.facts,
    Cert.Stick.quiet_kernel, Cert.Stick.quiet_ideal, Cert.Stick.quiet_ideal_pre, Cert.Stick.quiet_reference, Cert.Stick.quiet_reference_pre,
    Cert.Out.quiet_kernel, Cert.Out.quiet_ideal, Cert.Out.quiet_reference,
    Cert.InAB.quiet_kernel, Cert.InAB.quiet_ideal, Cert.InAB.quiet_reference,
    Cert.InCD.quiet_kernel, Cert.InCD.quiet_ideal, Cert.InCD.quiet_reference,
    Cert.Exp.quiet_kernel, Cert.Exp.quiet_ideal, Cert.Exp.quiet_reference, Cert.Exp.quiet_reference_pre,
    Cert.Mod.quiet_kernel, Cert.Mod.quiet_ideal, Cert.Mod.quiet_reference,
    Cert.Stick.preserved, Cert.Stick.same_result, Cert.Out.preserved, Cert.Out.same_result,
    Cert.InAB.preserved, Cert.InAB.same_result, Cert.InCD.preserved, Cert.InCD.same_result,
    Cert.Exp.preserved, Cert.Exp.same_result, Cert.Mod.preserved, Cert.Mod.same_result⟩

end Cert.Proof

end
